-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "neg_scale" .f32 0x330637BD#32 ((1 / 32000000 : ℝ) : EReal)

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v784) = v0 c
          ∧ r.2.mem ((c.tc : Thread Cert.ReferenceIdeal.nD Cert.ReferenceIdeal.τ).loc Cert.ReferenceIdeal.main_v737) = v1 c
          ∧ r.2.mem ((c.tc : Thread Cert.ReferenceIdeal.nD Cert.ReferenceIdeal.τ).loc Cert.ReferenceIdeal.main_v740) = v2 c
          ∧ r.2.mem ((c.tc : Thread Cert.ReferenceIdeal.nD Cert.ReferenceIdeal.τ).loc Cert.ReferenceIdeal.main_v782) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S64x27x80x80 : Shape := ⟨4, ![64, 27, 80, 80]⟩
abbrev S64x27x40x40 : Shape := ⟨4, ![64, 27, 40, 40]⟩
abbrev S64x27x20x20 : Shape := ⟨4, ![64, 27, 20, 20]⟩
abbrev S64x50x5 : Shape := ⟨3, ![64, 50, 5]⟩
abbrev S9x2 : Shape := ⟨2, ![9, 2]⟩
abbrev S64x500 : Shape := ⟨2, ![64, 500]⟩
abbrev S_ : Shape := ⟨0, ![]⟩

class Facts : Prop where
  bcast_S_S64x27x80x80 : S_.BroadcastsInDim S64x27x80x80 (![] : Fin 0 → Fin S64x27x80x80.rank)
  reducesTo_S64x27x80x80_S_d0_1_2_3 : S64x27x80x80.ReducesTo [0, 1, 2, 3] S_
  h_S_ : 0 < S_.numel
  bcast_S_S64x27x40x40 : S_.BroadcastsInDim S64x27x40x40 (![] : Fin 0 → Fin S64x27x40x40.rank)
  reducesTo_S64x27x40x40_S_d0_1_2_3 : S64x27x40x40.ReducesTo [0, 1, 2, 3] S_
  bcast_S_S64x27x20x20 : S_.BroadcastsInDim S64x27x20x20 (![] : Fin 0 → Fin S64x27x20x20.rank)
  reducesTo_S64x27x20x20_S_d0_1_2_3 : S64x27x20x20.ReducesTo [0, 1, 2, 3] S_
  bcast_S_S64x500 : S_.BroadcastsInDim S64x500 (![] : Fin 0 → Fin S64x500.rank)
  reducesTo_S64x500_S_d0_1 : S64x500.ReducesTo [0, 1] S_

variable [Facts]

def fn_part2 {F : FTy → Type} [FloatOps F] (main_v13 : IVec S_ 1) (main_v26 : IVec S_ 1) (main_v32 : IVec S_ 1) : IVec S_ 1 :=
  let main_v33 : IVec S_ 1 := andi main_v26 main_v32
  let main_v34 : IVec S_ 1 := andi main_v13 main_v33
  main_v34

def fn_part1 {F : FTy → Type} [FloatOps F] (main_arg5 : IVec S64x500 32) (main_arg6 : IVec S64x500 32) (main_arg7 : IVec S64x500 32) (main_v13 : IVec S_ 1) (main_v15 : IVec S64x500 1) (main_c_5 : IVec S_ 32) : IVec S_ 1 :=
  let main_v16 : IVec S64x500 32 := broadcastInDim S64x500 ![] bcast_S_S64x500 main_c_5
  let main_v17 : IVec S64x500 1 := cmpi .slt main_arg5 main_v16
  let main_v18 : IVec S64x500 1 := andi main_v15 main_v17
  let main_c_6 : IVec S_ 1 := constantI S_ 1 1#1
  let main_v19 : IVec S_ 1 := (fun x v => Host.reduce IntOp.andi x v reducesTo_S64x500_S_d0_1 h_S_) main_v18 main_c_6
  let main_c_7 : IVec S_ 32 := constantI S_ 32 0#32
  let main_v20 : IVec S64x500 32 := broadcastInDim S64x500 ![] bcast_S_S64x500 main_c_7
  let main_v21 : IVec S64x500 1 := cmpi .sge main_arg6 main_v20
  let main_c_8 : IVec S_ 32 := constantI S_ 32 4800#32
  let main_v22 : IVec S64x500 32 := broadcastInDim S64x500 ![] bcast_S_S64x500 main_c_8
  let main_v23 : IVec S64x500 1 := cmpi .slt main_arg6 main_v22
  let main_v24 : IVec S64x500 1 := andi main_v21 main_v23
  let main_c_9 : IVec S_ 1 := constantI S_ 1 1#1
  let main_v25 : IVec S_ 1 := (fun x v => Host.reduce IntOp.andi x v reducesTo_S64x500_S_d0_1 h_S_) main_v24 main_c_9
  let main_v26 : IVec S_ 1 := andi main_v19 main_v25
  let main_c_10 : IVec S_ 32 := constantI S_ 32 0#32
  let main_v27 : IVec S64x500 32 := broadcastInDim S64x500 ![] bcast_S_S64x500 main_c_10
  let main_v28 : IVec S64x500 1 := cmpi .sge main_arg7 main_v27
  let main_c_11 : IVec S_ 32 := constantI S_ 32 1200#32
  let main_v29 : IVec S64x500 32 := broadcastInDim S64x500 ![] bcast_S_S64x500 main_c_11
  let main_v30 : IVec S64x500 1 := cmpi .slt main_arg7 main_v29
  let main_v31 : IVec S64x500 1 := andi main_v28 main_v30
  let main_c_12 : IVec S_ 1 := constantI S_ 1 1#1
  let main_v32 : IVec S_ 1 := (fun x v => Host.reduce IntOp.andi x v reducesTo_S64x500_S_d0_1 h_S_) main_v31 main_c_12
  fn_part2 (F := F) main_v13 main_v26 main_v32

def fn {F : FTy → Type} [FloatOps F] (main_arg0 : FVec F S64x27x80x80 .f32) (main_arg1 : FVec F S64x27x40x40 .f32) (main_arg2 : FVec F S64x27x20x20 .f32) (main_arg3 : FVec F S64x50x5 .f32) (main_arg4 : FVec F S9x2 .f32) (main_arg5 : IVec S64x500 32) (main_arg6 : IVec S64x500 32) (main_arg7 : IVec S64x500 32) : IVec S_ 1 :=
  let main_v0 : FVec F S64x27x80x80 .f32 := Host.absf main_arg0
  let main_cst : FVec F S_ .f32 := constant S_ .f32 0x7F800000#32
  let main_v1 : FVec F S64x27x80x80 .f32 := broadcastInDim S64x27x80x80 ![] bcast_S_S64x27x80x80 main_cst
  let main_v2 : IVec S64x27x80x80 1 := cmpf .olt main_v0 main_v1
  let main_c : IVec S_ 1 := constantI S_ 1 1#1
  let main_v3 : IVec S_ 1 := (fun x v => Host.reduce IntOp.andi x v reducesTo_S64x27x80x80_S_d0_1_2_3 h_S_) main_v2 main_c
  let main_v4 : FVec F S64x27x40x40 .f32 := Host.absf main_arg1
  let main_cst_0 : FVec F S_ .f32 := constant S_ .f32 0x7F800000#32
  let main_v5 : FVec F S64x27x40x40 .f32 := broadcastInDim S64x27x40x40 ![] bcast_S_S64x27x40x40 main_cst_0
  let main_v6 : IVec S64x27x40x40 1 := cmpf .olt main_v4 main_v5
  let main_c_1 : IVec S_ 1 := constantI S_ 1 1#1
  let main_v7 : IVec S_ 1 := (fun x v => Host.reduce IntOp.andi x v reducesTo_S64x27x40x40_S_d0_1_2_3 h_S_) main_v6 main_c_1
  let main_v8 : IVec S_ 1 := andi main_v3 main_v7
  let main_v9 : FVec F S64x27x20x20 .f32 := Host.absf main_arg2
  let main_cst_2 : FVec F S_ .f32 := constant S_ .f32 0x7F800000#32
  let main_v10 : FVec F S64x27x20x20 .f32 := broadcastInDim S64x27x20x20 ![] bcast_S_S64x27x20x20 main_cst_2
  let main_v11 : IVec S64x27x20x20 1 := cmpf .olt main_v9 main_v10
  let main_c_3 : IVec S_ 1 := constantI S_ 1 1#1
  let main_v12 : IVec S_ 1 := (fun x v => Host.reduce IntOp.andi x v reducesTo_S64x27x20x20_S_d0_1_2_3 h_S_) main_v11 main_c_3
  let main_v13 : IVec S_ 1 := andi main_v8 main_v12
  let main_c_4 : IVec S_ 32 := constantI S_ 32 0#32
  let main_v14 : IVec S64x500 32 := broadcastInDim S64x500 ![] bcast_S_S64x500 main_c_4
  let main_v15 : IVec S64x500 1 := cmpi .sge main_arg5 main_v14
  let main_c_5 : IVec S_ 32 := constantI S_ 32 19200#32
  fn_part1 (F := F) main_arg5 main_arg6 main_arg7 main_v13 main_v15 main_c_5
-- ==== Kernel.lean ====
abbrev S64x27x80x80 : Shape := ⟨4, ![64, 27, 80, 80]⟩
abbrev S64x27x40x40 : Shape := ⟨4, ![64, 27, 40, 40]⟩
abbrev S64x27x20x20 : Shape := ⟨4, ![64, 27, 20, 20]⟩
abbrev S64x50x5 : Shape := ⟨3, ![64, 50, 5]⟩
abbrev S9x2 : Shape := ⟨2, ![9, 2]⟩
abbrev S64x500 : Shape := ⟨2, ![64, 500]⟩
abbrev S64x1x500 : Shape := ⟨3, ![64, 1, 500]⟩
abbrev S64x3x500 : Shape := ⟨3, ![64, 3, 500]⟩
abbrev S64x27x1600 : Shape := ⟨3, ![64, 27, 1600]⟩
abbrev S64x27x400 : Shape := ⟨3, ![64, 27, 400]⟩
abbrev S1x128 : Shape := ⟨2, ![1, 128]⟩
abbrev S1x1 : Shape := ⟨2, ![1, 1]⟩
abbrev S_ : Shape := ⟨0, ![]⟩
abbrev S1x50x5 : Shape := ⟨3, ![1, 50, 5]⟩
abbrev S1x27x80x80 : Shape := ⟨4, ![1, 27, 80, 80]⟩
abbrev S1x27x1600 : Shape := ⟨3, ![1, 27, 1600]⟩
abbrev S1x27x400 : Shape := ⟨3, ![1, 27, 400]⟩
abbrev S1x3x500 : Shape := ⟨3, ![1, 3, 500]⟩
abbrev S50x5 : Shape := ⟨2, ![50, 5]⟩
abbrev S5x50 : Shape := ⟨2, ![5, 50]⟩
abbrev S1x50 : Shape := ⟨2, ![1, 50]⟩
abbrev S1x1x50 : Shape := ⟨3, ![1, 1, 50]⟩
abbrev S1 : Shape := ⟨1, ![1]⟩
abbrev S1x1x1 : Shape := ⟨3, ![1, 1, 1]⟩
abbrev S3x500 : Shape := ⟨2, ![3, 500]⟩
abbrev S1x500 : Shape := ⟨2, ![1, 500]⟩
abbrev S27x80x80 : Shape := ⟨3, ![27, 80, 80]⟩
abbrev S54x80x80 : Shape := ⟨3, ![54, 80, 80]⟩
abbrev S4320x80 : Shape := ⟨2, ![4320, 80]⟩
abbrev S80x50 : Shape := ⟨2, ![80, 50]⟩
abbrev S4320x50 : Shape := ⟨2, ![4320, 50]⟩
abbrev S2160x50 : Shape := ⟨2, ![2160, 50]⟩
abbrev S720x50 : Shape := ⟨2, ![720, 50]⟩
abbrev S9x80x50 : Shape := ⟨3, ![9, 80, 50]⟩
abbrev S1x80x50 : Shape := ⟨3, ![1, 80, 50]⟩
abbrev S9x50 : Shape := ⟨2, ![9, 50]⟩
abbrev S4x50 : Shape := ⟨2, ![4, 50]⟩
abbrev S50 : Shape := ⟨1, ![50]⟩
abbrev S1x80x80 : Shape := ⟨3, ![1, 80, 80]⟩
abbrev S80x80 : Shape := ⟨2, ![80, 80]⟩
abbrev S240x80 : Shape := ⟨2, ![240, 80]⟩
abbrev S240x500 : Shape := ⟨2, ![240, 500]⟩
abbrev S128x500 : Shape := ⟨2, ![128, 500]⟩
abbrev S240x128 : Shape := ⟨2, ![240, 128]⟩
abbrev S1x240x80 : Shape := ⟨3, ![1, 240, 80]⟩
abbrev S27x1600 : Shape := ⟨2, ![27, 1600]⟩
abbrev S54x1600 : Shape := ⟨2, ![54, 1600]⟩
abbrev S1600x50 : Shape := ⟨2, ![1600, 50]⟩
abbrev S54x50 : Shape := ⟨2, ![54, 50]⟩
abbrev S27x50 : Shape := ⟨2, ![27, 50]⟩
abbrev S1x1600 : Shape := ⟨2, ![1, 1600]⟩
abbrev S3x1600 : Shape := ⟨2, ![3, 1600]⟩
abbrev S3x64 : Shape := ⟨2, ![3, 64]⟩
abbrev S3x1664 : Shape := ⟨2, ![3, 1664]⟩
abbrev S39x128 : Shape := ⟨2, ![39, 128]⟩
abbrev S39x500 : Shape := ⟨2, ![39, 500]⟩
abbrev S1x39x128 : Shape := ⟨3, ![1, 39, 128]⟩
abbrev S27x400 : Shape := ⟨2, ![27, 400]⟩
abbrev S54x400 : Shape := ⟨2, ![54, 400]⟩
abbrev S400x50 : Shape := ⟨2, ![400, 50]⟩
abbrev S1x400 : Shape := ⟨2, ![1, 400]⟩
abbrev S3x400 : Shape := ⟨2, ![3, 400]⟩
abbrev S3x112 : Shape := ⟨2, ![3, 112]⟩
abbrev S3x512 : Shape := ⟨2, ![3, 512]⟩
abbrev S12x128 : Shape := ⟨2, ![12, 128]⟩
abbrev S12x500 : Shape := ⟨2, ![12, 500]⟩
abbrev S1x12x128 : Shape := ⟨3, ![1, 12, 128]⟩
abbrev S1x1x128 : Shape := ⟨3, ![1, 1, 128]⟩

abbrev nBuf : Space → Nat
  | .hbm => 23
  | .vmem => 12
  | .smem => 1
  | _ => 0

abbrev bufTy : (tb : Table) → Fin (tcTables nBuf tb) → BufTy
  | .hbm, ⟨0, _⟩ => ⟨S64x27x80x80, .f32⟩
  | .hbm, ⟨1, _⟩ => ⟨S64x27x40x40, .f32⟩
  | .hbm, ⟨2, _⟩ => ⟨S64x27x20x20, .f32⟩
  | .hbm, ⟨3, _⟩ => ⟨S64x50x5, .f32⟩
  | .hbm, ⟨4, _⟩ => ⟨S9x2, .f32⟩
  | .hbm, ⟨5, _⟩ => ⟨S64x500, .i32⟩
  | .hbm, ⟨6, _⟩ => ⟨S64x500, .i32⟩
  | .hbm, ⟨7, _⟩ => ⟨S64x500, .i32⟩
  | .hbm, ⟨8, _⟩ => ⟨S64x1x500, .i32⟩
  | .hbm, ⟨9, _⟩ => ⟨S64x1x500, .i32⟩
  | .hbm, ⟨10, _⟩ => ⟨S64x1x500, .i32⟩
  | .hbm, ⟨11, _⟩ => ⟨S64x3x500, .i32⟩
  | .hbm, ⟨12, _⟩ => ⟨S64x27x1600, .f32⟩
  | .hbm, ⟨13, _⟩ => ⟨S64x27x400, .f32⟩
  | .hbm, ⟨14, _⟩ => ⟨S1x128, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S1x1, .f32⟩
  | .hbm, ⟨22, _⟩ => ⟨S_, .f32⟩
  | .local _ .vmem, ⟨0, _⟩ => ⟨S1x50x5, .f32⟩
  | .local _ .vmem, ⟨1, _⟩ => ⟨S1x50x5, .f32⟩
  | .local _ .vmem, ⟨2, _⟩ => ⟨S1x27x80x80, .f32⟩
  | .local _ .vmem, ⟨3, _⟩ => ⟨S1x27x80x80, .f32⟩
  | .local _ .vmem, ⟨4, _⟩ => ⟨S1x27x1600, .f32⟩
  | .local _ .vmem, ⟨5, _⟩ => ⟨S1x27x1600, .f32⟩
  | .local _ .vmem, ⟨6, _⟩ => ⟨S1x27x400, .f32⟩
  | .local _ .vmem, ⟨7, _⟩ => ⟨S1x27x400, .f32⟩
  | .local _ .vmem, ⟨8, _⟩ => ⟨S1x3x500, .i32⟩
  | .local _ .vmem, ⟨9, _⟩ => ⟨S1x3x500, .i32⟩
  | .local _ .vmem, ⟨10, _⟩ => ⟨S1x128, .f32⟩
  | .local _ .vmem, ⟨11, _⟩ => ⟨S1x128, .f32⟩
  | .local _ .smem, ⟨0, _⟩ => ⟨S9x2, .f32⟩
  | _, _ => ⟨S64x27x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_v0_0 : Ref sig .tc := ⟨.hbm, 16, rfl⟩
abbrev main_call0_v9 : Ref sig .tc := ⟨.hbm, 17, rfl⟩
abbrev main_v0_1 : Ref sig .tc := ⟨.hbm, 18, rfl⟩
abbrev main_call0_v11 : Ref sig .tc := ⟨.hbm, 19, rfl⟩
abbrev main_v0_2 : Ref sig .tc := ⟨.hbm, 20, rfl⟩
abbrev main_call0_v13 : Ref sig .tc := ⟨.hbm, 21, rfl⟩
abbrev main_v0_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32 : BitVec 32 := 63#32
  let v1143 : BitVec 1 := Scalar.cmpi .eq arg0 c63_i32
  let v1144 : BitVec 32 := Scalar.extui v1143
  let c0_i32_260 : BitVec 32 := 0#32
  let v1145 : BitVec 1 := Scalar.cmpi .ne v1144 c0_i32_260
  v1145

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x50x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S9x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x27x80x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x27x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x27x400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x500 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "neg_scale" => some ((1 / 32000000 : ℝ) : EReal)
  | _ => none
-- ==== ReferenceIdeal.lean ====
abbrev S64x27x80x80 : Shape := ⟨4, ![64, 27, 80, 80]⟩
abbrev S64x27x40x40 : Shape := ⟨4, ![64, 27, 40, 40]⟩
abbrev S64x27x20x20 : Shape := ⟨4, ![64, 27, 20, 20]⟩
abbrev S64x50x5 : Shape := ⟨3, ![64, 50, 5]⟩
abbrev S9x2 : Shape := ⟨2, ![9, 2]⟩
abbrev S64x500 : Shape := ⟨2, ![64, 500]⟩
abbrev S3x2 : Shape := ⟨2, ![3, 2]⟩
abbrev S64x3x9x80x80 : Shape := ⟨5, ![64, 3, 9, 80, 80]⟩
abbrev S64x3x80x80x9 : Shape := ⟨5, ![64, 3, 80, 80, 9]⟩
abbrev S64x50x1 : Shape := ⟨3, ![64, 50, 1]⟩
abbrev S64x50 : Shape := ⟨2, ![64, 50]⟩
abbrev S_ : Shape := ⟨0, ![]⟩
abbrev S3x1 : Shape := ⟨2, ![3, 1]⟩
abbrev S3 : Shape := ⟨1, ![3]⟩
abbrev S1x1x3 : Shape := ⟨3, ![1, 1, 3]⟩
abbrev S64x50x3 : Shape := ⟨3, ![64, 50, 3]⟩
abbrev S64 : Shape := ⟨1, ![64]⟩
abbrev S64x1 : Shape := ⟨2, ![64, 1]⟩
abbrev S64x50x4 : Shape := ⟨3, ![64, 50, 4]⟩
abbrev S64x50x9 : Shape := ⟨3, ![64, 50, 9]⟩
abbrev S1x1x4 : Shape := ⟨3, ![1, 1, 4]⟩
abbrev S64x3x9x40x40 : Shape := ⟨5, ![64, 3, 9, 40, 40]⟩
abbrev S64x3x40x40x9 : Shape := ⟨5, ![64, 3, 40, 40, 9]⟩
abbrev S64x3x9x20x20 : Shape := ⟨5, ![64, 3, 9, 20, 20]⟩
abbrev S64x3x20x20x9 : Shape := ⟨5, ![64, 3, 20, 20, 9]⟩
abbrev S64x3x1x80x80 : Shape := ⟨5, ![64, 3, 1, 80, 80]⟩
abbrev S64x3x80x80 : Shape := ⟨4, ![64, 3, 80, 80]⟩
abbrev S64x19200 : Shape := ⟨2, ![64, 19200]⟩
abbrev S64x500x1 : Shape := ⟨3, ![64, 500, 1]⟩
abbrev S1 : Shape := ⟨1, ![1]⟩
abbrev S1x1x1 : Shape := ⟨3, ![1, 1, 1]⟩
abbrev S64x3x1x40x40 : Shape := ⟨5, ![64, 3, 1, 40, 40]⟩
abbrev S64x3x40x40 : Shape := ⟨4, ![64, 3, 40, 40]⟩
abbrev S64x4800 : Shape := ⟨2, ![64, 4800]⟩
abbrev S64x3x1x20x20 : Shape := ⟨5, ![64, 3, 1, 20, 20]⟩
abbrev S64x3x20x20 : Shape := ⟨4, ![64, 3, 20, 20]⟩
abbrev S64x1200 : Shape := ⟨2, ![64, 1200]⟩

abbrev nBuf : Space → Nat
  | .hbm => 1258
  | .vmem => 0
  | .smem => 0
  | _ => 0

abbrev hbmTy0_0 (i : Nat) : BufTy := match i % 128 with
  | 0 => ⟨S64x27x80x80, .f32⟩
  | 1 => ⟨S64x27x40x40, .f32⟩
  | 2 => ⟨S64x27x20x20, .f32⟩
  | 3 => ⟨S64x50x5, .f32⟩
  | 4 => ⟨S9x2, .f32⟩
  | 5 => ⟨S64x500, .i32⟩
  | 6 => ⟨S64x500, .i32⟩
  | 7 => ⟨S64x500, .i32⟩
  | 8 => ⟨S3x2, .f32⟩
  | 9 => ⟨S64x3x9x80x80, .f32⟩
  | 10 => ⟨S64x3x80x80x9, .f32⟩
  | 11 => ⟨S64x50x1, .f32⟩
  | 12 => ⟨S64x50, .f32⟩
  | 13 => ⟨S64x50, .i32⟩
  | 14 => ⟨S64x50x1, .f32⟩
  | 15 => ⟨S64x50, .f32⟩
  | 16 => ⟨S64x50x1, .f32⟩
  | 17 => ⟨S64x50, .f32⟩
  | 18 => ⟨S64x50x1, .f32⟩
  | 19 => ⟨S64x50, .f32⟩
  | 20 => ⟨S64x50x1, .f32⟩
  | 21 => ⟨S64x50, .f32⟩
  | 22 => ⟨S_, .f32⟩
  | 23 => ⟨S64x50, .f32⟩
  | 24 => ⟨S64x50, .i1⟩
  | 25 => ⟨S_, .f32⟩
  | 26 => ⟨S64x50, .f32⟩
  | 27 => ⟨S64x50, .i1⟩
  | 28 => ⟨S64x50, .i1⟩
  | 29 => ⟨S_, .f32⟩
  | 30 => ⟨S64x50, .f32⟩
  | 31 => ⟨S64x50, .i1⟩
  | 32 => ⟨S64x50, .i1⟩
  | 33 => ⟨S_, .f32⟩
  | 34 => ⟨S64x50, .f32⟩
  | 35 => ⟨S64x50, .i1⟩
  | 36 => ⟨S64x50, .i1⟩
  | 37 => ⟨S_, .f32⟩
  | 38 => ⟨S64x50, .f32⟩
  | 39 => ⟨S64x50, .i1⟩
  | 40 => ⟨S64x50, .i1⟩
  | 41 => ⟨S_, .f32⟩
  | 42 => ⟨S64x50, .f32⟩
  | 43 => ⟨S64x50, .i1⟩
  | 44 => ⟨S64x50, .i1⟩
  | 45 => ⟨S_, .f32⟩
  | 46 => ⟨S64x50, .f32⟩
  | 47 => ⟨S64x50, .i1⟩
  | 48 => ⟨S64x50, .i1⟩
  | 49 => ⟨S_, .f32⟩
  | 50 => ⟨S64x50, .f32⟩
  | 51 => ⟨S64x50, .i1⟩
  | 52 => ⟨S64x50, .i1⟩
  | 53 => ⟨S3x1, .f32⟩
  | 54 => ⟨S3, .f32⟩
  | 55 => ⟨S_, .f32⟩
  | 56 => ⟨S3, .f32⟩
  | 57 => ⟨S3, .f32⟩
  | 58 => ⟨S3x1, .f32⟩
  | 59 => ⟨S3, .f32⟩
  | 60 => ⟨S_, .f32⟩
  | 61 => ⟨S3, .f32⟩
  | 62 => ⟨S3, .f32⟩
  | 63 => ⟨S64x50x1, .f32⟩
  | 64 => ⟨S1x1x3, .f32⟩
  | 65 => ⟨S64x50x3, .f32⟩
  | 66 => ⟨S64x50x3, .f32⟩
  | 67 => ⟨S64x50x3, .f32⟩
  | 68 => ⟨S64x50x1, .f32⟩
  | 69 => ⟨S1x1x3, .f32⟩
  | 70 => ⟨S64x50x3, .f32⟩
  | 71 => ⟨S64x50x3, .f32⟩
  | 72 => ⟨S64x50x3, .f32⟩
  | 73 => ⟨S64x50x3, .f32⟩
  | 74 => ⟨S64x50x1, .f32⟩
  | 75 => ⟨S64x50x1, .f32⟩
  | 76 => ⟨S64x50x1, .f32⟩
  | 77 => ⟨S3, .f32⟩
  | 78 => ⟨S1x1x3, .f32⟩
  | 79 => ⟨S64x50x3, .f32⟩
  | 80 => ⟨S64x50x3, .f32⟩
  | 81 => ⟨S64x50x3, .f32⟩
  | 82 => ⟨S64x50x3, .f32⟩
  | 83 => ⟨S_, .f32⟩
  | 84 => ⟨S64x50x3, .f32⟩
  | 85 => ⟨S64x50x3, .f32⟩
  | 86 => ⟨S64x50x3, .f32⟩
  | 87 => ⟨S_, .f32⟩
  | 88 => ⟨S64x50, .f32⟩
  | 89 => ⟨S64x50x1, .f32⟩
  | 90 => ⟨S64x50x3, .f32⟩
  | 91 => ⟨S64x50x3, .i1⟩
  | 92 => ⟨S3, .i32⟩
  | 93 => ⟨S_, .i32⟩
  | 94 => ⟨S_, .i32⟩
  | 95 => ⟨S64x50x3, .i32⟩
  | 96 => ⟨S64x50x3, .i32⟩
  | 97 => ⟨S64x50x3, .i32⟩
  | 98 => ⟨S_, .i32⟩
  | 99 => ⟨S64x50, .i32⟩
  | 100 => ⟨S_, .f32⟩
  | 101 => ⟨S64x50, .f32⟩
  | 102 => ⟨S64x50, .f32⟩
  | 103 => ⟨S64x50, .f32⟩
  | 104 => ⟨S64x50, .i32⟩
  | 105 => ⟨S_, .i32⟩
  | 106 => ⟨S_, .i32⟩
  | 107 => ⟨S_, .i32⟩
  | 108 => ⟨S64x50, .i32⟩
  | 109 => ⟨S64x50, .i32⟩
  | 110 => ⟨S_, .i32⟩
  | 111 => ⟨S64x50, .i32⟩
  | 112 => ⟨S64x50, .i32⟩
  | 113 => ⟨S_, .f32⟩
  | 114 => ⟨S64x50, .f32⟩
  | 115 => ⟨S64x50, .f32⟩
  | 116 => ⟨S64x50, .f32⟩
  | 117 => ⟨S64x50, .i32⟩
  | 118 => ⟨S_, .i32⟩
  | 119 => ⟨S_, .i32⟩
  | 120 => ⟨S_, .i32⟩
  | 121 => ⟨S64x50, .i32⟩
  | 122 => ⟨S64x50, .i32⟩
  | 123 => ⟨S_, .i32⟩
  | 124 => ⟨S64x50, .i32⟩
  | 125 => ⟨S64x50, .i32⟩
  | 126 => ⟨S64, .i32⟩
  | 127 => ⟨S64x1, .i32⟩
  | _ => ⟨S64x27x80x80, .f32⟩

abbrev hbmTy0_1 (i : Nat) : BufTy := match i % 128 with
  | 0 => ⟨S_, .i32⟩
  | 1 => ⟨S64x1, .i32⟩
  | 2 => ⟨S64x1, .i1⟩
  | 3 => ⟨S_, .i32⟩
  | 4 => ⟨S64x1, .i32⟩
  | 5 => ⟨S64x1, .i32⟩
  | 6 => ⟨S64x1, .i32⟩
  | 7 => ⟨S_, .i32⟩
  | 8 => ⟨S64x50, .i32⟩
  | 9 => ⟨S64x50, .i1⟩
  | 10 => ⟨S_, .i32⟩
  | 11 => ⟨S64x50, .i32⟩
  | 12 => ⟨S64x50, .i32⟩
  | 13 => ⟨S64x50, .i32⟩
  | 14 => ⟨S_, .i32⟩
  | 15 => ⟨S64x50, .i32⟩
  | 16 => ⟨S64x50, .i1⟩
  | 17 => ⟨S_, .i32⟩
  | 18 => ⟨S64x50, .i32⟩
  | 19 => ⟨S64x50, .i32⟩
  | 20 => ⟨S64x50, .i32⟩
  | 21 => ⟨S_, .i32⟩
  | 22 => ⟨S64x50, .i32⟩
  | 23 => ⟨S64x50, .i1⟩
  | 24 => ⟨S_, .i32⟩
  | 25 => ⟨S64x50, .i32⟩
  | 26 => ⟨S64x50, .i32⟩
  | 27 => ⟨S64x50, .i32⟩
  | 28 => ⟨S64x50, .i32⟩
  | 29 => ⟨S64x50x1, .i32⟩
  | 30 => ⟨S64x50x1, .i32⟩
  | 31 => ⟨S64x50x1, .i32⟩
  | 32 => ⟨S64x50x1, .i32⟩
  | 33 => ⟨S64x50x4, .i32⟩
  | 34 => ⟨S64x50x9, .f32⟩
  | 35 => ⟨S64x50x1, .f32⟩
  | 36 => ⟨S64x50, .f32⟩
  | 37 => ⟨S64x50, .f32⟩
  | 38 => ⟨S64x50, .f32⟩
  | 39 => ⟨S_, .f32⟩
  | 40 => ⟨S64x50, .f32⟩
  | 41 => ⟨S64x50, .f32⟩
  | 42 => ⟨S_, .f32⟩
  | 43 => ⟨S64x50, .f32⟩
  | 44 => ⟨S64x50, .f32⟩
  | 45 => ⟨S64x50, .f32⟩
  | 46 => ⟨S_, .f32⟩
  | 47 => ⟨S64x50, .f32⟩
  | 48 => ⟨S64x50, .f32⟩
  | 49 => ⟨S64x50, .f32⟩
  | 50 => ⟨S64x50x1, .f32⟩
  | 51 => ⟨S64x50, .f32⟩
  | 52 => ⟨S64x50, .f32⟩
  | 53 => ⟨S64x50, .f32⟩
  | 54 => ⟨S_, .f32⟩
  | 55 => ⟨S64x50, .f32⟩
  | 56 => ⟨S64x50, .f32⟩
  | 57 => ⟨S_, .f32⟩
  | 58 => ⟨S64x50, .f32⟩
  | 59 => ⟨S64x50, .f32⟩
  | 60 => ⟨S64x50, .f32⟩
  | 61 => ⟨S_, .f32⟩
  | 62 => ⟨S64x50, .f32⟩
  | 63 => ⟨S64x50, .f32⟩
  | 64 => ⟨S64x50, .f32⟩
  | 65 => ⟨S64x50x1, .f32⟩
  | 66 => ⟨S64x50, .f32⟩
  | 67 => ⟨S64x50, .f32⟩
  | 68 => ⟨S_, .i32⟩
  | 69 => ⟨S64x50, .i32⟩
  | 70 => ⟨S64x50, .i1⟩
  | 71 => ⟨S_, .i32⟩
  | 72 => ⟨S64x50, .i32⟩
  | 73 => ⟨S64x50, .i32⟩
  | 74 => ⟨S64x50, .i32⟩
  | 75 => ⟨S64x50x1, .i32⟩
  | 76 => ⟨S64x50, .f32⟩
  | 77 => ⟨S64x50, .f32⟩
  | 78 => ⟨S64x50x1, .f32⟩
  | 79 => ⟨S64x50, .f32⟩
  | 80 => ⟨S64x50, .f32⟩
  | 81 => ⟨S_, .i32⟩
  | 82 => ⟨S64x50, .i32⟩
  | 83 => ⟨S64x50, .i1⟩
  | 84 => ⟨S_, .i32⟩
  | 85 => ⟨S64x50, .i32⟩
  | 86 => ⟨S64x50, .i32⟩
  | 87 => ⟨S64x50, .i32⟩
  | 88 => ⟨S64x50x1, .i32⟩
  | 89 => ⟨S64x50, .f32⟩
  | 90 => ⟨S64x50, .f32⟩
  | 91 => ⟨S64x50x1, .f32⟩
  | 92 => ⟨S64x50, .f32⟩
  | 93 => ⟨S64x50x4, .f32⟩
  | 94 => ⟨S_, .f32⟩
  | 95 => ⟨S64x50, .f32⟩
  | 96 => ⟨S64x50, .f32⟩
  | 97 => ⟨S64x50, .f32⟩
  | 98 => ⟨S_, .f32⟩
  | 99 => ⟨S64x50, .f32⟩
  | 100 => ⟨S64x50, .f32⟩
  | 101 => ⟨S64x50, .f32⟩
  | 102 => ⟨S_, .f32⟩
  | 103 => ⟨S64x50, .f32⟩
  | 104 => ⟨S64x50, .f32⟩
  | 105 => ⟨S64x50, .f32⟩
  | 106 => ⟨S_, .f32⟩
  | 107 => ⟨S64x50, .f32⟩
  | 108 => ⟨S64x50, .f32⟩
  | 109 => ⟨S64x50, .f32⟩
  | 110 => ⟨S_, .f32⟩
  | 111 => ⟨S64x50, .f32⟩
  | 112 => ⟨S64x50, .f32⟩
  | 113 => ⟨S64x50, .f32⟩
  | 114 => ⟨S_, .f32⟩
  | 115 => ⟨S64x50, .f32⟩
  | 116 => ⟨S64x50, .f32⟩
  | 117 => ⟨S64x50, .f32⟩
  | 118 => ⟨S_, .f32⟩
  | 119 => ⟨S64x50, .f32⟩
  | 120 => ⟨S64x50, .f32⟩
  | 121 => ⟨S64x50, .f32⟩
  | 122 => ⟨S_, .f32⟩
  | 123 => ⟨S64x50, .f32⟩
  | 124 => ⟨S64x50, .f32⟩
  | 125 => ⟨S64x50, .f32⟩
  | 126 => ⟨S64x50, .f32⟩
  | 127 => ⟨S64x50, .f32⟩
  | _ => ⟨S64x27x80x80, .f32⟩

abbrev hbmTy0_2 (i : Nat) : BufTy := match i % 128 with
  | 0 => ⟨S64x50, .f32⟩
  | 1 => ⟨S_, .f32⟩
  | 2 => ⟨S_, .f32⟩
  | 3 => ⟨S64x50, .f32⟩
  | 4 => ⟨S64x50, .f32⟩
  | 5 => ⟨S64x50, .f32⟩
  | 6 => ⟨S64x50, .f32⟩
  | 7 => ⟨S64x50, .f32⟩
  | 8 => ⟨S_, .f32⟩
  | 9 => ⟨S_, .f32⟩
  | 10 => ⟨S64x50, .f32⟩
  | 11 => ⟨S64x50, .f32⟩
  | 12 => ⟨S64x50, .f32⟩
  | 13 => ⟨S64x50, .f32⟩
  | 14 => ⟨S64x50, .f32⟩
  | 15 => ⟨S64x50, .f32⟩
  | 16 => ⟨S64x50, .f32⟩
  | 17 => ⟨S_, .f32⟩
  | 18 => ⟨S64x50, .f32⟩
  | 19 => ⟨S64x50, .f32⟩
  | 20 => ⟨S64x50, .f32⟩
  | 21 => ⟨S64x50, .f32⟩
  | 22 => ⟨S64x50, .f32⟩
  | 23 => ⟨S64x50, .f32⟩
  | 24 => ⟨S64x50, .f32⟩
  | 25 => ⟨S64x50, .f32⟩
  | 26 => ⟨S64x50, .f32⟩
  | 27 => ⟨S64x50, .f32⟩
  | 28 => ⟨S_, .f32⟩
  | 29 => ⟨S64x50, .f32⟩
  | 30 => ⟨S64x50, .f32⟩
  | 31 => ⟨S64x50, .f32⟩
  | 32 => ⟨S64x50, .f32⟩
  | 33 => ⟨S64x50, .f32⟩
  | 34 => ⟨S_, .i32⟩
  | 35 => ⟨S64x50, .i32⟩
  | 36 => ⟨S64x50, .i1⟩
  | 37 => ⟨S64x50, .i1⟩
  | 38 => ⟨S64x50, .f32⟩
  | 39 => ⟨S_, .f32⟩
  | 40 => ⟨S64x50, .f32⟩
  | 41 => ⟨S64x50, .f32⟩
  | 42 => ⟨S64x50, .f32⟩
  | 43 => ⟨S_, .f32⟩
  | 44 => ⟨S_, .f32⟩
  | 45 => ⟨S64x50x1, .i32⟩
  | 46 => ⟨S1x1x4, .i32⟩
  | 47 => ⟨S64x50x4, .i32⟩
  | 48 => ⟨S64x50x4, .i32⟩
  | 49 => ⟨S64x50x4, .i1⟩
  | 50 => ⟨S64x50x4, .f32⟩
  | 51 => ⟨S_, .f32⟩
  | 52 => ⟨S64x50x4, .f32⟩
  | 53 => ⟨S64x50x4, .f32⟩
  | 54 => ⟨S64x50x4, .f32⟩
  | 55 => ⟨S64x50x4, .f32⟩
  | 56 => ⟨S64x50x4, .i1⟩
  | 57 => ⟨S64x50x4, .f32⟩
  | 58 => ⟨S64x50x4, .f32⟩
  | 59 => ⟨S64x50x4, .f32⟩
  | 60 => ⟨S64x50x4, .f32⟩
  | 61 => ⟨S64x50x4, .f32⟩
  | 62 => ⟨S64x50x4, .f32⟩
  | 63 => ⟨S64x50x4, .f32⟩
  | 64 => ⟨S64x50x4, .f32⟩
  | 65 => ⟨S64x50x4, .f32⟩
  | 66 => ⟨S64x50x4, .f32⟩
  | 67 => ⟨S_, .f32⟩
  | 68 => ⟨S64x50, .f32⟩
  | 69 => ⟨S_, .f32⟩
  | 70 => ⟨S64x50, .f32⟩
  | 71 => ⟨S64x50, .f32⟩
  | 72 => ⟨S64x50, .f32⟩
  | 73 => ⟨S_, .f32⟩
  | 74 => ⟨S_, .f32⟩
  | 75 => ⟨S_, .f32⟩
  | 76 => ⟨S_, .f32⟩
  | 77 => ⟨S_, .f32⟩
  | 78 => ⟨S64x50, .f32⟩
  | 79 => ⟨S64x50, .f32⟩
  | 80 => ⟨S_, .f32⟩
  | 81 => ⟨S64x50, .f32⟩
  | 82 => ⟨S64x50, .f32⟩
  | 83 => ⟨S_, .f32⟩
  | 84 => ⟨S64x50, .f32⟩
  | 85 => ⟨S64x50, .f32⟩
  | 86 => ⟨S64x50, .f32⟩
  | 87 => ⟨S64x50, .f32⟩
  | 88 => ⟨S64x50, .i1⟩
  | 89 => ⟨S64x50, .f32⟩
  | 90 => ⟨S64x50, .f32⟩
  | 91 => ⟨S64x50, .f32⟩
  | 92 => ⟨S64x50, .f32⟩
  | 93 => ⟨S64x50, .f32⟩
  | 94 => ⟨S64x50, .f32⟩
  | 95 => ⟨S64x50, .f32⟩
  | 96 => ⟨S64x50, .f32⟩
  | 97 => ⟨S64x50, .f32⟩
  | 98 => ⟨S64x50, .f32⟩
  | 99 => ⟨S64x50, .f32⟩
  | 100 => ⟨S_, .f32⟩
  | 101 => ⟨S_, .f32⟩
  | 102 => ⟨S64x50, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S3x2, .f32⟩
  | 114 => ⟨S64x3x9x40x40, .f32⟩
  | 115 => ⟨S64x3x40x40x9, .f32⟩
  | 116 => ⟨S64x50x1, .f32⟩
  | 117 => ⟨S64x50, .f32⟩
  | 118 => ⟨S64x50, .i32⟩
  | 119 => ⟨S64x50x1, .f32⟩
  | 120 => ⟨S64x50, .f32⟩
  | 121 => ⟨S64x50x1, .f32⟩
  | 122 => ⟨S64x50, .f32⟩
  | 123 => ⟨S64x50x1, .f32⟩
  | 124 => ⟨S64x50, .f32⟩
  | 125 => ⟨S64x50x1, .f32⟩
  | 126 => ⟨S64x50, .f32⟩
  | 127 => ⟨S_, .f32⟩
  | _ => ⟨S64x27x80x80, .f32⟩

abbrev hbmTy0_3 (i : Nat) : BufTy := match i % 128 with
  | 0 => ⟨S64x50, .f32⟩
  | 1 => ⟨S64x50, .i1⟩
  | 2 => ⟨S_, .f32⟩
  | 3 => ⟨S64x50, .f32⟩
  | 4 => ⟨S64x50, .i1⟩
  | 5 => ⟨S64x50, .i1⟩
  | 6 => ⟨S_, .f32⟩
  | 7 => ⟨S64x50, .f32⟩
  | 8 => ⟨S64x50, .i1⟩
  | 9 => ⟨S64x50, .i1⟩
  | 10 => ⟨S_, .f32⟩
  | 11 => ⟨S64x50, .f32⟩
  | 12 => ⟨S64x50, .i1⟩
  | 13 => ⟨S64x50, .i1⟩
  | 14 => ⟨S_, .f32⟩
  | 15 => ⟨S64x50, .f32⟩
  | 16 => ⟨S64x50, .i1⟩
  | 17 => ⟨S64x50, .i1⟩
  | 18 => ⟨S_, .f32⟩
  | 19 => ⟨S64x50, .f32⟩
  | 20 => ⟨S64x50, .i1⟩
  | 21 => ⟨S64x50, .i1⟩
  | 22 => ⟨S_, .f32⟩
  | 23 => ⟨S64x50, .f32⟩
  | 24 => ⟨S64x50, .i1⟩
  | 25 => ⟨S64x50, .i1⟩
  | 26 => ⟨S_, .f32⟩
  | 27 => ⟨S64x50, .f32⟩
  | 28 => ⟨S64x50, .i1⟩
  | 29 => ⟨S64x50, .i1⟩
  | 30 => ⟨S3x1, .f32⟩
  | 31 => ⟨S3, .f32⟩
  | 32 => ⟨S_, .f32⟩
  | 33 => ⟨S3, .f32⟩
  | 34 => ⟨S3, .f32⟩
  | 35 => ⟨S3x1, .f32⟩
  | 36 => ⟨S3, .f32⟩
  | 37 => ⟨S_, .f32⟩
  | 38 => ⟨S3, .f32⟩
  | 39 => ⟨S3, .f32⟩
  | 40 => ⟨S64x50x1, .f32⟩
  | 41 => ⟨S1x1x3, .f32⟩
  | 42 => ⟨S64x50x3, .f32⟩
  | 43 => ⟨S64x50x3, .f32⟩
  | 44 => ⟨S64x50x3, .f32⟩
  | 45 => ⟨S64x50x1, .f32⟩
  | 46 => ⟨S1x1x3, .f32⟩
  | 47 => ⟨S64x50x3, .f32⟩
  | 48 => ⟨S64x50x3, .f32⟩
  | 49 => ⟨S64x50x3, .f32⟩
  | 50 => ⟨S64x50x3, .f32⟩
  | 51 => ⟨S64x50x1, .f32⟩
  | 52 => ⟨S64x50x1, .f32⟩
  | 53 => ⟨S64x50x1, .f32⟩
  | 54 => ⟨S3, .f32⟩
  | 55 => ⟨S1x1x3, .f32⟩
  | 56 => ⟨S64x50x3, .f32⟩
  | 57 => ⟨S64x50x3, .f32⟩
  | 58 => ⟨S64x50x3, .f32⟩
  | 59 => ⟨S64x50x3, .f32⟩
  | 60 => ⟨S_, .f32⟩
  | 61 => ⟨S64x50x3, .f32⟩
  | 62 => ⟨S64x50x3, .f32⟩
  | 63 => ⟨S64x50x3, .f32⟩
  | 64 => ⟨S_, .f32⟩
  | 65 => ⟨S64x50, .f32⟩
  | 66 => ⟨S64x50x1, .f32⟩
  | 67 => ⟨S64x50x3, .f32⟩
  | 68 => ⟨S64x50x3, .i1⟩
  | 69 => ⟨S3, .i32⟩
  | 70 => ⟨S_, .i32⟩
  | 71 => ⟨S_, .i32⟩
  | 72 => ⟨S64x50x3, .i32⟩
  | 73 => ⟨S64x50x3, .i32⟩
  | 74 => ⟨S64x50x3, .i32⟩
  | 75 => ⟨S_, .i32⟩
  | 76 => ⟨S64x50, .i32⟩
  | 77 => ⟨S_, .f32⟩
  | 78 => ⟨S64x50, .f32⟩
  | 79 => ⟨S64x50, .f32⟩
  | 80 => ⟨S64x50, .f32⟩
  | 81 => ⟨S64x50, .i32⟩
  | 82 => ⟨S_, .i32⟩
  | 83 => ⟨S_, .i32⟩
  | 84 => ⟨S_, .i32⟩
  | 85 => ⟨S64x50, .i32⟩
  | 86 => ⟨S64x50, .i32⟩
  | 87 => ⟨S_, .i32⟩
  | 88 => ⟨S64x50, .i32⟩
  | 89 => ⟨S64x50, .i32⟩
  | 90 => ⟨S_, .f32⟩
  | 91 => ⟨S64x50, .f32⟩
  | 92 => ⟨S64x50, .f32⟩
  | 93 => ⟨S64x50, .f32⟩
  | 94 => ⟨S64x50, .i32⟩
  | 95 => ⟨S_, .i32⟩
  | 96 => ⟨S_, .i32⟩
  | 97 => ⟨S_, .i32⟩
  | 98 => ⟨S64x50, .i32⟩
  | 99 => ⟨S64x50, .i32⟩
  | 100 => ⟨S_, .i32⟩
  | 101 => ⟨S64x50, .i32⟩
  | 102 => ⟨S64x50, .i32⟩
  | 103 => ⟨S64, .i32⟩
  | 104 => ⟨S64x1, .i32⟩
  | 105 => ⟨S_, .i32⟩
  | 106 => ⟨S64x1, .i32⟩
  | 107 => ⟨S64x1, .i1⟩
  | 108 => ⟨S_, .i32⟩
  | 109 => ⟨S64x1, .i32⟩
  | 110 => ⟨S64x1, .i32⟩
  | 111 => ⟨S64x1, .i32⟩
  | 112 => ⟨S_, .i32⟩
  | 113 => ⟨S64x50, .i32⟩
  | 114 => ⟨S64x50, .i1⟩
  | 115 => ⟨S_, .i32⟩
  | 116 => ⟨S64x50, .i32⟩
  | 117 => ⟨S64x50, .i32⟩
  | 118 => ⟨S64x50, .i32⟩
  | 119 => ⟨S_, .i32⟩
  | 120 => ⟨S64x50, .i32⟩
  | 121 => ⟨S64x50, .i1⟩
  | 122 => ⟨S_, .i32⟩
  | 123 => ⟨S64x50, .i32⟩
  | 124 => ⟨S64x50, .i32⟩
  | 125 => ⟨S64x50, .i32⟩
  | 126 => ⟨S_, .i32⟩
  | 127 => ⟨S64x50, .i32⟩
  | _ => ⟨S64x27x80x80, .f32⟩

abbrev hbmTy0_4 (i : Nat) : BufTy := match i % 128 with
  | 0 => ⟨S64x50, .i1⟩
  | 1 => ⟨S_, .i32⟩
  | 2 => ⟨S64x50, .i32⟩
  | 3 => ⟨S64x50, .i32⟩
  | 4 => ⟨S64x50, .i32⟩
  | 5 => ⟨S64x50, .i32⟩
  | 6 => ⟨S64x50x1, .i32⟩
  | 7 => ⟨S64x50x1, .i32⟩
  | 8 => ⟨S64x50x1, .i32⟩
  | 9 => ⟨S64x50x1, .i32⟩
  | 10 => ⟨S64x50x4, .i32⟩
  | 11 => ⟨S64x50x9, .f32⟩
  | 12 => ⟨S64x50x1, .f32⟩
  | 13 => ⟨S64x50, .f32⟩
  | 14 => ⟨S64x50, .f32⟩
  | 15 => ⟨S64x50, .f32⟩
  | 16 => ⟨S_, .f32⟩
  | 17 => ⟨S64x50, .f32⟩
  | 18 => ⟨S64x50, .f32⟩
  | 19 => ⟨S_, .f32⟩
  | 20 => ⟨S64x50, .f32⟩
  | 21 => ⟨S64x50, .f32⟩
  | 22 => ⟨S64x50, .f32⟩
  | 23 => ⟨S_, .f32⟩
  | 24 => ⟨S64x50, .f32⟩
  | 25 => ⟨S64x50, .f32⟩
  | 26 => ⟨S64x50, .f32⟩
  | 27 => ⟨S64x50x1, .f32⟩
  | 28 => ⟨S64x50, .f32⟩
  | 29 => ⟨S64x50, .f32⟩
  | 30 => ⟨S64x50, .f32⟩
  | 31 => ⟨S_, .f32⟩
  | 32 => ⟨S64x50, .f32⟩
  | 33 => ⟨S64x50, .f32⟩
  | 34 => ⟨S_, .f32⟩
  | 35 => ⟨S64x50, .f32⟩
  | 36 => ⟨S64x50, .f32⟩
  | 37 => ⟨S64x50, .f32⟩
  | 38 => ⟨S_, .f32⟩
  | 39 => ⟨S64x50, .f32⟩
  | 40 => ⟨S64x50, .f32⟩
  | 41 => ⟨S64x50, .f32⟩
  | 42 => ⟨S64x50x1, .f32⟩
  | 43 => ⟨S64x50, .f32⟩
  | 44 => ⟨S64x50, .f32⟩
  | 45 => ⟨S_, .i32⟩
  | 46 => ⟨S64x50, .i32⟩
  | 47 => ⟨S64x50, .i1⟩
  | 48 => ⟨S_, .i32⟩
  | 49 => ⟨S64x50, .i32⟩
  | 50 => ⟨S64x50, .i32⟩
  | 51 => ⟨S64x50, .i32⟩
  | 52 => ⟨S64x50x1, .i32⟩
  | 53 => ⟨S64x50, .f32⟩
  | 54 => ⟨S64x50, .f32⟩
  | 55 => ⟨S64x50x1, .f32⟩
  | 56 => ⟨S64x50, .f32⟩
  | 57 => ⟨S64x50, .f32⟩
  | 58 => ⟨S_, .i32⟩
  | 59 => ⟨S64x50, .i32⟩
  | 60 => ⟨S64x50, .i1⟩
  | 61 => ⟨S_, .i32⟩
  | 62 => ⟨S64x50, .i32⟩
  | 63 => ⟨S64x50, .i32⟩
  | 64 => ⟨S64x50, .i32⟩
  | 65 => ⟨S64x50x1, .i32⟩
  | 66 => ⟨S64x50, .f32⟩
  | 67 => ⟨S64x50, .f32⟩
  | 68 => ⟨S64x50x1, .f32⟩
  | 69 => ⟨S64x50, .f32⟩
  | 70 => ⟨S64x50x4, .f32⟩
  | 71 => ⟨S_, .f32⟩
  | 72 => ⟨S64x50, .f32⟩
  | 73 => ⟨S64x50, .f32⟩
  | 74 => ⟨S64x50, .f32⟩
  | 75 => ⟨S_, .f32⟩
  | 76 => ⟨S64x50, .f32⟩
  | 77 => ⟨S64x50, .f32⟩
  | 78 => ⟨S64x50, .f32⟩
  | 79 => ⟨S_, .f32⟩
  | 80 => ⟨S64x50, .f32⟩
  | 81 => ⟨S64x50, .f32⟩
  | 82 => ⟨S64x50, .f32⟩
  | 83 => ⟨S_, .f32⟩
  | 84 => ⟨S64x50, .f32⟩
  | 85 => ⟨S64x50, .f32⟩
  | 86 => ⟨S64x50, .f32⟩
  | 87 => ⟨S_, .f32⟩
  | 88 => ⟨S64x50, .f32⟩
  | 89 => ⟨S64x50, .f32⟩
  | 90 => ⟨S64x50, .f32⟩
  | 91 => ⟨S_, .f32⟩
  | 92 => ⟨S64x50, .f32⟩
  | 93 => ⟨S64x50, .f32⟩
  | 94 => ⟨S64x50, .f32⟩
  | 95 => ⟨S_, .f32⟩
  | 96 => ⟨S64x50, .f32⟩
  | 97 => ⟨S64x50, .f32⟩
  | 98 => ⟨S64x50, .f32⟩
  | 99 => ⟨S_, .f32⟩
  | 100 => ⟨S64x50, .f32⟩
  | 101 => ⟨S64x50, .f32⟩
  | 102 => ⟨S64x50, .f32⟩
  | 103 => ⟨S64x50, .f32⟩
  | 104 => ⟨S64x50, .f32⟩
  | 105 => ⟨S64x50, .f32⟩
  | 106 => ⟨S_, .f32⟩
  | 107 => ⟨S_, .f32⟩
  | 108 => ⟨S64x50, .f32⟩
  | 109 => ⟨S64x50, .f32⟩
  | 110 => ⟨S64x50, .f32⟩
  | 111 => ⟨S64x50, .f32⟩
  | 112 => ⟨S64x50, .f32⟩
  | 113 => ⟨S_, .f32⟩
  | 114 => ⟨S_, .f32⟩
  | 115 => ⟨S64x50, .f32⟩
  | 116 => ⟨S64x50, .f32⟩
  | 117 => ⟨S64x50, .f32⟩
  | 118 => ⟨S64x50, .f32⟩
  | 119 => ⟨S64x50, .f32⟩
  | 120 => ⟨S64x50, .f32⟩
  | 121 => ⟨S64x50, .f32⟩
  | 122 => ⟨S_, .f32⟩
  | 123 => ⟨S64x50, .f32⟩
  | 124 => ⟨S64x50, .f32⟩
  | 125 => ⟨S64x50, .f32⟩
  | 126 => ⟨S64x50, .f32⟩
  | 127 => ⟨S64x50, .f32⟩
  | _ => ⟨S64x27x80x80, .f32⟩

abbrev hbmTy0_5 (i : Nat) : BufTy := match i % 128 with
  | 0 => ⟨S64x50, .f32⟩
  | 1 => ⟨S64x50, .f32⟩
  | 2 => ⟨S64x50, .f32⟩
  | 3 => ⟨S64x50, .f32⟩
  | 4 => ⟨S64x50, .f32⟩
  | 5 => ⟨S_, .f32⟩
  | 6 => ⟨S64x50, .f32⟩
  | 7 => ⟨S64x50, .f32⟩
  | 8 => ⟨S64x50, .f32⟩
  | 9 => ⟨S64x50, .f32⟩
  | 10 => ⟨S64x50, .f32⟩
  | 11 => ⟨S_, .i32⟩
  | 12 => ⟨S64x50, .i32⟩
  | 13 => ⟨S64x50, .i1⟩
  | 14 => ⟨S64x50, .i1⟩
  | 15 => ⟨S64x50, .f32⟩
  | 16 => ⟨S_, .f32⟩
  | 17 => ⟨S64x50, .f32⟩
  | 18 => ⟨S64x50, .f32⟩
  | 19 => ⟨S64x50, .f32⟩
  | 20 => ⟨S_, .f32⟩
  | 21 => ⟨S_, .f32⟩
  | 22 => ⟨S64x50x1, .i32⟩
  | 23 => ⟨S1x1x4, .i32⟩
  | 24 => ⟨S64x50x4, .i32⟩
  | 25 => ⟨S64x50x4, .i32⟩
  | 26 => ⟨S64x50x4, .i1⟩
  | 27 => ⟨S64x50x4, .f32⟩
  | 28 => ⟨S_, .f32⟩
  | 29 => ⟨S64x50x4, .f32⟩
  | 30 => ⟨S64x50x4, .f32⟩
  | 31 => ⟨S64x50x4, .f32⟩
  | 32 => ⟨S64x50x4, .f32⟩
  | 33 => ⟨S64x50x4, .i1⟩
  | 34 => ⟨S64x50x4, .f32⟩
  | 35 => ⟨S64x50x4, .f32⟩
  | 36 => ⟨S64x50x4, .f32⟩
  | 37 => ⟨S64x50x4, .f32⟩
  | 38 => ⟨S64x50x4, .f32⟩
  | 39 => ⟨S64x50x4, .f32⟩
  | 40 => ⟨S64x50x4, .f32⟩
  | 41 => ⟨S64x50x4, .f32⟩
  | 42 => ⟨S64x50x4, .f32⟩
  | 43 => ⟨S64x50x4, .f32⟩
  | 44 => ⟨S_, .f32⟩
  | 45 => ⟨S64x50, .f32⟩
  | 46 => ⟨S_, .f32⟩
  | 47 => ⟨S64x50, .f32⟩
  | 48 => ⟨S64x50, .f32⟩
  | 49 => ⟨S64x50, .f32⟩
  | 50 => ⟨S_, .f32⟩
  | 51 => ⟨S_, .f32⟩
  | 52 => ⟨S_, .f32⟩
  | 53 => ⟨S_, .f32⟩
  | 54 => ⟨S_, .f32⟩
  | 55 => ⟨S64x50, .f32⟩
  | 56 => ⟨S64x50, .f32⟩
  | 57 => ⟨S_, .f32⟩
  | 58 => ⟨S64x50, .f32⟩
  | 59 => ⟨S64x50, .f32⟩
  | 60 => ⟨S_, .f32⟩
  | 61 => ⟨S64x50, .f32⟩
  | 62 => ⟨S64x50, .f32⟩
  | 63 => ⟨S64x50, .f32⟩
  | 64 => ⟨S64x50, .f32⟩
  | 65 => ⟨S64x50, .i1⟩
  | 66 => ⟨S64x50, .f32⟩
  | 67 => ⟨S64x50, .f32⟩
  | 68 => ⟨S64x50, .f32⟩
  | 69 => ⟨S64x50, .f32⟩
  | 70 => ⟨S64x50, .f32⟩
  | 71 => ⟨S64x50, .f32⟩
  | 72 => ⟨S64x50, .f32⟩
  | 73 => ⟨S64x50, .f32⟩
  | 74 => ⟨S64x50, .f32⟩
  | 75 => ⟨S64x50, .f32⟩
  | 76 => ⟨S64x50, .f32⟩
  | 77 => ⟨S_, .f32⟩
  | 78 => ⟨S_, .f32⟩
  | 79 => ⟨S64x50, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S3x2, .f32⟩
  | 87 => ⟨S64x3x9x20x20, .f32⟩
  | 88 => ⟨S64x3x20x20x9, .f32⟩
  | 89 => ⟨S64x50x1, .f32⟩
  | 90 => ⟨S64x50, .f32⟩
  | 91 => ⟨S64x50, .i32⟩
  | 92 => ⟨S64x50x1, .f32⟩
  | 93 => ⟨S64x50, .f32⟩
  | 94 => ⟨S64x50x1, .f32⟩
  | 95 => ⟨S64x50, .f32⟩
  | 96 => ⟨S64x50x1, .f32⟩
  | 97 => ⟨S64x50, .f32⟩
  | 98 => ⟨S64x50x1, .f32⟩
  | 99 => ⟨S64x50, .f32⟩
  | 100 => ⟨S_, .f32⟩
  | 101 => ⟨S64x50, .f32⟩
  | 102 => ⟨S64x50, .i1⟩
  | 103 => ⟨S_, .f32⟩
  | 104 => ⟨S64x50, .f32⟩
  | 105 => ⟨S64x50, .i1⟩
  | 106 => ⟨S64x50, .i1⟩
  | 107 => ⟨S_, .f32⟩
  | 108 => ⟨S64x50, .f32⟩
  | 109 => ⟨S64x50, .i1⟩
  | 110 => ⟨S64x50, .i1⟩
  | 111 => ⟨S_, .f32⟩
  | 112 => ⟨S64x50, .f32⟩
  | 113 => ⟨S64x50, .i1⟩
  | 114 => ⟨S64x50, .i1⟩
  | 115 => ⟨S_, .f32⟩
  | 116 => ⟨S64x50, .f32⟩
  | 117 => ⟨S64x50, .i1⟩
  | 118 => ⟨S64x50, .i1⟩
  | 119 => ⟨S_, .f32⟩
  | 120 => ⟨S64x50, .f32⟩
  | 121 => ⟨S64x50, .i1⟩
  | 122 => ⟨S64x50, .i1⟩
  | 123 => ⟨S_, .f32⟩
  | 124 => ⟨S64x50, .f32⟩
  | 125 => ⟨S64x50, .i1⟩
  | 126 => ⟨S64x50, .i1⟩
  | 127 => ⟨S_, .f32⟩
  | _ => ⟨S64x27x80x80, .f32⟩

abbrev hbmTy0_6 (i : Nat) : BufTy := match i % 128 with
  | 0 => ⟨S64x50, .f32⟩
  | 1 => ⟨S64x50, .i1⟩
  | 2 => ⟨S64x50, .i1⟩
  | 3 => ⟨S3x1, .f32⟩
  | 4 => ⟨S3, .f32⟩
  | 5 => ⟨S_, .f32⟩
  | 6 => ⟨S3, .f32⟩
  | 7 => ⟨S3, .f32⟩
  | 8 => ⟨S3x1, .f32⟩
  | 9 => ⟨S3, .f32⟩
  | 10 => ⟨S_, .f32⟩
  | 11 => ⟨S3, .f32⟩
  | 12 => ⟨S3, .f32⟩
  | 13 => ⟨S64x50x1, .f32⟩
  | 14 => ⟨S1x1x3, .f32⟩
  | 15 => ⟨S64x50x3, .f32⟩
  | 16 => ⟨S64x50x3, .f32⟩
  | 17 => ⟨S64x50x3, .f32⟩
  | 18 => ⟨S64x50x1, .f32⟩
  | 19 => ⟨S1x1x3, .f32⟩
  | 20 => ⟨S64x50x3, .f32⟩
  | 21 => ⟨S64x50x3, .f32⟩
  | 22 => ⟨S64x50x3, .f32⟩
  | 23 => ⟨S64x50x3, .f32⟩
  | 24 => ⟨S64x50x1, .f32⟩
  | 25 => ⟨S64x50x1, .f32⟩
  | 26 => ⟨S64x50x1, .f32⟩
  | 27 => ⟨S3, .f32⟩
  | 28 => ⟨S1x1x3, .f32⟩
  | 29 => ⟨S64x50x3, .f32⟩
  | 30 => ⟨S64x50x3, .f32⟩
  | 31 => ⟨S64x50x3, .f32⟩
  | 32 => ⟨S64x50x3, .f32⟩
  | 33 => ⟨S_, .f32⟩
  | 34 => ⟨S64x50x3, .f32⟩
  | 35 => ⟨S64x50x3, .f32⟩
  | 36 => ⟨S64x50x3, .f32⟩
  | 37 => ⟨S_, .f32⟩
  | 38 => ⟨S64x50, .f32⟩
  | 39 => ⟨S64x50x1, .f32⟩
  | 40 => ⟨S64x50x3, .f32⟩
  | 41 => ⟨S64x50x3, .i1⟩
  | 42 => ⟨S3, .i32⟩
  | 43 => ⟨S_, .i32⟩
  | 44 => ⟨S_, .i32⟩
  | 45 => ⟨S64x50x3, .i32⟩
  | 46 => ⟨S64x50x3, .i32⟩
  | 47 => ⟨S64x50x3, .i32⟩
  | 48 => ⟨S_, .i32⟩
  | 49 => ⟨S64x50, .i32⟩
  | 50 => ⟨S_, .f32⟩
  | 51 => ⟨S64x50, .f32⟩
  | 52 => ⟨S64x50, .f32⟩
  | 53 => ⟨S64x50, .f32⟩
  | 54 => ⟨S64x50, .i32⟩
  | 55 => ⟨S_, .i32⟩
  | 56 => ⟨S_, .i32⟩
  | 57 => ⟨S_, .i32⟩
  | 58 => ⟨S64x50, .i32⟩
  | 59 => ⟨S64x50, .i32⟩
  | 60 => ⟨S_, .i32⟩
  | 61 => ⟨S64x50, .i32⟩
  | 62 => ⟨S64x50, .i32⟩
  | 63 => ⟨S_, .f32⟩
  | 64 => ⟨S64x50, .f32⟩
  | 65 => ⟨S64x50, .f32⟩
  | 66 => ⟨S64x50, .f32⟩
  | 67 => ⟨S64x50, .i32⟩
  | 68 => ⟨S_, .i32⟩
  | 69 => ⟨S_, .i32⟩
  | 70 => ⟨S_, .i32⟩
  | 71 => ⟨S64x50, .i32⟩
  | 72 => ⟨S64x50, .i32⟩
  | 73 => ⟨S_, .i32⟩
  | 74 => ⟨S64x50, .i32⟩
  | 75 => ⟨S64x50, .i32⟩
  | 76 => ⟨S64, .i32⟩
  | 77 => ⟨S64x1, .i32⟩
  | 78 => ⟨S_, .i32⟩
  | 79 => ⟨S64x1, .i32⟩
  | 80 => ⟨S64x1, .i1⟩
  | 81 => ⟨S_, .i32⟩
  | 82 => ⟨S64x1, .i32⟩
  | 83 => ⟨S64x1, .i32⟩
  | 84 => ⟨S64x1, .i32⟩
  | 85 => ⟨S_, .i32⟩
  | 86 => ⟨S64x50, .i32⟩
  | 87 => ⟨S64x50, .i1⟩
  | 88 => ⟨S_, .i32⟩
  | 89 => ⟨S64x50, .i32⟩
  | 90 => ⟨S64x50, .i32⟩
  | 91 => ⟨S64x50, .i32⟩
  | 92 => ⟨S_, .i32⟩
  | 93 => ⟨S64x50, .i32⟩
  | 94 => ⟨S64x50, .i1⟩
  | 95 => ⟨S_, .i32⟩
  | 96 => ⟨S64x50, .i32⟩
  | 97 => ⟨S64x50, .i32⟩
  | 98 => ⟨S64x50, .i32⟩
  | 99 => ⟨S_, .i32⟩
  | 100 => ⟨S64x50, .i32⟩
  | 101 => ⟨S64x50, .i1⟩
  | 102 => ⟨S_, .i32⟩
  | 103 => ⟨S64x50, .i32⟩
  | 104 => ⟨S64x50, .i32⟩
  | 105 => ⟨S64x50, .i32⟩
  | 106 => ⟨S64x50, .i32⟩
  | 107 => ⟨S64x50x1, .i32⟩
  | 108 => ⟨S64x50x1, .i32⟩
  | 109 => ⟨S64x50x1, .i32⟩
  | 110 => ⟨S64x50x1, .i32⟩
  | 111 => ⟨S64x50x4, .i32⟩
  | 112 => ⟨S64x50x9, .f32⟩
  | 113 => ⟨S64x50x1, .f32⟩
  | 114 => ⟨S64x50, .f32⟩
  | 115 => ⟨S64x50, .f32⟩
  | 116 => ⟨S64x50, .f32⟩
  | 117 => ⟨S_, .f32⟩
  | 118 => ⟨S64x50, .f32⟩
  | 119 => ⟨S64x50, .f32⟩
  | 120 => ⟨S_, .f32⟩
  | 121 => ⟨S64x50, .f32⟩
  | 122 => ⟨S64x50, .f32⟩
  | 123 => ⟨S64x50, .f32⟩
  | 124 => ⟨S_, .f32⟩
  | 125 => ⟨S64x50, .f32⟩
  | 126 => ⟨S64x50, .f32⟩
  | 127 => ⟨S64x50, .f32⟩
  | _ => ⟨S64x27x80x80, .f32⟩

abbrev hbmTy0_7 (i : Nat) : BufTy := match i % 128 with
  | 0 => ⟨S64x50x1, .f32⟩
  | 1 => ⟨S64x50, .f32⟩
  | 2 => ⟨S64x50, .f32⟩
  | 3 => ⟨S64x50, .f32⟩
  | 4 => ⟨S_, .f32⟩
  | 5 => ⟨S64x50, .f32⟩
  | 6 => ⟨S64x50, .f32⟩
  | 7 => ⟨S_, .f32⟩
  | 8 => ⟨S64x50, .f32⟩
  | 9 => ⟨S64x50, .f32⟩
  | 10 => ⟨S64x50, .f32⟩
  | 11 => ⟨S_, .f32⟩
  | 12 => ⟨S64x50, .f32⟩
  | 13 => ⟨S64x50, .f32⟩
  | 14 => ⟨S64x50, .f32⟩
  | 15 => ⟨S64x50x1, .f32⟩
  | 16 => ⟨S64x50, .f32⟩
  | 17 => ⟨S64x50, .f32⟩
  | 18 => ⟨S_, .i32⟩
  | 19 => ⟨S64x50, .i32⟩
  | 20 => ⟨S64x50, .i1⟩
  | 21 => ⟨S_, .i32⟩
  | 22 => ⟨S64x50, .i32⟩
  | 23 => ⟨S64x50, .i32⟩
  | 24 => ⟨S64x50, .i32⟩
  | 25 => ⟨S64x50x1, .i32⟩
  | 26 => ⟨S64x50, .f32⟩
  | 27 => ⟨S64x50, .f32⟩
  | 28 => ⟨S64x50x1, .f32⟩
  | 29 => ⟨S64x50, .f32⟩
  | 30 => ⟨S64x50, .f32⟩
  | 31 => ⟨S_, .i32⟩
  | 32 => ⟨S64x50, .i32⟩
  | 33 => ⟨S64x50, .i1⟩
  | 34 => ⟨S_, .i32⟩
  | 35 => ⟨S64x50, .i32⟩
  | 36 => ⟨S64x50, .i32⟩
  | 37 => ⟨S64x50, .i32⟩
  | 38 => ⟨S64x50x1, .i32⟩
  | 39 => ⟨S64x50, .f32⟩
  | 40 => ⟨S64x50, .f32⟩
  | 41 => ⟨S64x50x1, .f32⟩
  | 42 => ⟨S64x50, .f32⟩
  | 43 => ⟨S64x50x4, .f32⟩
  | 44 => ⟨S_, .f32⟩
  | 45 => ⟨S64x50, .f32⟩
  | 46 => ⟨S64x50, .f32⟩
  | 47 => ⟨S64x50, .f32⟩
  | 48 => ⟨S_, .f32⟩
  | 49 => ⟨S64x50, .f32⟩
  | 50 => ⟨S64x50, .f32⟩
  | 51 => ⟨S64x50, .f32⟩
  | 52 => ⟨S_, .f32⟩
  | 53 => ⟨S64x50, .f32⟩
  | 54 => ⟨S64x50, .f32⟩
  | 55 => ⟨S64x50, .f32⟩
  | 56 => ⟨S_, .f32⟩
  | 57 => ⟨S64x50, .f32⟩
  | 58 => ⟨S64x50, .f32⟩
  | 59 => ⟨S64x50, .f32⟩
  | 60 => ⟨S_, .f32⟩
  | 61 => ⟨S64x50, .f32⟩
  | 62 => ⟨S64x50, .f32⟩
  | 63 => ⟨S64x50, .f32⟩
  | 64 => ⟨S_, .f32⟩
  | 65 => ⟨S64x50, .f32⟩
  | 66 => ⟨S64x50, .f32⟩
  | 67 => ⟨S64x50, .f32⟩
  | 68 => ⟨S_, .f32⟩
  | 69 => ⟨S64x50, .f32⟩
  | 70 => ⟨S64x50, .f32⟩
  | 71 => ⟨S64x50, .f32⟩
  | 72 => ⟨S_, .f32⟩
  | 73 => ⟨S64x50, .f32⟩
  | 74 => ⟨S64x50, .f32⟩
  | 75 => ⟨S64x50, .f32⟩
  | 76 => ⟨S64x50, .f32⟩
  | 77 => ⟨S64x50, .f32⟩
  | 78 => ⟨S64x50, .f32⟩
  | 79 => ⟨S_, .f32⟩
  | 80 => ⟨S_, .f32⟩
  | 81 => ⟨S64x50, .f32⟩
  | 82 => ⟨S64x50, .f32⟩
  | 83 => ⟨S64x50, .f32⟩
  | 84 => ⟨S64x50, .f32⟩
  | 85 => ⟨S64x50, .f32⟩
  | 86 => ⟨S_, .f32⟩
  | 87 => ⟨S_, .f32⟩
  | 88 => ⟨S64x50, .f32⟩
  | 89 => ⟨S64x50, .f32⟩
  | 90 => ⟨S64x50, .f32⟩
  | 91 => ⟨S64x50, .f32⟩
  | 92 => ⟨S64x50, .f32⟩
  | 93 => ⟨S64x50, .f32⟩
  | 94 => ⟨S64x50, .f32⟩
  | 95 => ⟨S_, .f32⟩
  | 96 => ⟨S64x50, .f32⟩
  | 97 => ⟨S64x50, .f32⟩
  | 98 => ⟨S64x50, .f32⟩
  | 99 => ⟨S64x50, .f32⟩
  | 100 => ⟨S64x50, .f32⟩
  | 101 => ⟨S64x50, .f32⟩
  | 102 => ⟨S64x50, .f32⟩
  | 103 => ⟨S64x50, .f32⟩
  | 104 => ⟨S64x50, .f32⟩
  | 105 => ⟨S64x50, .f32⟩
  | 106 => ⟨S_, .f32⟩
  | 107 => ⟨S64x50, .f32⟩
  | 108 => ⟨S64x50, .f32⟩
  | 109 => ⟨S64x50, .f32⟩
  | 110 => ⟨S64x50, .f32⟩
  | 111 => ⟨S64x50, .f32⟩
  | 112 => ⟨S_, .i32⟩
  | 113 => ⟨S64x50, .i32⟩
  | 114 => ⟨S64x50, .i1⟩
  | 115 => ⟨S64x50, .i1⟩
  | 116 => ⟨S64x50, .f32⟩
  | 117 => ⟨S_, .f32⟩
  | 118 => ⟨S64x50, .f32⟩
  | 119 => ⟨S64x50, .f32⟩
  | 120 => ⟨S64x50, .f32⟩
  | 121 => ⟨S_, .f32⟩
  | 122 => ⟨S_, .f32⟩
  | 123 => ⟨S64x50x1, .i32⟩
  | 124 => ⟨S1x1x4, .i32⟩
  | 125 => ⟨S64x50x4, .i32⟩
  | 126 => ⟨S64x50x4, .i32⟩
  | 127 => ⟨S64x50x4, .i1⟩
  | _ => ⟨S64x27x80x80, .f32⟩

abbrev hbmTy0_8 (i : Nat) : BufTy := match i % 128 with
  | 0 => ⟨S64x50x4, .f32⟩
  | 1 => ⟨S_, .f32⟩
  | 2 => ⟨S64x50x4, .f32⟩
  | 3 => ⟨S64x50x4, .f32⟩
  | 4 => ⟨S64x50x4, .f32⟩
  | 5 => ⟨S64x50x4, .f32⟩
  | 6 => ⟨S64x50x4, .i1⟩
  | 7 => ⟨S64x50x4, .f32⟩
  | 8 => ⟨S64x50x4, .f32⟩
  | 9 => ⟨S64x50x4, .f32⟩
  | 10 => ⟨S64x50x4, .f32⟩
  | 11 => ⟨S64x50x4, .f32⟩
  | 12 => ⟨S64x50x4, .f32⟩
  | 13 => ⟨S64x50x4, .f32⟩
  | 14 => ⟨S64x50x4, .f32⟩
  | 15 => ⟨S64x50x4, .f32⟩
  | 16 => ⟨S64x50x4, .f32⟩
  | 17 => ⟨S_, .f32⟩
  | 18 => ⟨S64x50, .f32⟩
  | 19 => ⟨S_, .f32⟩
  | 20 => ⟨S64x50, .f32⟩
  | 21 => ⟨S64x50, .f32⟩
  | 22 => ⟨S64x50, .f32⟩
  | 23 => ⟨S_, .f32⟩
  | 24 => ⟨S_, .f32⟩
  | 25 => ⟨S_, .f32⟩
  | 26 => ⟨S_, .f32⟩
  | 27 => ⟨S_, .f32⟩
  | 28 => ⟨S64x50, .f32⟩
  | 29 => ⟨S64x50, .f32⟩
  | 30 => ⟨S_, .f32⟩
  | 31 => ⟨S64x50, .f32⟩
  | 32 => ⟨S64x50, .f32⟩
  | 33 => ⟨S_, .f32⟩
  | 34 => ⟨S64x50, .f32⟩
  | 35 => ⟨S64x50, .f32⟩
  | 36 => ⟨S64x50, .f32⟩
  | 37 => ⟨S64x50, .f32⟩
  | 38 => ⟨S64x50, .i1⟩
  | 39 => ⟨S64x50, .f32⟩
  | 40 => ⟨S64x50, .f32⟩
  | 41 => ⟨S64x50, .f32⟩
  | 42 => ⟨S64x50, .f32⟩
  | 43 => ⟨S64x50, .f32⟩
  | 44 => ⟨S64x50, .f32⟩
  | 45 => ⟨S64x50, .f32⟩
  | 46 => ⟨S64x50, .f32⟩
  | 47 => ⟨S64x50, .f32⟩
  | 48 => ⟨S64x50, .f32⟩
  | 49 => ⟨S64x50, .f32⟩
  | 50 => ⟨S_, .f32⟩
  | 51 => ⟨S_, .f32⟩
  | 52 => ⟨S64x50, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .i1⟩
  | 63 => ⟨S_, .f32⟩
  | 64 => ⟨S_, .f32⟩
  | 65 => ⟨S_, .i1⟩
  | 66 => ⟨S_, .f32⟩
  | 67 => ⟨S_, .f32⟩
  | 68 => ⟨S_, .f32⟩
  | 69 => ⟨S_, .i1⟩
  | 70 => ⟨S_, .f32⟩
  | 71 => ⟨S_, .f32⟩
  | 72 => ⟨S_, .f32⟩
  | 73 => ⟨S_, .i1⟩
  | 74 => ⟨S_, .f32⟩
  | 75 => ⟨S_, .f32⟩
  | 76 => ⟨S64x3x9x80x80, .f32⟩
  | 77 => ⟨S64x3x1x80x80, .f32⟩
  | 78 => ⟨S64x3x80x80, .f32⟩
  | 79 => ⟨S64x19200, .f32⟩
  | 80 => ⟨S_, .i32⟩
  | 81 => ⟨S64x500, .i32⟩
  | 82 => ⟨S64x500, .i1⟩
  | 83 => ⟨S_, .i32⟩
  | 84 => ⟨S64x500, .i32⟩
  | 85 => ⟨S64x500, .i32⟩
  | 86 => ⟨S64x500, .i32⟩
  | 87 => ⟨S64x500x1, .i32⟩
  | 88 => ⟨S1, .i32⟩
  | 89 => ⟨S_, .i32⟩
  | 90 => ⟨S64x500x1, .i32⟩
  | 91 => ⟨S64x500x1, .i1⟩
  | 92 => ⟨S1x1x1, .i32⟩
  | 93 => ⟨S64x500x1, .i32⟩
  | 94 => ⟨S64x500x1, .i1⟩
  | 95 => ⟨S64x500x1, .i1⟩
  | 96 => ⟨S_, .i1⟩
  | 97 => ⟨S64x500, .i1⟩
  | 98 => ⟨S64x500, .f32⟩
  | 99 => ⟨S_, .f32⟩
  | 100 => ⟨S64x500, .f32⟩
  | 101 => ⟨S64x500, .f32⟩
  | 102 => ⟨S_, .f32⟩
  | 103 => ⟨S64x500, .f32⟩
  | 104 => ⟨S64x500, .f32⟩
  | 105 => ⟨S64x500, .f32⟩
  | 106 => ⟨S64x500, .f32⟩
  | 107 => ⟨S64x500, .i1⟩
  | 108 => ⟨S64x500, .f32⟩
  | 109 => ⟨S64x500, .f32⟩
  | 110 => ⟨S64x500, .f32⟩
  | 111 => ⟨S64x500, .f32⟩
  | 112 => ⟨S64x500, .f32⟩
  | 113 => ⟨S64x500, .f32⟩
  | 114 => ⟨S64x500, .f32⟩
  | 115 => ⟨S64x500, .f32⟩
  | 116 => ⟨S_, .f32⟩
  | 117 => ⟨S64, .f32⟩
  | 118 => ⟨S_, .f32⟩
  | 119 => ⟨S64, .f32⟩
  | 120 => ⟨S64, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S64x27x80x80, .f32⟩

abbrev hbmTy0_9 (i : Nat) : BufTy := match i % 128 with
  | 0 => ⟨S64x3x9x40x40, .f32⟩
  | 1 => ⟨S64x3x1x40x40, .f32⟩
  | 2 => ⟨S64x3x40x40, .f32⟩
  | 3 => ⟨S64x4800, .f32⟩
  | 4 => ⟨S_, .i32⟩
  | 5 => ⟨S64x500, .i32⟩
  | 6 => ⟨S64x500, .i1⟩
  | 7 => ⟨S_, .i32⟩
  | 8 => ⟨S64x500, .i32⟩
  | 9 => ⟨S64x500, .i32⟩
  | 10 => ⟨S64x500, .i32⟩
  | 11 => ⟨S64x500x1, .i32⟩
  | 12 => ⟨S1, .i32⟩
  | 13 => ⟨S_, .i32⟩
  | 14 => ⟨S64x500x1, .i32⟩
  | 15 => ⟨S64x500x1, .i1⟩
  | 16 => ⟨S1x1x1, .i32⟩
  | 17 => ⟨S64x500x1, .i32⟩
  | 18 => ⟨S64x500x1, .i1⟩
  | 19 => ⟨S64x500x1, .i1⟩
  | 20 => ⟨S_, .i1⟩
  | 21 => ⟨S64x500, .i1⟩
  | 22 => ⟨S64x500, .f32⟩
  | 23 => ⟨S_, .f32⟩
  | 24 => ⟨S64x500, .f32⟩
  | 25 => ⟨S64x500, .f32⟩
  | 26 => ⟨S_, .f32⟩
  | 27 => ⟨S64x500, .f32⟩
  | 28 => ⟨S64x500, .f32⟩
  | 29 => ⟨S64x500, .f32⟩
  | 30 => ⟨S64x500, .f32⟩
  | 31 => ⟨S64x500, .i1⟩
  | 32 => ⟨S64x500, .f32⟩
  | 33 => ⟨S64x500, .f32⟩
  | 34 => ⟨S64x500, .f32⟩
  | 35 => ⟨S64x500, .f32⟩
  | 36 => ⟨S64x500, .f32⟩
  | 37 => ⟨S64x500, .f32⟩
  | 38 => ⟨S64x500, .f32⟩
  | 39 => ⟨S64x500, .f32⟩
  | 40 => ⟨S_, .f32⟩
  | 41 => ⟨S64, .f32⟩
  | 42 => ⟨S_, .f32⟩
  | 43 => ⟨S64, .f32⟩
  | 44 => ⟨S64, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S64x3x9x20x20, .f32⟩
  | 53 => ⟨S64x3x1x20x20, .f32⟩
  | 54 => ⟨S64x3x20x20, .f32⟩
  | 55 => ⟨S64x1200, .f32⟩
  | 56 => ⟨S_, .i32⟩
  | 57 => ⟨S64x500, .i32⟩
  | 58 => ⟨S64x500, .i1⟩
  | 59 => ⟨S_, .i32⟩
  | 60 => ⟨S64x500, .i32⟩
  | 61 => ⟨S64x500, .i32⟩
  | 62 => ⟨S64x500, .i32⟩
  | 63 => ⟨S64x500x1, .i32⟩
  | 64 => ⟨S1, .i32⟩
  | 65 => ⟨S_, .i32⟩
  | 66 => ⟨S64x500x1, .i32⟩
  | 67 => ⟨S64x500x1, .i1⟩
  | 68 => ⟨S1x1x1, .i32⟩
  | 69 => ⟨S64x500x1, .i32⟩
  | 70 => ⟨S64x500x1, .i1⟩
  | 71 => ⟨S64x500x1, .i1⟩
  | 72 => ⟨S_, .i1⟩
  | 73 => ⟨S64x500, .i1⟩
  | 74 => ⟨S64x500, .f32⟩
  | 75 => ⟨S_, .f32⟩
  | 76 => ⟨S64x500, .f32⟩
  | 77 => ⟨S64x500, .f32⟩
  | 78 => ⟨S_, .f32⟩
  | 79 => ⟨S64x500, .f32⟩
  | 80 => ⟨S64x500, .f32⟩
  | 81 => ⟨S64x500, .f32⟩
  | 82 => ⟨S64x500, .f32⟩
  | 83 => ⟨S64x500, .i1⟩
  | 84 => ⟨S64x500, .f32⟩
  | 85 => ⟨S64x500, .f32⟩
  | 86 => ⟨S64x500, .f32⟩
  | 87 => ⟨S64x500, .f32⟩
  | 88 => ⟨S64x500, .f32⟩
  | 89 => ⟨S64x500, .f32⟩
  | 90 => ⟨S64x500, .f32⟩
  | 91 => ⟨S64x500, .f32⟩
  | 92 => ⟨S_, .f32⟩
  | 93 => ⟨S64, .f32⟩
  | 94 => ⟨S_, .f32⟩
  | 95 => ⟨S64, .f32⟩
  | 96 => ⟨S64, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | _ => ⟨S64x27x80x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S64x27x80x80, .f32⟩

abbrev bufTy : (tb : Table) → Fin (tcTables nBuf tb) → BufTy
  | .hbm, ⟨i, _⟩ => hbmTy i
  | _, _ => ⟨S64x27x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_v73 : Ref sig .tc := ⟨.hbm, 97, rfl⟩
abbrev main_c_11 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_13 : Ref sig .tc := ⟨.hbm, 105, rfl⟩
abbrev main_c_14 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v79 : Ref sig .tc := ⟨.hbm, 112, rfl⟩
abbrev main_cst_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_16 : Ref sig .tc := ⟨.hbm, 118, rfl⟩
abbrev main_c_17 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_18 : Ref sig .tc := ⟨.hbm, 128, rfl⟩
abbrev main_v87 : Ref sig .tc := ⟨.hbm, 129, rfl⟩
abbrev main_v88 : Ref sig .tc := ⟨.hbm, 130, rfl⟩
abbrev main_c_19 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_20 : Ref sig .tc := ⟨.hbm, 135, rfl⟩
abbrev main_v92 : Ref sig .tc := ⟨.hbm, 136, rfl⟩
abbrev main_v93 : Ref sig .tc := ⟨.hbm, 137, rfl⟩
abbrev main_c_21 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_22 : Ref sig .tc := ⟨.hbm, 142, rfl⟩
abbrev main_v97 : Ref sig .tc := ⟨.hbm, 143, rfl⟩
abbrev main_v98 : Ref sig .tc := ⟨.hbm, 144, rfl⟩
abbrev main_c_23 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_24 : Ref sig .tc := ⟨.hbm, 149, rfl⟩
abbrev main_v102 : Ref sig .tc := ⟨.hbm, 150, rfl⟩
abbrev main_v103 : Ref sig .tc := ⟨.hbm, 151, rfl⟩
abbrev main_c_25 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_26 : Ref sig .tc := ⟨.hbm, 167, rfl⟩
abbrev main_v118 : Ref sig .tc := ⟨.hbm, 168, rfl⟩
abbrev main_v119 : Ref sig .tc := ⟨.hbm, 169, rfl⟩
abbrev main_cst_27 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_28 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_29 : Ref sig .tc := ⟨.hbm, 182, rfl⟩
abbrev main_v130 : Ref sig .tc := ⟨.hbm, 183, rfl⟩
abbrev main_v131 : Ref sig .tc := ⟨.hbm, 184, rfl⟩
abbrev main_cst_30 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_31 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_c_32 : Ref sig .tc := ⟨.hbm, 196, rfl⟩
abbrev main_v141 : Ref sig .tc := ⟨.hbm, 197, rfl⟩
abbrev main_v142 : Ref sig .tc := ⟨.hbm, 198, rfl⟩
abbrev main_c_33 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_c_34 : Ref sig .tc := ⟨.hbm, 209, rfl⟩
abbrev main_v152 : Ref sig .tc := ⟨.hbm, 210, rfl⟩
abbrev main_v153 : Ref sig .tc := ⟨.hbm, 211, rfl⟩
abbrev main_c_35 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_36 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_cst_37 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_cst_38 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_39 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_cst_40 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_cst_41 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_cst_42 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_cst_43 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_cst_44 : Ref sig .tc := ⟨.hbm, 257, rfl⟩
abbrev main_call3_v0 : Ref sig .tc := ⟨.hbm, 258, rfl⟩
abbrev main_call3_v1 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_cst_45 : Ref sig .tc := ⟨.hbm, 264, rfl⟩
abbrev main_call4_v0 : Ref sig .tc := ⟨.hbm, 265, rfl⟩
abbrev main_call4_v1 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_cst_46 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_cst_47 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_c_48 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_cst_49 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_cst_50 : Ref sig .tc := ⟨.hbm, 299, rfl⟩
abbrev main_v222 : Ref sig .tc := ⟨.hbm, 300, rfl⟩
abbrev main_call5_v0 : Ref sig .tc := ⟨.hbm, 301, rfl⟩
abbrev main_call5_v1 : Ref sig .tc := ⟨.hbm, 302, rfl⟩
abbrev main_call5_v2 : Ref sig .tc := ⟨.hbm, 303, rfl⟩
abbrev main_call5_v3 : Ref sig .tc := ⟨.hbm, 304, rfl⟩
abbrev main_call5_v4 : Ref sig .tc := ⟨.hbm, 305, rfl⟩
abbrev main_v223 : Ref sig .tc := ⟨.hbm, 306, rfl⟩
abbrev main_call6_cst : Ref sig .tc := ⟨.hbm, 307, rfl⟩
abbrev main_call6_v0 : Ref sig .tc := ⟨.hbm, 308, rfl⟩
abbrev main_call6_v1 : Ref sig .tc := ⟨.hbm, 309, rfl⟩
abbrev main_call6_v2 : Ref sig .tc := ⟨.hbm, 310, rfl⟩
abbrev main_call6_v3 : Ref sig .tc := ⟨.hbm, 311, rfl⟩
abbrev main_call6_v4 : Ref sig .tc := ⟨.hbm, 312, rfl⟩
abbrev main_call6_v5 : Ref sig .tc := ⟨.hbm, 313, rfl⟩
abbrev main_call6_v6 : Ref sig .tc := ⟨.hbm, 314, rfl⟩
abbrev main_call6_v7 : Ref sig .tc := ⟨.hbm, 315, rfl⟩
abbrev main_call6_v8 : Ref sig .tc := ⟨.hbm, 316, rfl⟩
abbrev main_call6_v9 : Ref sig .tc := ⟨.hbm, 317, rfl⟩
abbrev main_call6_v10 : Ref sig .tc := ⟨.hbm, 318, rfl⟩
abbrev main_call6_v11 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_cst_51 : Ref sig .tc := ⟨.hbm, 323, rfl⟩
abbrev main_v227 : Ref sig .tc := ⟨.hbm, 324, rfl⟩
abbrev main_cst_52 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_cst_53 : Ref sig .tc := ⟨.hbm, 329, rfl⟩
abbrev main_v231 : Ref sig .tc := ⟨.hbm, 330, rfl⟩
abbrev main_cst_54 : Ref sig .tc := ⟨.hbm, 331, rfl⟩
abbrev main_cst_55 : Ref sig .tc := ⟨.hbm, 332, rfl⟩
abbrev main_call7_v0 : Ref sig .tc := ⟨.hbm, 333, rfl⟩
abbrev main_call7_v1 : Ref sig .tc := ⟨.hbm, 334, rfl⟩
abbrev main_call7_v2 : Ref sig .tc := ⟨.hbm, 335, rfl⟩
abbrev main_call7_v3 : Ref sig .tc := ⟨.hbm, 336, rfl⟩
abbrev main_call7_v4 : Ref sig .tc := ⟨.hbm, 337, rfl⟩
abbrev main_v232 : Ref sig .tc := ⟨.hbm, 338, rfl⟩
abbrev main_call8_cst : Ref sig .tc := ⟨.hbm, 339, rfl⟩
abbrev main_call8_v0 : Ref sig .tc := ⟨.hbm, 340, rfl⟩
abbrev main_call8_v1 : Ref sig .tc := ⟨.hbm, 341, rfl⟩
abbrev main_call8_v2 : Ref sig .tc := ⟨.hbm, 342, rfl⟩
abbrev main_call8_v3 : Ref sig .tc := ⟨.hbm, 343, rfl⟩
abbrev main_call8_v4 : Ref sig .tc := ⟨.hbm, 344, rfl⟩
abbrev main_call8_v5 : Ref sig .tc := ⟨.hbm, 345, rfl⟩
abbrev main_call8_v6 : Ref sig .tc := ⟨.hbm, 346, rfl⟩
abbrev main_call8_v7 : Ref sig .tc := ⟨.hbm, 347, rfl⟩
abbrev main_call8_v8 : Ref sig .tc := ⟨.hbm, 348, rfl⟩
abbrev main_call8_v9 : Ref sig .tc := ⟨.hbm, 349, rfl⟩
abbrev main_call8_v10 : Ref sig .tc := ⟨.hbm, 350, rfl⟩
abbrev main_call8_v11 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_cst_56 : Ref sig .tc := ⟨.hbm, 356, rfl⟩
abbrev main_v237 : Ref sig .tc := ⟨.hbm, 357, rfl⟩
abbrev main_v238 : Ref sig .tc := ⟨.hbm, 358, rfl⟩
abbrev main_cst_57 : Ref sig .tc := ⟨.hbm, 359, rfl⟩
abbrev main_v239 : Ref sig .tc := ⟨.hbm, 360, rfl⟩
abbrev main_cst_58 : Ref sig .tc := ⟨.hbm, 361, rfl⟩
abbrev main_v240 : Ref sig .tc := ⟨.hbm, 362, rfl⟩
abbrev main_cst_59 : Ref sig .tc := ⟨.hbm, 363, rfl⟩
abbrev main_v241 : Ref sig .tc := ⟨.hbm, 364, rfl⟩
abbrev main_cst_60 : Ref sig .tc := ⟨.hbm, 365, rfl⟩
abbrev main_v242 : Ref sig .tc := ⟨.hbm, 366, rfl⟩
abbrev main_cst_61 : Ref sig .tc := ⟨.hbm, 367, rfl⟩
abbrev main_v243 : Ref sig .tc := ⟨.hbm, 368, rfl⟩
abbrev main_v244 : Ref sig .tc := ⟨.hbm, 369, rfl⟩
abbrev main_v245 : Ref sig .tc := ⟨.hbm, 370, rfl⟩
abbrev main_v246 : Ref sig .tc := ⟨.hbm, 371, rfl⟩
abbrev main_v247 : Ref sig .tc := ⟨.hbm, 372, rfl⟩
abbrev main_v248 : Ref sig .tc := ⟨.hbm, 373, rfl⟩
abbrev main_v249 : Ref sig .tc := ⟨.hbm, 374, rfl⟩
abbrev main_v250 : Ref sig .tc := ⟨.hbm, 375, rfl⟩
abbrev main_v251 : Ref sig .tc := ⟨.hbm, 376, rfl⟩
abbrev main_v252 : Ref sig .tc := ⟨.hbm, 377, rfl⟩
abbrev main_v253 : Ref sig .tc := ⟨.hbm, 378, rfl⟩
abbrev main_v254 : Ref sig .tc := ⟨.hbm, 379, rfl⟩
abbrev main_v255 : Ref sig .tc := ⟨.hbm, 380, rfl⟩
abbrev main_v256 : Ref sig .tc := ⟨.hbm, 381, rfl⟩
abbrev main_v257 : Ref sig .tc := ⟨.hbm, 382, rfl⟩
abbrev main_cst_62 : Ref sig .tc := ⟨.hbm, 383, rfl⟩
abbrev main_v258 : Ref sig .tc := ⟨.hbm, 384, rfl⟩
abbrev main_v259 : Ref sig .tc := ⟨.hbm, 385, rfl⟩
abbrev main_cst_63 : Ref sig .tc := ⟨.hbm, 386, rfl⟩
abbrev main_v260 : Ref sig .tc := ⟨.hbm, 387, rfl⟩
abbrev main_v261 : Ref sig .tc := ⟨.hbm, 388, rfl⟩
abbrev main_v262 : Ref sig .tc := ⟨.hbm, 389, rfl⟩
abbrev main_cst_64 : Ref sig .tc := ⟨.hbm, 390, rfl⟩
abbrev main_v263 : Ref sig .tc := ⟨.hbm, 391, rfl⟩
abbrev main_v264 : Ref sig .tc := ⟨.hbm, 392, rfl⟩
abbrev main_v265 : Ref sig .tc := ⟨.hbm, 393, rfl⟩
abbrev main_cst_65 : Ref sig .tc := ⟨.hbm, 394, rfl⟩
abbrev main_v266 : Ref sig .tc := ⟨.hbm, 395, rfl⟩
abbrev main_v267 : Ref sig .tc := ⟨.hbm, 396, rfl⟩
abbrev main_v268 : Ref sig .tc := ⟨.hbm, 397, rfl⟩
abbrev main_cst_66 : Ref sig .tc := ⟨.hbm, 398, rfl⟩
abbrev main_v269 : Ref sig .tc := ⟨.hbm, 399, rfl⟩
abbrev main_v270 : Ref sig .tc := ⟨.hbm, 400, rfl⟩
abbrev main_v271 : Ref sig .tc := ⟨.hbm, 401, rfl⟩
abbrev main_cst_67 : Ref sig .tc := ⟨.hbm, 402, rfl⟩
abbrev main_v272 : Ref sig .tc := ⟨.hbm, 403, rfl⟩
abbrev main_v273 : Ref sig .tc := ⟨.hbm, 404, rfl⟩
abbrev main_v274 : Ref sig .tc := ⟨.hbm, 405, rfl⟩
abbrev main_cst_68 : Ref sig .tc := ⟨.hbm, 406, rfl⟩
abbrev main_v275 : Ref sig .tc := ⟨.hbm, 407, rfl⟩
abbrev main_v276 : Ref sig .tc := ⟨.hbm, 408, rfl⟩
abbrev main_v277 : Ref sig .tc := ⟨.hbm, 409, rfl⟩
abbrev main_cst_69 : Ref sig .tc := ⟨.hbm, 410, rfl⟩
abbrev main_v278 : Ref sig .tc := ⟨.hbm, 411, rfl⟩
abbrev main_v279 : Ref sig .tc := ⟨.hbm, 412, rfl⟩
abbrev main_v280 : Ref sig .tc := ⟨.hbm, 413, rfl⟩
abbrev main_v281 : Ref sig .tc := ⟨.hbm, 414, rfl⟩
abbrev main_v282 : Ref sig .tc := ⟨.hbm, 415, rfl⟩
abbrev main_cst_70 : Ref sig .tc := ⟨.hbm, 416, rfl⟩
abbrev main_v283 : Ref sig .tc := ⟨.hbm, 417, rfl⟩
abbrev main_v284 : Ref sig .tc := ⟨.hbm, 418, rfl⟩
abbrev main_v285 : Ref sig .tc := ⟨.hbm, 419, rfl⟩
abbrev main_v286 : Ref sig .tc := ⟨.hbm, 420, rfl⟩
abbrev main_cst_71 : Ref sig .tc := ⟨.hbm, 421, rfl⟩
abbrev main_v287 : Ref sig .tc := ⟨.hbm, 422, rfl⟩
abbrev main_v288 : Ref sig .tc := ⟨.hbm, 423, rfl⟩
abbrev main_v289 : Ref sig .tc := ⟨.hbm, 424, rfl⟩
abbrev main_v290 : Ref sig .tc := ⟨.hbm, 425, rfl⟩
abbrev main_v291 : Ref sig .tc := ⟨.hbm, 426, rfl⟩
abbrev main_v292 : Ref sig .tc := ⟨.hbm, 427, rfl⟩
abbrev main_v293 : Ref sig .tc := ⟨.hbm, 428, rfl⟩
abbrev main_v294 : Ref sig .tc := ⟨.hbm, 429, rfl⟩
abbrev main_v295 : Ref sig .tc := ⟨.hbm, 430, rfl⟩
abbrev main_v296 : Ref sig .tc := ⟨.hbm, 431, rfl⟩
abbrev main_v297 : Ref sig .tc := ⟨.hbm, 432, rfl⟩
abbrev main_v298 : Ref sig .tc := ⟨.hbm, 433, rfl⟩
abbrev main_v299 : Ref sig .tc := ⟨.hbm, 434, rfl⟩
abbrev main_v300 : Ref sig .tc := ⟨.hbm, 435, rfl⟩
abbrev main_v301 : Ref sig .tc := ⟨.hbm, 436, rfl⟩
abbrev main_v302 : Ref sig .tc := ⟨.hbm, 437, rfl⟩
abbrev main_v303 : Ref sig .tc := ⟨.hbm, 438, rfl⟩
abbrev main_v304 : Ref sig .tc := ⟨.hbm, 439, rfl⟩
abbrev main_v305 : Ref sig .tc := ⟨.hbm, 440, rfl⟩
abbrev main_v306 : Ref sig .tc := ⟨.hbm, 441, rfl⟩
abbrev main_v307 : Ref sig .tc := ⟨.hbm, 442, rfl⟩
abbrev main_v308 : Ref sig .tc := ⟨.hbm, 443, rfl⟩
abbrev main_cst_72 : Ref sig .tc := ⟨.hbm, 444, rfl⟩
abbrev main_v309 : Ref sig .tc := ⟨.hbm, 445, rfl⟩
abbrev main_v310 : Ref sig .tc := ⟨.hbm, 446, rfl⟩
abbrev main_v311 : Ref sig .tc := ⟨.hbm, 447, rfl⟩
abbrev main_cst_73 : Ref sig .tc := ⟨.hbm, 448, rfl⟩
abbrev main_v312 : Ref sig .tc := ⟨.hbm, 449, rfl⟩
abbrev main_v313 : Ref sig .tc := ⟨.hbm, 450, rfl⟩
abbrev main_v314 : Ref sig .tc := ⟨.hbm, 451, rfl⟩
abbrev main_v315 : Ref sig .tc := ⟨.hbm, 452, rfl⟩
abbrev main_v316 : Ref sig .tc := ⟨.hbm, 453, rfl⟩
abbrev main_c_74 : Ref sig .tc := ⟨.hbm, 454, rfl⟩
abbrev main_call9_v0 : Ref sig .tc := ⟨.hbm, 455, rfl⟩
abbrev main_call9_v1 : Ref sig .tc := ⟨.hbm, 456, rfl⟩
abbrev main_call9_v2 : Ref sig .tc := ⟨.hbm, 457, rfl⟩
abbrev main_v317 : Ref sig .tc := ⟨.hbm, 458, rfl⟩
abbrev main_c_75 : Ref sig .tc := ⟨.hbm, 459, rfl⟩
abbrev main_v318 : Ref sig .tc := ⟨.hbm, 460, rfl⟩
abbrev main_cst_76 : Ref sig .tc := ⟨.hbm, 461, rfl⟩
abbrev main_v319 : Ref sig .tc := ⟨.hbm, 462, rfl⟩
abbrev main_v320 : Ref sig .tc := ⟨.hbm, 463, rfl⟩
abbrev main_v321 : Ref sig .tc := ⟨.hbm, 464, rfl⟩
abbrev main_v322 : Ref sig .tc := ⟨.hbm, 465, rfl⟩
abbrev main_c_77 : Ref sig .tc := ⟨.hbm, 466, rfl⟩
abbrev main_c_78 : Ref sig .tc := ⟨.hbm, 467, rfl⟩
abbrev main_call10_v0 : Ref sig .tc := ⟨.hbm, 468, rfl⟩
abbrev main_call10_v1 : Ref sig .tc := ⟨.hbm, 469, rfl⟩
abbrev main_call10_v2 : Ref sig .tc := ⟨.hbm, 470, rfl⟩
abbrev main_call10_v3 : Ref sig .tc := ⟨.hbm, 471, rfl⟩
abbrev main_call10_v4 : Ref sig .tc := ⟨.hbm, 472, rfl⟩
abbrev main_v323 : Ref sig .tc := ⟨.hbm, 473, rfl⟩
abbrev main_cst_79 : Ref sig .tc := ⟨.hbm, 474, rfl⟩
abbrev main_v324 : Ref sig .tc := ⟨.hbm, 475, rfl⟩
abbrev main_v325 : Ref sig .tc := ⟨.hbm, 476, rfl⟩
abbrev main_v326 : Ref sig .tc := ⟨.hbm, 477, rfl⟩
abbrev main_v327 : Ref sig .tc := ⟨.hbm, 478, rfl⟩
abbrev main_c_80 : Ref sig .tc := ⟨.hbm, 479, rfl⟩
abbrev main_c_81 : Ref sig .tc := ⟨.hbm, 480, rfl⟩
abbrev main_call11_v0 : Ref sig .tc := ⟨.hbm, 481, rfl⟩
abbrev main_call11_v1 : Ref sig .tc := ⟨.hbm, 482, rfl⟩
abbrev main_call11_v2 : Ref sig .tc := ⟨.hbm, 483, rfl⟩
abbrev main_call11_v3 : Ref sig .tc := ⟨.hbm, 484, rfl⟩
abbrev main_call11_v4 : Ref sig .tc := ⟨.hbm, 485, rfl⟩
abbrev main_v328 : Ref sig .tc := ⟨.hbm, 486, rfl⟩
abbrev main_v329 : Ref sig .tc := ⟨.hbm, 487, rfl⟩
abbrev main_v330 : Ref sig .tc := ⟨.hbm, 488, rfl⟩
abbrev main_c_82 : Ref sig .tc := ⟨.hbm, 489, rfl⟩
abbrev main_v331 : Ref sig .tc := ⟨.hbm, 490, rfl⟩
abbrev main_v332 : Ref sig .tc := ⟨.hbm, 491, rfl⟩
abbrev main_c_83 : Ref sig .tc := ⟨.hbm, 492, rfl⟩
abbrev main_v333 : Ref sig .tc := ⟨.hbm, 493, rfl⟩
abbrev main_v334 : Ref sig .tc := ⟨.hbm, 494, rfl⟩
abbrev main_v335 : Ref sig .tc := ⟨.hbm, 495, rfl⟩
abbrev main_c_84 : Ref sig .tc := ⟨.hbm, 496, rfl⟩
abbrev main_v336 : Ref sig .tc := ⟨.hbm, 497, rfl⟩
abbrev main_v337 : Ref sig .tc := ⟨.hbm, 498, rfl⟩
abbrev main_c_85 : Ref sig .tc := ⟨.hbm, 499, rfl⟩
abbrev main_v338 : Ref sig .tc := ⟨.hbm, 500, rfl⟩
abbrev main_v339 : Ref sig .tc := ⟨.hbm, 501, rfl⟩
abbrev main_v340 : Ref sig .tc := ⟨.hbm, 502, rfl⟩
abbrev main_c_86 : Ref sig .tc := ⟨.hbm, 503, rfl⟩
abbrev main_v341 : Ref sig .tc := ⟨.hbm, 504, rfl⟩
abbrev main_v342 : Ref sig .tc := ⟨.hbm, 505, rfl⟩
abbrev main_c_87 : Ref sig .tc := ⟨.hbm, 506, rfl⟩
abbrev main_v343 : Ref sig .tc := ⟨.hbm, 507, rfl⟩
abbrev main_v344 : Ref sig .tc := ⟨.hbm, 508, rfl⟩
abbrev main_v345 : Ref sig .tc := ⟨.hbm, 509, rfl⟩
abbrev main_c_88 : Ref sig .tc := ⟨.hbm, 510, rfl⟩
abbrev main_v346 : Ref sig .tc := ⟨.hbm, 511, rfl⟩
abbrev main_v347 : Ref sig .tc := ⟨.hbm, 512, rfl⟩
abbrev main_c_89 : Ref sig .tc := ⟨.hbm, 513, rfl⟩
abbrev main_v348 : Ref sig .tc := ⟨.hbm, 514, rfl⟩
abbrev main_v349 : Ref sig .tc := ⟨.hbm, 515, rfl⟩
abbrev main_v350 : Ref sig .tc := ⟨.hbm, 516, rfl⟩
abbrev main_v351 : Ref sig .tc := ⟨.hbm, 517, rfl⟩
abbrev main_v352 : Ref sig .tc := ⟨.hbm, 518, rfl⟩
abbrev main_v353 : Ref sig .tc := ⟨.hbm, 519, rfl⟩
abbrev main_v354 : Ref sig .tc := ⟨.hbm, 520, rfl⟩
abbrev main_v355 : Ref sig .tc := ⟨.hbm, 521, rfl⟩
abbrev main_v356 : Ref sig .tc := ⟨.hbm, 522, rfl⟩
abbrev main_v357 : Ref sig .tc := ⟨.hbm, 523, rfl⟩
abbrev main_v358 : Ref sig .tc := ⟨.hbm, 524, rfl⟩
abbrev main_v359 : Ref sig .tc := ⟨.hbm, 525, rfl⟩
abbrev main_v360 : Ref sig .tc := ⟨.hbm, 526, rfl⟩
abbrev main_v361 : Ref sig .tc := ⟨.hbm, 527, rfl⟩
abbrev main_cst_90 : Ref sig .tc := ⟨.hbm, 528, rfl⟩
abbrev main_v362 : Ref sig .tc := ⟨.hbm, 529, rfl⟩
abbrev main_v363 : Ref sig .tc := ⟨.hbm, 530, rfl⟩
abbrev main_cst_91 : Ref sig .tc := ⟨.hbm, 531, rfl⟩
abbrev main_v364 : Ref sig .tc := ⟨.hbm, 532, rfl⟩
abbrev main_v365 : Ref sig .tc := ⟨.hbm, 533, rfl⟩
abbrev main_v366 : Ref sig .tc := ⟨.hbm, 534, rfl⟩
abbrev main_cst_92 : Ref sig .tc := ⟨.hbm, 535, rfl⟩
abbrev main_v367 : Ref sig .tc := ⟨.hbm, 536, rfl⟩
abbrev main_v368 : Ref sig .tc := ⟨.hbm, 537, rfl⟩
abbrev main_v369 : Ref sig .tc := ⟨.hbm, 538, rfl⟩
abbrev main_v370 : Ref sig .tc := ⟨.hbm, 539, rfl⟩
abbrev main_v371 : Ref sig .tc := ⟨.hbm, 540, rfl⟩
abbrev main_v372 : Ref sig .tc := ⟨.hbm, 541, rfl⟩
abbrev main_v373 : Ref sig .tc := ⟨.hbm, 542, rfl⟩
abbrev main_cst_93 : Ref sig .tc := ⟨.hbm, 543, rfl⟩
abbrev main_v374 : Ref sig .tc := ⟨.hbm, 544, rfl⟩
abbrev main_v375 : Ref sig .tc := ⟨.hbm, 545, rfl⟩
abbrev main_cst_94 : Ref sig .tc := ⟨.hbm, 546, rfl⟩
abbrev main_v376 : Ref sig .tc := ⟨.hbm, 547, rfl⟩
abbrev main_v377 : Ref sig .tc := ⟨.hbm, 548, rfl⟩
abbrev main_v378 : Ref sig .tc := ⟨.hbm, 549, rfl⟩
abbrev main_cst_95 : Ref sig .tc := ⟨.hbm, 550, rfl⟩
abbrev main_v379 : Ref sig .tc := ⟨.hbm, 551, rfl⟩
abbrev main_v380 : Ref sig .tc := ⟨.hbm, 552, rfl⟩
abbrev main_v381 : Ref sig .tc := ⟨.hbm, 553, rfl⟩
abbrev main_v382 : Ref sig .tc := ⟨.hbm, 554, rfl⟩
abbrev main_v383 : Ref sig .tc := ⟨.hbm, 555, rfl⟩
abbrev main_v384 : Ref sig .tc := ⟨.hbm, 556, rfl⟩
abbrev main_c_96 : Ref sig .tc := ⟨.hbm, 557, rfl⟩
abbrev main_v385 : Ref sig .tc := ⟨.hbm, 558, rfl⟩
abbrev main_v386 : Ref sig .tc := ⟨.hbm, 559, rfl⟩
abbrev main_c_97 : Ref sig .tc := ⟨.hbm, 560, rfl⟩
abbrev main_v387 : Ref sig .tc := ⟨.hbm, 561, rfl⟩
abbrev main_v388 : Ref sig .tc := ⟨.hbm, 562, rfl⟩
abbrev main_v389 : Ref sig .tc := ⟨.hbm, 563, rfl⟩
abbrev main_v390 : Ref sig .tc := ⟨.hbm, 564, rfl⟩
abbrev main_v391 : Ref sig .tc := ⟨.hbm, 565, rfl⟩
abbrev main_v392 : Ref sig .tc := ⟨.hbm, 566, rfl⟩
abbrev main_v393 : Ref sig .tc := ⟨.hbm, 567, rfl⟩
abbrev main_v394 : Ref sig .tc := ⟨.hbm, 568, rfl⟩
abbrev main_v395 : Ref sig .tc := ⟨.hbm, 569, rfl⟩
abbrev main_c_98 : Ref sig .tc := ⟨.hbm, 570, rfl⟩
abbrev main_v396 : Ref sig .tc := ⟨.hbm, 571, rfl⟩
abbrev main_v397 : Ref sig .tc := ⟨.hbm, 572, rfl⟩
abbrev main_c_99 : Ref sig .tc := ⟨.hbm, 573, rfl⟩
abbrev main_v398 : Ref sig .tc := ⟨.hbm, 574, rfl⟩
abbrev main_v399 : Ref sig .tc := ⟨.hbm, 575, rfl⟩
abbrev main_v400 : Ref sig .tc := ⟨.hbm, 576, rfl⟩
abbrev main_v401 : Ref sig .tc := ⟨.hbm, 577, rfl⟩
abbrev main_v402 : Ref sig .tc := ⟨.hbm, 578, rfl⟩
abbrev main_v403 : Ref sig .tc := ⟨.hbm, 579, rfl⟩
abbrev main_v404 : Ref sig .tc := ⟨.hbm, 580, rfl⟩
abbrev main_v405 : Ref sig .tc := ⟨.hbm, 581, rfl⟩
abbrev main_v406 : Ref sig .tc := ⟨.hbm, 582, rfl⟩
abbrev main_cst_100 : Ref sig .tc := ⟨.hbm, 583, rfl⟩
abbrev main_v407 : Ref sig .tc := ⟨.hbm, 584, rfl⟩
abbrev main_v408 : Ref sig .tc := ⟨.hbm, 585, rfl⟩
abbrev main_v409 : Ref sig .tc := ⟨.hbm, 586, rfl⟩
abbrev main_cst_101 : Ref sig .tc := ⟨.hbm, 587, rfl⟩
abbrev main_v410 : Ref sig .tc := ⟨.hbm, 588, rfl⟩
abbrev main_v411 : Ref sig .tc := ⟨.hbm, 589, rfl⟩
abbrev main_v412 : Ref sig .tc := ⟨.hbm, 590, rfl⟩
abbrev main_cst_102 : Ref sig .tc := ⟨.hbm, 591, rfl⟩
abbrev main_v413 : Ref sig .tc := ⟨.hbm, 592, rfl⟩
abbrev main_v414 : Ref sig .tc := ⟨.hbm, 593, rfl⟩
abbrev main_v415 : Ref sig .tc := ⟨.hbm, 594, rfl⟩
abbrev main_cst_103 : Ref sig .tc := ⟨.hbm, 595, rfl⟩
abbrev main_v416 : Ref sig .tc := ⟨.hbm, 596, rfl⟩
abbrev main_v417 : Ref sig .tc := ⟨.hbm, 597, rfl⟩
abbrev main_v418 : Ref sig .tc := ⟨.hbm, 598, rfl⟩
abbrev main_cst_104 : Ref sig .tc := ⟨.hbm, 599, rfl⟩
abbrev main_v419 : Ref sig .tc := ⟨.hbm, 600, rfl⟩
abbrev main_v420 : Ref sig .tc := ⟨.hbm, 601, rfl⟩
abbrev main_v421 : Ref sig .tc := ⟨.hbm, 602, rfl⟩
abbrev main_cst_105 : Ref sig .tc := ⟨.hbm, 603, rfl⟩
abbrev main_v422 : Ref sig .tc := ⟨.hbm, 604, rfl⟩
abbrev main_v423 : Ref sig .tc := ⟨.hbm, 605, rfl⟩
abbrev main_v424 : Ref sig .tc := ⟨.hbm, 606, rfl⟩
abbrev main_cst_106 : Ref sig .tc := ⟨.hbm, 607, rfl⟩
abbrev main_v425 : Ref sig .tc := ⟨.hbm, 608, rfl⟩
abbrev main_v426 : Ref sig .tc := ⟨.hbm, 609, rfl⟩
abbrev main_v427 : Ref sig .tc := ⟨.hbm, 610, rfl⟩
abbrev main_cst_107 : Ref sig .tc := ⟨.hbm, 611, rfl⟩
abbrev main_v428 : Ref sig .tc := ⟨.hbm, 612, rfl⟩
abbrev main_v429 : Ref sig .tc := ⟨.hbm, 613, rfl⟩
abbrev main_v430 : Ref sig .tc := ⟨.hbm, 614, rfl⟩
abbrev main_v431 : Ref sig .tc := ⟨.hbm, 615, rfl⟩
abbrev main_v432 : Ref sig .tc := ⟨.hbm, 616, rfl⟩
abbrev main_v433 : Ref sig .tc := ⟨.hbm, 617, rfl⟩
abbrev main_cst_108 : Ref sig .tc := ⟨.hbm, 618, rfl⟩
abbrev main_call12_v0 : Ref sig .tc := ⟨.hbm, 619, rfl⟩
abbrev main_call12_v1 : Ref sig .tc := ⟨.hbm, 620, rfl⟩
abbrev main_v434 : Ref sig .tc := ⟨.hbm, 621, rfl⟩
abbrev main_v435 : Ref sig .tc := ⟨.hbm, 622, rfl⟩
abbrev main_v436 : Ref sig .tc := ⟨.hbm, 623, rfl⟩
abbrev main_v437 : Ref sig .tc := ⟨.hbm, 624, rfl⟩
abbrev main_cst_109 : Ref sig .tc := ⟨.hbm, 625, rfl⟩
abbrev main_call13_v0 : Ref sig .tc := ⟨.hbm, 626, rfl⟩
abbrev main_call13_v1 : Ref sig .tc := ⟨.hbm, 627, rfl⟩
abbrev main_v438 : Ref sig .tc := ⟨.hbm, 628, rfl⟩
abbrev main_v439 : Ref sig .tc := ⟨.hbm, 629, rfl⟩
abbrev main_v440 : Ref sig .tc := ⟨.hbm, 630, rfl⟩
abbrev main_v441 : Ref sig .tc := ⟨.hbm, 631, rfl⟩
abbrev main_v442 : Ref sig .tc := ⟨.hbm, 632, rfl⟩
abbrev main_v443 : Ref sig .tc := ⟨.hbm, 633, rfl⟩
abbrev main_cst_110 : Ref sig .tc := ⟨.hbm, 634, rfl⟩
abbrev main_v444 : Ref sig .tc := ⟨.hbm, 635, rfl⟩
abbrev main_v445 : Ref sig .tc := ⟨.hbm, 636, rfl⟩
abbrev main_v446 : Ref sig .tc := ⟨.hbm, 637, rfl⟩
abbrev main_v447 : Ref sig .tc := ⟨.hbm, 638, rfl⟩
abbrev main_v448 : Ref sig .tc := ⟨.hbm, 639, rfl⟩
abbrev main_v449 : Ref sig .tc := ⟨.hbm, 640, rfl⟩
abbrev main_v450 : Ref sig .tc := ⟨.hbm, 641, rfl⟩
abbrev main_v451 : Ref sig .tc := ⟨.hbm, 642, rfl⟩
abbrev main_v452 : Ref sig .tc := ⟨.hbm, 643, rfl⟩
abbrev main_v453 : Ref sig .tc := ⟨.hbm, 644, rfl⟩
abbrev main_cst_111 : Ref sig .tc := ⟨.hbm, 645, rfl⟩
abbrev main_v454 : Ref sig .tc := ⟨.hbm, 646, rfl⟩
abbrev main_v455 : Ref sig .tc := ⟨.hbm, 647, rfl⟩
abbrev main_v456 : Ref sig .tc := ⟨.hbm, 648, rfl⟩
abbrev main_v457 : Ref sig .tc := ⟨.hbm, 649, rfl⟩
abbrev main_v458 : Ref sig .tc := ⟨.hbm, 650, rfl⟩
abbrev main_c_112 : Ref sig .tc := ⟨.hbm, 651, rfl⟩
abbrev main_v459 : Ref sig .tc := ⟨.hbm, 652, rfl⟩
abbrev main_v460 : Ref sig .tc := ⟨.hbm, 653, rfl⟩
abbrev main_v461 : Ref sig .tc := ⟨.hbm, 654, rfl⟩
abbrev main_v462 : Ref sig .tc := ⟨.hbm, 655, rfl⟩
abbrev main_cst_113 : Ref sig .tc := ⟨.hbm, 656, rfl⟩
abbrev main_v463 : Ref sig .tc := ⟨.hbm, 657, rfl⟩
abbrev main_v464 : Ref sig .tc := ⟨.hbm, 658, rfl⟩
abbrev main_v465 : Ref sig .tc := ⟨.hbm, 659, rfl⟩
abbrev main_cst_114 : Ref sig .tc := ⟨.hbm, 660, rfl⟩
abbrev main_v466 : Ref sig .tc := ⟨.hbm, 661, rfl⟩
abbrev main_call14_v0 : Ref sig .tc := ⟨.hbm, 662, rfl⟩
abbrev main_call14_v1 : Ref sig .tc := ⟨.hbm, 663, rfl⟩
abbrev main_call14_v2 : Ref sig .tc := ⟨.hbm, 664, rfl⟩
abbrev main_call14_v3 : Ref sig .tc := ⟨.hbm, 665, rfl⟩
abbrev main_call14_v4 : Ref sig .tc := ⟨.hbm, 666, rfl⟩
abbrev main_v467 : Ref sig .tc := ⟨.hbm, 667, rfl⟩
abbrev main_call15_cst : Ref sig .tc := ⟨.hbm, 668, rfl⟩
abbrev main_call15_v0 : Ref sig .tc := ⟨.hbm, 669, rfl⟩
abbrev main_call15_v1 : Ref sig .tc := ⟨.hbm, 670, rfl⟩
abbrev main_call15_v2 : Ref sig .tc := ⟨.hbm, 671, rfl⟩
abbrev main_call15_v3 : Ref sig .tc := ⟨.hbm, 672, rfl⟩
abbrev main_call15_v4 : Ref sig .tc := ⟨.hbm, 673, rfl⟩
abbrev main_call15_v5 : Ref sig .tc := ⟨.hbm, 674, rfl⟩
abbrev main_call15_v6 : Ref sig .tc := ⟨.hbm, 675, rfl⟩
abbrev main_call15_v7 : Ref sig .tc := ⟨.hbm, 676, rfl⟩
abbrev main_call15_v8 : Ref sig .tc := ⟨.hbm, 677, rfl⟩
abbrev main_call15_v9 : Ref sig .tc := ⟨.hbm, 678, rfl⟩
abbrev main_call15_v10 : Ref sig .tc := ⟨.hbm, 679, rfl⟩
abbrev main_call15_v11 : Ref sig .tc := ⟨.hbm, 680, rfl⟩
abbrev main_v468 : Ref sig .tc := ⟨.hbm, 681, rfl⟩
abbrev main_v469 : Ref sig .tc := ⟨.hbm, 682, rfl⟩
abbrev main_v470 : Ref sig .tc := ⟨.hbm, 683, rfl⟩
abbrev main_cst_115 : Ref sig .tc := ⟨.hbm, 684, rfl⟩
abbrev main_v471 : Ref sig .tc := ⟨.hbm, 685, rfl⟩
abbrev main_cst_116 : Ref sig .tc := ⟨.hbm, 686, rfl⟩
abbrev main_v472 : Ref sig .tc := ⟨.hbm, 687, rfl⟩
abbrev main_v473 : Ref sig .tc := ⟨.hbm, 688, rfl⟩
abbrev main_v474 : Ref sig .tc := ⟨.hbm, 689, rfl⟩
abbrev main_cst_117 : Ref sig .tc := ⟨.hbm, 690, rfl⟩
abbrev main_v475 : Ref sig .tc := ⟨.hbm, 691, rfl⟩
abbrev main_cst_118 : Ref sig .tc := ⟨.hbm, 692, rfl⟩
abbrev main_cst_119 : Ref sig .tc := ⟨.hbm, 693, rfl⟩
abbrev main_call16_v0 : Ref sig .tc := ⟨.hbm, 694, rfl⟩
abbrev main_call16_v1 : Ref sig .tc := ⟨.hbm, 695, rfl⟩
abbrev main_call16_v2 : Ref sig .tc := ⟨.hbm, 696, rfl⟩
abbrev main_call16_v3 : Ref sig .tc := ⟨.hbm, 697, rfl⟩
abbrev main_call16_v4 : Ref sig .tc := ⟨.hbm, 698, rfl⟩
abbrev main_v476 : Ref sig .tc := ⟨.hbm, 699, rfl⟩
abbrev main_call17_cst : Ref sig .tc := ⟨.hbm, 700, rfl⟩
abbrev main_call17_v0 : Ref sig .tc := ⟨.hbm, 701, rfl⟩
abbrev main_call17_v1 : Ref sig .tc := ⟨.hbm, 702, rfl⟩
abbrev main_call17_v2 : Ref sig .tc := ⟨.hbm, 703, rfl⟩
abbrev main_call17_v3 : Ref sig .tc := ⟨.hbm, 704, rfl⟩
abbrev main_call17_v4 : Ref sig .tc := ⟨.hbm, 705, rfl⟩
abbrev main_call17_v5 : Ref sig .tc := ⟨.hbm, 706, rfl⟩
abbrev main_call17_v6 : Ref sig .tc := ⟨.hbm, 707, rfl⟩
abbrev main_call17_v7 : Ref sig .tc := ⟨.hbm, 708, rfl⟩
abbrev main_call17_v8 : Ref sig .tc := ⟨.hbm, 709, rfl⟩
abbrev main_call17_v9 : Ref sig .tc := ⟨.hbm, 710, rfl⟩
abbrev main_call17_v10 : Ref sig .tc := ⟨.hbm, 711, rfl⟩
abbrev main_call17_v11 : Ref sig .tc := ⟨.hbm, 712, rfl⟩
abbrev main_v477 : Ref sig .tc := ⟨.hbm, 713, rfl⟩
abbrev main_v478 : Ref sig .tc := ⟨.hbm, 714, rfl⟩
abbrev main_v479 : Ref sig .tc := ⟨.hbm, 715, rfl⟩
abbrev main_v480 : Ref sig .tc := ⟨.hbm, 716, rfl⟩
abbrev main_cst_120 : Ref sig .tc := ⟨.hbm, 717, rfl⟩
abbrev main_v481 : Ref sig .tc := ⟨.hbm, 718, rfl⟩
abbrev main_v482 : Ref sig .tc := ⟨.hbm, 719, rfl⟩
abbrev main_cst_121 : Ref sig .tc := ⟨.hbm, 720, rfl⟩
abbrev main_v483 : Ref sig .tc := ⟨.hbm, 721, rfl⟩
abbrev main_v484 : Ref sig .tc := ⟨.hbm, 722, rfl⟩
abbrev main_v485 : Ref sig .tc := ⟨.hbm, 723, rfl⟩
abbrev main_v486 : Ref sig .tc := ⟨.hbm, 724, rfl⟩
abbrev main_v487 : Ref sig .tc := ⟨.hbm, 725, rfl⟩
abbrev main_v488 : Ref sig .tc := ⟨.hbm, 726, rfl⟩
abbrev main_v489 : Ref sig .tc := ⟨.hbm, 727, rfl⟩
abbrev main_v490 : Ref sig .tc := ⟨.hbm, 728, rfl⟩
abbrev main_v491 : Ref sig .tc := ⟨.hbm, 729, rfl⟩
abbrev main_v492 : Ref sig .tc := ⟨.hbm, 730, rfl⟩
abbrev main_v493 : Ref sig .tc := ⟨.hbm, 731, rfl⟩
abbrev main_v494 : Ref sig .tc := ⟨.hbm, 732, rfl⟩
abbrev main_v495 : Ref sig .tc := ⟨.hbm, 733, rfl⟩
abbrev main_v496 : Ref sig .tc := ⟨.hbm, 734, rfl⟩
abbrev main_v497 : Ref sig .tc := ⟨.hbm, 735, rfl⟩
abbrev main_v498 : Ref sig .tc := ⟨.hbm, 736, rfl⟩
abbrev main_v499 : Ref sig .tc := ⟨.hbm, 737, rfl⟩
abbrev main_v500 : Ref sig .tc := ⟨.hbm, 738, rfl⟩
abbrev main_v501 : Ref sig .tc := ⟨.hbm, 739, rfl⟩
abbrev main_cst_122 : Ref sig .tc := ⟨.hbm, 740, rfl⟩
abbrev main_v502 : Ref sig .tc := ⟨.hbm, 741, rfl⟩
abbrev main_v503 : Ref sig .tc := ⟨.hbm, 742, rfl⟩
abbrev main_cst_123 : Ref sig .tc := ⟨.hbm, 743, rfl⟩
abbrev main_v504 : Ref sig .tc := ⟨.hbm, 744, rfl⟩
abbrev main_v505 : Ref sig .tc := ⟨.hbm, 745, rfl⟩
abbrev main_v506 : Ref sig .tc := ⟨.hbm, 746, rfl⟩
abbrev main_cst_124 : Ref sig .tc := ⟨.hbm, 747, rfl⟩
abbrev main_v507 : Ref sig .tc := ⟨.hbm, 748, rfl⟩
abbrev main_v508 : Ref sig .tc := ⟨.hbm, 749, rfl⟩
abbrev main_v509 : Ref sig .tc := ⟨.hbm, 750, rfl⟩
abbrev main_cst_125 : Ref sig .tc := ⟨.hbm, 751, rfl⟩
abbrev main_v510 : Ref sig .tc := ⟨.hbm, 752, rfl⟩
abbrev main_v511 : Ref sig .tc := ⟨.hbm, 753, rfl⟩
abbrev main_v512 : Ref sig .tc := ⟨.hbm, 754, rfl⟩
abbrev main_cst_126 : Ref sig .tc := ⟨.hbm, 755, rfl⟩
abbrev main_v513 : Ref sig .tc := ⟨.hbm, 756, rfl⟩
abbrev main_v514 : Ref sig .tc := ⟨.hbm, 757, rfl⟩
abbrev main_v515 : Ref sig .tc := ⟨.hbm, 758, rfl⟩
abbrev main_cst_127 : Ref sig .tc := ⟨.hbm, 759, rfl⟩
abbrev main_v516 : Ref sig .tc := ⟨.hbm, 760, rfl⟩
abbrev main_v517 : Ref sig .tc := ⟨.hbm, 761, rfl⟩
abbrev main_v518 : Ref sig .tc := ⟨.hbm, 762, rfl⟩
abbrev main_cst_128 : Ref sig .tc := ⟨.hbm, 763, rfl⟩
abbrev main_v519 : Ref sig .tc := ⟨.hbm, 764, rfl⟩
abbrev main_v520 : Ref sig .tc := ⟨.hbm, 765, rfl⟩
abbrev main_v521 : Ref sig .tc := ⟨.hbm, 766, rfl⟩
abbrev main_cst_129 : Ref sig .tc := ⟨.hbm, 767, rfl⟩
abbrev main_v522 : Ref sig .tc := ⟨.hbm, 768, rfl⟩
abbrev main_v523 : Ref sig .tc := ⟨.hbm, 769, rfl⟩
abbrev main_v524 : Ref sig .tc := ⟨.hbm, 770, rfl⟩
abbrev main_v525 : Ref sig .tc := ⟨.hbm, 771, rfl⟩
abbrev main_v526 : Ref sig .tc := ⟨.hbm, 772, rfl⟩
abbrev main_cst_130 : Ref sig .tc := ⟨.hbm, 773, rfl⟩
abbrev main_v527 : Ref sig .tc := ⟨.hbm, 774, rfl⟩
abbrev main_v528 : Ref sig .tc := ⟨.hbm, 775, rfl⟩
abbrev main_v529 : Ref sig .tc := ⟨.hbm, 776, rfl⟩
abbrev main_v530 : Ref sig .tc := ⟨.hbm, 777, rfl⟩
abbrev main_cst_131 : Ref sig .tc := ⟨.hbm, 778, rfl⟩
abbrev main_v531 : Ref sig .tc := ⟨.hbm, 779, rfl⟩
abbrev main_v532 : Ref sig .tc := ⟨.hbm, 780, rfl⟩
abbrev main_v533 : Ref sig .tc := ⟨.hbm, 781, rfl⟩
abbrev main_v534 : Ref sig .tc := ⟨.hbm, 782, rfl⟩
abbrev main_v535 : Ref sig .tc := ⟨.hbm, 783, rfl⟩
abbrev main_v536 : Ref sig .tc := ⟨.hbm, 784, rfl⟩
abbrev main_v537 : Ref sig .tc := ⟨.hbm, 785, rfl⟩
abbrev main_v538 : Ref sig .tc := ⟨.hbm, 786, rfl⟩
abbrev main_v539 : Ref sig .tc := ⟨.hbm, 787, rfl⟩
abbrev main_v540 : Ref sig .tc := ⟨.hbm, 788, rfl⟩
abbrev main_v541 : Ref sig .tc := ⟨.hbm, 789, rfl⟩
abbrev main_v542 : Ref sig .tc := ⟨.hbm, 790, rfl⟩
abbrev main_v543 : Ref sig .tc := ⟨.hbm, 791, rfl⟩
abbrev main_v544 : Ref sig .tc := ⟨.hbm, 792, rfl⟩
abbrev main_v545 : Ref sig .tc := ⟨.hbm, 793, rfl⟩
abbrev main_v546 : Ref sig .tc := ⟨.hbm, 794, rfl⟩
abbrev main_v547 : Ref sig .tc := ⟨.hbm, 795, rfl⟩
abbrev main_v548 : Ref sig .tc := ⟨.hbm, 796, rfl⟩
abbrev main_v549 : Ref sig .tc := ⟨.hbm, 797, rfl⟩
abbrev main_v550 : Ref sig .tc := ⟨.hbm, 798, rfl⟩
abbrev main_v551 : Ref sig .tc := ⟨.hbm, 799, rfl⟩
abbrev main_v552 : Ref sig .tc := ⟨.hbm, 800, rfl⟩
abbrev main_cst_132 : Ref sig .tc := ⟨.hbm, 801, rfl⟩
abbrev main_v553 : Ref sig .tc := ⟨.hbm, 802, rfl⟩
abbrev main_v554 : Ref sig .tc := ⟨.hbm, 803, rfl⟩
abbrev main_v555 : Ref sig .tc := ⟨.hbm, 804, rfl⟩
abbrev main_cst_133 : Ref sig .tc := ⟨.hbm, 805, rfl⟩
abbrev main_v556 : Ref sig .tc := ⟨.hbm, 806, rfl⟩
abbrev main_v557 : Ref sig .tc := ⟨.hbm, 807, rfl⟩
abbrev main_v558 : Ref sig .tc := ⟨.hbm, 808, rfl⟩
abbrev main_v559 : Ref sig .tc := ⟨.hbm, 809, rfl⟩
abbrev main_v560 : Ref sig .tc := ⟨.hbm, 810, rfl⟩
abbrev main_c_134 : Ref sig .tc := ⟨.hbm, 811, rfl⟩
abbrev main_call18_v0 : Ref sig .tc := ⟨.hbm, 812, rfl⟩
abbrev main_call18_v1 : Ref sig .tc := ⟨.hbm, 813, rfl⟩
abbrev main_call18_v2 : Ref sig .tc := ⟨.hbm, 814, rfl⟩
abbrev main_v561 : Ref sig .tc := ⟨.hbm, 815, rfl⟩
abbrev main_c_135 : Ref sig .tc := ⟨.hbm, 816, rfl⟩
abbrev main_v562 : Ref sig .tc := ⟨.hbm, 817, rfl⟩
abbrev main_cst_136 : Ref sig .tc := ⟨.hbm, 818, rfl⟩
abbrev main_v563 : Ref sig .tc := ⟨.hbm, 819, rfl⟩
abbrev main_v564 : Ref sig .tc := ⟨.hbm, 820, rfl⟩
abbrev main_v565 : Ref sig .tc := ⟨.hbm, 821, rfl⟩
abbrev main_v566 : Ref sig .tc := ⟨.hbm, 822, rfl⟩
abbrev main_c_137 : Ref sig .tc := ⟨.hbm, 823, rfl⟩
abbrev main_c_138 : Ref sig .tc := ⟨.hbm, 824, rfl⟩
abbrev main_call19_v0 : Ref sig .tc := ⟨.hbm, 825, rfl⟩
abbrev main_call19_v1 : Ref sig .tc := ⟨.hbm, 826, rfl⟩
abbrev main_call19_v2 : Ref sig .tc := ⟨.hbm, 827, rfl⟩
abbrev main_call19_v3 : Ref sig .tc := ⟨.hbm, 828, rfl⟩
abbrev main_call19_v4 : Ref sig .tc := ⟨.hbm, 829, rfl⟩
abbrev main_v567 : Ref sig .tc := ⟨.hbm, 830, rfl⟩
abbrev main_cst_139 : Ref sig .tc := ⟨.hbm, 831, rfl⟩
abbrev main_v568 : Ref sig .tc := ⟨.hbm, 832, rfl⟩
abbrev main_v569 : Ref sig .tc := ⟨.hbm, 833, rfl⟩
abbrev main_v570 : Ref sig .tc := ⟨.hbm, 834, rfl⟩
abbrev main_v571 : Ref sig .tc := ⟨.hbm, 835, rfl⟩
abbrev main_c_140 : Ref sig .tc := ⟨.hbm, 836, rfl⟩
abbrev main_c_141 : Ref sig .tc := ⟨.hbm, 837, rfl⟩
abbrev main_call20_v0 : Ref sig .tc := ⟨.hbm, 838, rfl⟩
abbrev main_call20_v1 : Ref sig .tc := ⟨.hbm, 839, rfl⟩
abbrev main_call20_v2 : Ref sig .tc := ⟨.hbm, 840, rfl⟩
abbrev main_call20_v3 : Ref sig .tc := ⟨.hbm, 841, rfl⟩
abbrev main_call20_v4 : Ref sig .tc := ⟨.hbm, 842, rfl⟩
abbrev main_v572 : Ref sig .tc := ⟨.hbm, 843, rfl⟩
abbrev main_v573 : Ref sig .tc := ⟨.hbm, 844, rfl⟩
abbrev main_v574 : Ref sig .tc := ⟨.hbm, 845, rfl⟩
abbrev main_c_142 : Ref sig .tc := ⟨.hbm, 846, rfl⟩
abbrev main_v575 : Ref sig .tc := ⟨.hbm, 847, rfl⟩
abbrev main_v576 : Ref sig .tc := ⟨.hbm, 848, rfl⟩
abbrev main_c_143 : Ref sig .tc := ⟨.hbm, 849, rfl⟩
abbrev main_v577 : Ref sig .tc := ⟨.hbm, 850, rfl⟩
abbrev main_v578 : Ref sig .tc := ⟨.hbm, 851, rfl⟩
abbrev main_v579 : Ref sig .tc := ⟨.hbm, 852, rfl⟩
abbrev main_c_144 : Ref sig .tc := ⟨.hbm, 853, rfl⟩
abbrev main_v580 : Ref sig .tc := ⟨.hbm, 854, rfl⟩
abbrev main_v581 : Ref sig .tc := ⟨.hbm, 855, rfl⟩
abbrev main_c_145 : Ref sig .tc := ⟨.hbm, 856, rfl⟩
abbrev main_v582 : Ref sig .tc := ⟨.hbm, 857, rfl⟩
abbrev main_v583 : Ref sig .tc := ⟨.hbm, 858, rfl⟩
abbrev main_v584 : Ref sig .tc := ⟨.hbm, 859, rfl⟩
abbrev main_c_146 : Ref sig .tc := ⟨.hbm, 860, rfl⟩
abbrev main_v585 : Ref sig .tc := ⟨.hbm, 861, rfl⟩
abbrev main_v586 : Ref sig .tc := ⟨.hbm, 862, rfl⟩
abbrev main_c_147 : Ref sig .tc := ⟨.hbm, 863, rfl⟩
abbrev main_v587 : Ref sig .tc := ⟨.hbm, 864, rfl⟩
abbrev main_v588 : Ref sig .tc := ⟨.hbm, 865, rfl⟩
abbrev main_v589 : Ref sig .tc := ⟨.hbm, 866, rfl⟩
abbrev main_c_148 : Ref sig .tc := ⟨.hbm, 867, rfl⟩
abbrev main_v590 : Ref sig .tc := ⟨.hbm, 868, rfl⟩
abbrev main_v591 : Ref sig .tc := ⟨.hbm, 869, rfl⟩
abbrev main_c_149 : Ref sig .tc := ⟨.hbm, 870, rfl⟩
abbrev main_v592 : Ref sig .tc := ⟨.hbm, 871, rfl⟩
abbrev main_v593 : Ref sig .tc := ⟨.hbm, 872, rfl⟩
abbrev main_v594 : Ref sig .tc := ⟨.hbm, 873, rfl⟩
abbrev main_v595 : Ref sig .tc := ⟨.hbm, 874, rfl⟩
abbrev main_v596 : Ref sig .tc := ⟨.hbm, 875, rfl⟩
abbrev main_v597 : Ref sig .tc := ⟨.hbm, 876, rfl⟩
abbrev main_v598 : Ref sig .tc := ⟨.hbm, 877, rfl⟩
abbrev main_v599 : Ref sig .tc := ⟨.hbm, 878, rfl⟩
abbrev main_v600 : Ref sig .tc := ⟨.hbm, 879, rfl⟩
abbrev main_v601 : Ref sig .tc := ⟨.hbm, 880, rfl⟩
abbrev main_v602 : Ref sig .tc := ⟨.hbm, 881, rfl⟩
abbrev main_v603 : Ref sig .tc := ⟨.hbm, 882, rfl⟩
abbrev main_v604 : Ref sig .tc := ⟨.hbm, 883, rfl⟩
abbrev main_v605 : Ref sig .tc := ⟨.hbm, 884, rfl⟩
abbrev main_cst_150 : Ref sig .tc := ⟨.hbm, 885, rfl⟩
abbrev main_v606 : Ref sig .tc := ⟨.hbm, 886, rfl⟩
abbrev main_v607 : Ref sig .tc := ⟨.hbm, 887, rfl⟩
abbrev main_cst_151 : Ref sig .tc := ⟨.hbm, 888, rfl⟩
abbrev main_v608 : Ref sig .tc := ⟨.hbm, 889, rfl⟩
abbrev main_v609 : Ref sig .tc := ⟨.hbm, 890, rfl⟩
abbrev main_v610 : Ref sig .tc := ⟨.hbm, 891, rfl⟩
abbrev main_cst_152 : Ref sig .tc := ⟨.hbm, 892, rfl⟩
abbrev main_v611 : Ref sig .tc := ⟨.hbm, 893, rfl⟩
abbrev main_v612 : Ref sig .tc := ⟨.hbm, 894, rfl⟩
abbrev main_v613 : Ref sig .tc := ⟨.hbm, 895, rfl⟩
abbrev main_v614 : Ref sig .tc := ⟨.hbm, 896, rfl⟩
abbrev main_v615 : Ref sig .tc := ⟨.hbm, 897, rfl⟩
abbrev main_v616 : Ref sig .tc := ⟨.hbm, 898, rfl⟩
abbrev main_v617 : Ref sig .tc := ⟨.hbm, 899, rfl⟩
abbrev main_cst_153 : Ref sig .tc := ⟨.hbm, 900, rfl⟩
abbrev main_v618 : Ref sig .tc := ⟨.hbm, 901, rfl⟩
abbrev main_v619 : Ref sig .tc := ⟨.hbm, 902, rfl⟩
abbrev main_cst_154 : Ref sig .tc := ⟨.hbm, 903, rfl⟩
abbrev main_v620 : Ref sig .tc := ⟨.hbm, 904, rfl⟩
abbrev main_v621 : Ref sig .tc := ⟨.hbm, 905, rfl⟩
abbrev main_v622 : Ref sig .tc := ⟨.hbm, 906, rfl⟩
abbrev main_cst_155 : Ref sig .tc := ⟨.hbm, 907, rfl⟩
abbrev main_v623 : Ref sig .tc := ⟨.hbm, 908, rfl⟩
abbrev main_v624 : Ref sig .tc := ⟨.hbm, 909, rfl⟩
abbrev main_v625 : Ref sig .tc := ⟨.hbm, 910, rfl⟩
abbrev main_v626 : Ref sig .tc := ⟨.hbm, 911, rfl⟩
abbrev main_v627 : Ref sig .tc := ⟨.hbm, 912, rfl⟩
abbrev main_v628 : Ref sig .tc := ⟨.hbm, 913, rfl⟩
abbrev main_c_156 : Ref sig .tc := ⟨.hbm, 914, rfl⟩
abbrev main_v629 : Ref sig .tc := ⟨.hbm, 915, rfl⟩
abbrev main_v630 : Ref sig .tc := ⟨.hbm, 916, rfl⟩
abbrev main_c_157 : Ref sig .tc := ⟨.hbm, 917, rfl⟩
abbrev main_v631 : Ref sig .tc := ⟨.hbm, 918, rfl⟩
abbrev main_v632 : Ref sig .tc := ⟨.hbm, 919, rfl⟩
abbrev main_v633 : Ref sig .tc := ⟨.hbm, 920, rfl⟩
abbrev main_v634 : Ref sig .tc := ⟨.hbm, 921, rfl⟩
abbrev main_v635 : Ref sig .tc := ⟨.hbm, 922, rfl⟩
abbrev main_v636 : Ref sig .tc := ⟨.hbm, 923, rfl⟩
abbrev main_v637 : Ref sig .tc := ⟨.hbm, 924, rfl⟩
abbrev main_v638 : Ref sig .tc := ⟨.hbm, 925, rfl⟩
abbrev main_v639 : Ref sig .tc := ⟨.hbm, 926, rfl⟩
abbrev main_c_158 : Ref sig .tc := ⟨.hbm, 927, rfl⟩
abbrev main_v640 : Ref sig .tc := ⟨.hbm, 928, rfl⟩
abbrev main_v641 : Ref sig .tc := ⟨.hbm, 929, rfl⟩
abbrev main_c_159 : Ref sig .tc := ⟨.hbm, 930, rfl⟩
abbrev main_v642 : Ref sig .tc := ⟨.hbm, 931, rfl⟩
abbrev main_v643 : Ref sig .tc := ⟨.hbm, 932, rfl⟩
abbrev main_v644 : Ref sig .tc := ⟨.hbm, 933, rfl⟩
abbrev main_v645 : Ref sig .tc := ⟨.hbm, 934, rfl⟩
abbrev main_v646 : Ref sig .tc := ⟨.hbm, 935, rfl⟩
abbrev main_v647 : Ref sig .tc := ⟨.hbm, 936, rfl⟩
abbrev main_v648 : Ref sig .tc := ⟨.hbm, 937, rfl⟩
abbrev main_v649 : Ref sig .tc := ⟨.hbm, 938, rfl⟩
abbrev main_v650 : Ref sig .tc := ⟨.hbm, 939, rfl⟩
abbrev main_cst_160 : Ref sig .tc := ⟨.hbm, 940, rfl⟩
abbrev main_v651 : Ref sig .tc := ⟨.hbm, 941, rfl⟩
abbrev main_v652 : Ref sig .tc := ⟨.hbm, 942, rfl⟩
abbrev main_v653 : Ref sig .tc := ⟨.hbm, 943, rfl⟩
abbrev main_cst_161 : Ref sig .tc := ⟨.hbm, 944, rfl⟩
abbrev main_v654 : Ref sig .tc := ⟨.hbm, 945, rfl⟩
abbrev main_v655 : Ref sig .tc := ⟨.hbm, 946, rfl⟩
abbrev main_v656 : Ref sig .tc := ⟨.hbm, 947, rfl⟩
abbrev main_cst_162 : Ref sig .tc := ⟨.hbm, 948, rfl⟩
abbrev main_v657 : Ref sig .tc := ⟨.hbm, 949, rfl⟩
abbrev main_v658 : Ref sig .tc := ⟨.hbm, 950, rfl⟩
abbrev main_v659 : Ref sig .tc := ⟨.hbm, 951, rfl⟩
abbrev main_cst_163 : Ref sig .tc := ⟨.hbm, 952, rfl⟩
abbrev main_v660 : Ref sig .tc := ⟨.hbm, 953, rfl⟩
abbrev main_v661 : Ref sig .tc := ⟨.hbm, 954, rfl⟩
abbrev main_v662 : Ref sig .tc := ⟨.hbm, 955, rfl⟩
abbrev main_cst_164 : Ref sig .tc := ⟨.hbm, 956, rfl⟩
abbrev main_v663 : Ref sig .tc := ⟨.hbm, 957, rfl⟩
abbrev main_v664 : Ref sig .tc := ⟨.hbm, 958, rfl⟩
abbrev main_v665 : Ref sig .tc := ⟨.hbm, 959, rfl⟩
abbrev main_cst_165 : Ref sig .tc := ⟨.hbm, 960, rfl⟩
abbrev main_v666 : Ref sig .tc := ⟨.hbm, 961, rfl⟩
abbrev main_v667 : Ref sig .tc := ⟨.hbm, 962, rfl⟩
abbrev main_v668 : Ref sig .tc := ⟨.hbm, 963, rfl⟩
abbrev main_cst_166 : Ref sig .tc := ⟨.hbm, 964, rfl⟩
abbrev main_v669 : Ref sig .tc := ⟨.hbm, 965, rfl⟩
abbrev main_v670 : Ref sig .tc := ⟨.hbm, 966, rfl⟩
abbrev main_v671 : Ref sig .tc := ⟨.hbm, 967, rfl⟩
abbrev main_cst_167 : Ref sig .tc := ⟨.hbm, 968, rfl⟩
abbrev main_v672 : Ref sig .tc := ⟨.hbm, 969, rfl⟩
abbrev main_v673 : Ref sig .tc := ⟨.hbm, 970, rfl⟩
abbrev main_v674 : Ref sig .tc := ⟨.hbm, 971, rfl⟩
abbrev main_v675 : Ref sig .tc := ⟨.hbm, 972, rfl⟩
abbrev main_v676 : Ref sig .tc := ⟨.hbm, 973, rfl⟩
abbrev main_v677 : Ref sig .tc := ⟨.hbm, 974, rfl⟩
abbrev main_cst_168 : Ref sig .tc := ⟨.hbm, 975, rfl⟩
abbrev main_call21_v0 : Ref sig .tc := ⟨.hbm, 976, rfl⟩
abbrev main_call21_v1 : Ref sig .tc := ⟨.hbm, 977, rfl⟩
abbrev main_v678 : Ref sig .tc := ⟨.hbm, 978, rfl⟩
abbrev main_v679 : Ref sig .tc := ⟨.hbm, 979, rfl⟩
abbrev main_v680 : Ref sig .tc := ⟨.hbm, 980, rfl⟩
abbrev main_v681 : Ref sig .tc := ⟨.hbm, 981, rfl⟩
abbrev main_cst_169 : Ref sig .tc := ⟨.hbm, 982, rfl⟩
abbrev main_call22_v0 : Ref sig .tc := ⟨.hbm, 983, rfl⟩
abbrev main_call22_v1 : Ref sig .tc := ⟨.hbm, 984, rfl⟩
abbrev main_v682 : Ref sig .tc := ⟨.hbm, 985, rfl⟩
abbrev main_v683 : Ref sig .tc := ⟨.hbm, 986, rfl⟩
abbrev main_v684 : Ref sig .tc := ⟨.hbm, 987, rfl⟩
abbrev main_v685 : Ref sig .tc := ⟨.hbm, 988, rfl⟩
abbrev main_v686 : Ref sig .tc := ⟨.hbm, 989, rfl⟩
abbrev main_v687 : Ref sig .tc := ⟨.hbm, 990, rfl⟩
abbrev main_cst_170 : Ref sig .tc := ⟨.hbm, 991, rfl⟩
abbrev main_v688 : Ref sig .tc := ⟨.hbm, 992, rfl⟩
abbrev main_v689 : Ref sig .tc := ⟨.hbm, 993, rfl⟩
abbrev main_v690 : Ref sig .tc := ⟨.hbm, 994, rfl⟩
abbrev main_v691 : Ref sig .tc := ⟨.hbm, 995, rfl⟩
abbrev main_v692 : Ref sig .tc := ⟨.hbm, 996, rfl⟩
abbrev main_v693 : Ref sig .tc := ⟨.hbm, 997, rfl⟩
abbrev main_v694 : Ref sig .tc := ⟨.hbm, 998, rfl⟩
abbrev main_v695 : Ref sig .tc := ⟨.hbm, 999, rfl⟩
abbrev main_v696 : Ref sig .tc := ⟨.hbm, 1000, rfl⟩
abbrev main_v697 : Ref sig .tc := ⟨.hbm, 1001, rfl⟩
abbrev main_cst_171 : Ref sig .tc := ⟨.hbm, 1002, rfl⟩
abbrev main_v698 : Ref sig .tc := ⟨.hbm, 1003, rfl⟩
abbrev main_v699 : Ref sig .tc := ⟨.hbm, 1004, rfl⟩
abbrev main_v700 : Ref sig .tc := ⟨.hbm, 1005, rfl⟩
abbrev main_v701 : Ref sig .tc := ⟨.hbm, 1006, rfl⟩
abbrev main_v702 : Ref sig .tc := ⟨.hbm, 1007, rfl⟩
abbrev main_c_172 : Ref sig .tc := ⟨.hbm, 1008, rfl⟩
abbrev main_v703 : Ref sig .tc := ⟨.hbm, 1009, rfl⟩
abbrev main_v704 : Ref sig .tc := ⟨.hbm, 1010, rfl⟩
abbrev main_v705 : Ref sig .tc := ⟨.hbm, 1011, rfl⟩
abbrev main_v706 : Ref sig .tc := ⟨.hbm, 1012, rfl⟩
abbrev main_cst_173 : Ref sig .tc := ⟨.hbm, 1013, rfl⟩
abbrev main_v707 : Ref sig .tc := ⟨.hbm, 1014, rfl⟩
abbrev main_v708 : Ref sig .tc := ⟨.hbm, 1015, rfl⟩
abbrev main_v709 : Ref sig .tc := ⟨.hbm, 1016, rfl⟩
abbrev main_cst_174 : Ref sig .tc := ⟨.hbm, 1017, rfl⟩
abbrev main_v710 : Ref sig .tc := ⟨.hbm, 1018, rfl⟩
abbrev main_call23_v0 : Ref sig .tc := ⟨.hbm, 1019, rfl⟩
abbrev main_call23_v1 : Ref sig .tc := ⟨.hbm, 1020, rfl⟩
abbrev main_call23_v2 : Ref sig .tc := ⟨.hbm, 1021, rfl⟩
abbrev main_call23_v3 : Ref sig .tc := ⟨.hbm, 1022, rfl⟩
abbrev main_call23_v4 : Ref sig .tc := ⟨.hbm, 1023, rfl⟩
abbrev main_v711 : Ref sig .tc := ⟨.hbm, 1024, rfl⟩
abbrev main_call24_cst : Ref sig .tc := ⟨.hbm, 1025, rfl⟩
abbrev main_call24_v0 : Ref sig .tc := ⟨.hbm, 1026, rfl⟩
abbrev main_call24_v1 : Ref sig .tc := ⟨.hbm, 1027, rfl⟩
abbrev main_call24_v2 : Ref sig .tc := ⟨.hbm, 1028, rfl⟩
abbrev main_call24_v3 : Ref sig .tc := ⟨.hbm, 1029, rfl⟩
abbrev main_call24_v4 : Ref sig .tc := ⟨.hbm, 1030, rfl⟩
abbrev main_call24_v5 : Ref sig .tc := ⟨.hbm, 1031, rfl⟩
abbrev main_call24_v6 : Ref sig .tc := ⟨.hbm, 1032, rfl⟩
abbrev main_call24_v7 : Ref sig .tc := ⟨.hbm, 1033, rfl⟩
abbrev main_call24_v8 : Ref sig .tc := ⟨.hbm, 1034, rfl⟩
abbrev main_call24_v9 : Ref sig .tc := ⟨.hbm, 1035, rfl⟩
abbrev main_call24_v10 : Ref sig .tc := ⟨.hbm, 1036, rfl⟩
abbrev main_call24_v11 : Ref sig .tc := ⟨.hbm, 1037, rfl⟩
abbrev main_v712 : Ref sig .tc := ⟨.hbm, 1038, rfl⟩
abbrev main_v713 : Ref sig .tc := ⟨.hbm, 1039, rfl⟩
abbrev main_v714 : Ref sig .tc := ⟨.hbm, 1040, rfl⟩
abbrev main_cst_175 : Ref sig .tc := ⟨.hbm, 1041, rfl⟩
abbrev main_v715 : Ref sig .tc := ⟨.hbm, 1042, rfl⟩
abbrev main_cst_176 : Ref sig .tc := ⟨.hbm, 1043, rfl⟩
abbrev main_v716 : Ref sig .tc := ⟨.hbm, 1044, rfl⟩
abbrev main_v717 : Ref sig .tc := ⟨.hbm, 1045, rfl⟩
abbrev main_v718 : Ref sig .tc := ⟨.hbm, 1046, rfl⟩
abbrev main_cst_177 : Ref sig .tc := ⟨.hbm, 1047, rfl⟩
abbrev main_v719 : Ref sig .tc := ⟨.hbm, 1048, rfl⟩
abbrev main_cst_178 : Ref sig .tc := ⟨.hbm, 1049, rfl⟩
abbrev main_cst_179 : Ref sig .tc := ⟨.hbm, 1050, rfl⟩
abbrev main_call25_v0 : Ref sig .tc := ⟨.hbm, 1051, rfl⟩
abbrev main_call25_v1 : Ref sig .tc := ⟨.hbm, 1052, rfl⟩
abbrev main_call25_v2 : Ref sig .tc := ⟨.hbm, 1053, rfl⟩
abbrev main_call25_v3 : Ref sig .tc := ⟨.hbm, 1054, rfl⟩
abbrev main_call25_v4 : Ref sig .tc := ⟨.hbm, 1055, rfl⟩
abbrev main_v720 : Ref sig .tc := ⟨.hbm, 1056, rfl⟩
abbrev main_call26_cst : Ref sig .tc := ⟨.hbm, 1057, rfl⟩
abbrev main_call26_v0 : Ref sig .tc := ⟨.hbm, 1058, rfl⟩
abbrev main_call26_v1 : Ref sig .tc := ⟨.hbm, 1059, rfl⟩
abbrev main_call26_v2 : Ref sig .tc := ⟨.hbm, 1060, rfl⟩
abbrev main_call26_v3 : Ref sig .tc := ⟨.hbm, 1061, rfl⟩
abbrev main_call26_v4 : Ref sig .tc := ⟨.hbm, 1062, rfl⟩
abbrev main_call26_v5 : Ref sig .tc := ⟨.hbm, 1063, rfl⟩
abbrev main_call26_v6 : Ref sig .tc := ⟨.hbm, 1064, rfl⟩
abbrev main_call26_v7 : Ref sig .tc := ⟨.hbm, 1065, rfl⟩
abbrev main_call26_v8 : Ref sig .tc := ⟨.hbm, 1066, rfl⟩
abbrev main_call26_v9 : Ref sig .tc := ⟨.hbm, 1067, rfl⟩
abbrev main_call26_v10 : Ref sig .tc := ⟨.hbm, 1068, rfl⟩
abbrev main_call26_v11 : Ref sig .tc := ⟨.hbm, 1069, rfl⟩
abbrev main_v721 : Ref sig .tc := ⟨.hbm, 1070, rfl⟩
abbrev main_v722 : Ref sig .tc := ⟨.hbm, 1071, rfl⟩
abbrev main_v723 : Ref sig .tc := ⟨.hbm, 1072, rfl⟩
abbrev main_v724 : Ref sig .tc := ⟨.hbm, 1073, rfl⟩
abbrev main_cst_180 : Ref sig .tc := ⟨.hbm, 1074, rfl⟩
abbrev main_v725 : Ref sig .tc := ⟨.hbm, 1075, rfl⟩
abbrev main_v726 : Ref sig .tc := ⟨.hbm, 1076, rfl⟩
abbrev main_cst_181 : Ref sig .tc := ⟨.hbm, 1077, rfl⟩
abbrev main_v727 : Ref sig .tc := ⟨.hbm, 1078, rfl⟩
abbrev main_v728 : Ref sig .tc := ⟨.hbm, 1079, rfl⟩
abbrev main_v729 : Ref sig .tc := ⟨.hbm, 1080, rfl⟩
abbrev main_v730 : Ref sig .tc := ⟨.hbm, 1081, rfl⟩
abbrev main_v731 : Ref sig .tc := ⟨.hbm, 1082, rfl⟩
abbrev main_cst_182 : Ref sig .tc := ⟨.hbm, 1083, rfl⟩
abbrev main_v732 : Ref sig .tc := ⟨.hbm, 1084, rfl⟩
abbrev main_cst_183 : Ref sig .tc := ⟨.hbm, 1085, rfl⟩
abbrev main_v733 : Ref sig .tc := ⟨.hbm, 1086, rfl⟩
abbrev main_v734 : Ref sig .tc := ⟨.hbm, 1087, rfl⟩
abbrev main_cst_184 : Ref sig .tc := ⟨.hbm, 1088, rfl⟩
abbrev main_v735 : Ref sig .tc := ⟨.hbm, 1089, rfl⟩
abbrev main_v736 : Ref sig .tc := ⟨.hbm, 1090, rfl⟩
abbrev main_v737 : Ref sig .tc := ⟨.hbm, 1091, rfl⟩
abbrev main_cst_185 : Ref sig .tc := ⟨.hbm, 1092, rfl⟩
abbrev main_v738 : Ref sig .tc := ⟨.hbm, 1093, rfl⟩
abbrev main_v739 : Ref sig .tc := ⟨.hbm, 1094, rfl⟩
abbrev main_v740 : Ref sig .tc := ⟨.hbm, 1095, rfl⟩
abbrev main_cst_186 : Ref sig .tc := ⟨.hbm, 1096, rfl⟩
abbrev main_v741 : Ref sig .tc := ⟨.hbm, 1097, rfl⟩
abbrev main_v742 : Ref sig .tc := ⟨.hbm, 1098, rfl⟩
abbrev main_v743 : Ref sig .tc := ⟨.hbm, 1099, rfl⟩
abbrev main_v744 : Ref sig .tc := ⟨.hbm, 1100, rfl⟩
abbrev main_v745 : Ref sig .tc := ⟨.hbm, 1101, rfl⟩
abbrev main_v746 : Ref sig .tc := ⟨.hbm, 1102, rfl⟩
abbrev main_v747 : Ref sig .tc := ⟨.hbm, 1103, rfl⟩
abbrev main_call30_c : Ref sig .tc := ⟨.hbm, 1104, rfl⟩
abbrev main_call30_v0 : Ref sig .tc := ⟨.hbm, 1105, rfl⟩
abbrev main_call30_v1 : Ref sig .tc := ⟨.hbm, 1106, rfl⟩
abbrev main_call30_c_0 : Ref sig .tc := ⟨.hbm, 1107, rfl⟩
abbrev main_call30_v2 : Ref sig .tc := ⟨.hbm, 1108, rfl⟩
abbrev main_call30_v3 : Ref sig .tc := ⟨.hbm, 1109, rfl⟩
abbrev main_call30_v4 : Ref sig .tc := ⟨.hbm, 1110, rfl⟩
abbrev main_call30_v5 : Ref sig .tc := ⟨.hbm, 1111, rfl⟩
abbrev main_call30_c_1 : Ref sig .tc := ⟨.hbm, 1112, rfl⟩
abbrev main_call30_c_2 : Ref sig .tc := ⟨.hbm, 1113, rfl⟩
abbrev main_call30_v6 : Ref sig .tc := ⟨.hbm, 1114, rfl⟩
abbrev main_call30_v7 : Ref sig .tc := ⟨.hbm, 1115, rfl⟩
abbrev main_call30_v8 : Ref sig .tc := ⟨.hbm, 1116, rfl⟩
abbrev main_call30_v9 : Ref sig .tc := ⟨.hbm, 1117, rfl⟩
abbrev main_call30_v10 : Ref sig .tc := ⟨.hbm, 1118, rfl⟩
abbrev main_call30_v11 : Ref sig .tc := ⟨.hbm, 1119, rfl⟩
abbrev main_call30_c_3 : Ref sig .tc := ⟨.hbm, 1120, rfl⟩
abbrev main_call30_v12 : Ref sig .tc := ⟨.hbm, 1121, rfl⟩
abbrev main_call30_v13 : Ref sig .tc := ⟨.hbm, 1122, rfl⟩
abbrev main_call30_cst : Ref sig .tc := ⟨.hbm, 1123, rfl⟩
abbrev main_call30_v14 : Ref sig .tc := ⟨.hbm, 1124, rfl⟩
abbrev main_v748 : Ref sig .tc := ⟨.hbm, 1125, rfl⟩
abbrev main_call31_cst : Ref sig .tc := ⟨.hbm, 1126, rfl⟩
abbrev main_call31_v0 : Ref sig .tc := ⟨.hbm, 1127, rfl⟩
abbrev main_call31_v1 : Ref sig .tc := ⟨.hbm, 1128, rfl⟩
abbrev main_call31_v2 : Ref sig .tc := ⟨.hbm, 1129, rfl⟩
abbrev main_call31_v3 : Ref sig .tc := ⟨.hbm, 1130, rfl⟩
abbrev main_call31_v4 : Ref sig .tc := ⟨.hbm, 1131, rfl⟩
abbrev main_call31_v5 : Ref sig .tc := ⟨.hbm, 1132, rfl⟩
abbrev main_call31_v6 : Ref sig .tc := ⟨.hbm, 1133, rfl⟩
abbrev main_call31_v7 : Ref sig .tc := ⟨.hbm, 1134, rfl⟩
abbrev main_call31_v8 : Ref sig .tc := ⟨.hbm, 1135, rfl⟩
abbrev main_call31_v9 : Ref sig .tc := ⟨.hbm, 1136, rfl⟩
abbrev main_call31_v10 : Ref sig .tc := ⟨.hbm, 1137, rfl⟩
abbrev main_call31_v11 : Ref sig .tc := ⟨.hbm, 1138, rfl⟩
abbrev main_v749 : Ref sig .tc := ⟨.hbm, 1139, rfl⟩
abbrev main_cst_187 : Ref sig .tc := ⟨.hbm, 1140, rfl⟩
abbrev main_v750 : Ref sig .tc := ⟨.hbm, 1141, rfl⟩
abbrev main_cst_188 : Ref sig .tc := ⟨.hbm, 1142, rfl⟩
abbrev main_v751 : Ref sig .tc := ⟨.hbm, 1143, rfl⟩
abbrev main_v752 : Ref sig .tc := ⟨.hbm, 1144, rfl⟩
abbrev main_cst_189 : Ref sig .tc := ⟨.hbm, 1145, rfl⟩
abbrev main_v753 : Ref sig .tc := ⟨.hbm, 1146, rfl⟩
abbrev main_cst_190 : Ref sig .tc := ⟨.hbm, 1147, rfl⟩
abbrev main_v754 : Ref sig .tc := ⟨.hbm, 1148, rfl⟩
abbrev main_cst_191 : Ref sig .tc := ⟨.hbm, 1149, rfl⟩
abbrev main_v755 : Ref sig .tc := ⟨.hbm, 1150, rfl⟩
abbrev main_v756 : Ref sig .tc := ⟨.hbm, 1151, rfl⟩
abbrev main_v757 : Ref sig .tc := ⟨.hbm, 1152, rfl⟩
abbrev main_v758 : Ref sig .tc := ⟨.hbm, 1153, rfl⟩
abbrev main_v759 : Ref sig .tc := ⟨.hbm, 1154, rfl⟩
abbrev main_v760 : Ref sig .tc := ⟨.hbm, 1155, rfl⟩
abbrev main_call32_c : Ref sig .tc := ⟨.hbm, 1156, rfl⟩
abbrev main_call32_v0 : Ref sig .tc := ⟨.hbm, 1157, rfl⟩
abbrev main_call32_v1 : Ref sig .tc := ⟨.hbm, 1158, rfl⟩
abbrev main_call32_c_0 : Ref sig .tc := ⟨.hbm, 1159, rfl⟩
abbrev main_call32_v2 : Ref sig .tc := ⟨.hbm, 1160, rfl⟩
abbrev main_call32_v3 : Ref sig .tc := ⟨.hbm, 1161, rfl⟩
abbrev main_call32_v4 : Ref sig .tc := ⟨.hbm, 1162, rfl⟩
abbrev main_call32_v5 : Ref sig .tc := ⟨.hbm, 1163, rfl⟩
abbrev main_call32_c_1 : Ref sig .tc := ⟨.hbm, 1164, rfl⟩
abbrev main_call32_c_2 : Ref sig .tc := ⟨.hbm, 1165, rfl⟩
abbrev main_call32_v6 : Ref sig .tc := ⟨.hbm, 1166, rfl⟩
abbrev main_call32_v7 : Ref sig .tc := ⟨.hbm, 1167, rfl⟩
abbrev main_call32_v8 : Ref sig .tc := ⟨.hbm, 1168, rfl⟩
abbrev main_call32_v9 : Ref sig .tc := ⟨.hbm, 1169, rfl⟩
abbrev main_call32_v10 : Ref sig .tc := ⟨.hbm, 1170, rfl⟩
abbrev main_call32_v11 : Ref sig .tc := ⟨.hbm, 1171, rfl⟩
abbrev main_call32_c_3 : Ref sig .tc := ⟨.hbm, 1172, rfl⟩
abbrev main_call32_v12 : Ref sig .tc := ⟨.hbm, 1173, rfl⟩
abbrev main_call32_v13 : Ref sig .tc := ⟨.hbm, 1174, rfl⟩
abbrev main_call32_cst : Ref sig .tc := ⟨.hbm, 1175, rfl⟩
abbrev main_call32_v14 : Ref sig .tc := ⟨.hbm, 1176, rfl⟩
abbrev main_v761 : Ref sig .tc := ⟨.hbm, 1177, rfl⟩
abbrev main_call33_cst : Ref sig .tc := ⟨.hbm, 1178, rfl⟩
abbrev main_call33_v0 : Ref sig .tc := ⟨.hbm, 1179, rfl⟩
abbrev main_call33_v1 : Ref sig .tc := ⟨.hbm, 1180, rfl⟩
abbrev main_call33_v2 : Ref sig .tc := ⟨.hbm, 1181, rfl⟩
abbrev main_call33_v3 : Ref sig .tc := ⟨.hbm, 1182, rfl⟩
abbrev main_call33_v4 : Ref sig .tc := ⟨.hbm, 1183, rfl⟩
abbrev main_call33_v5 : Ref sig .tc := ⟨.hbm, 1184, rfl⟩
abbrev main_call33_v6 : Ref sig .tc := ⟨.hbm, 1185, rfl⟩
abbrev main_call33_v7 : Ref sig .tc := ⟨.hbm, 1186, rfl⟩
abbrev main_call33_v8 : Ref sig .tc := ⟨.hbm, 1187, rfl⟩
abbrev main_call33_v9 : Ref sig .tc := ⟨.hbm, 1188, rfl⟩
abbrev main_call33_v10 : Ref sig .tc := ⟨.hbm, 1189, rfl⟩
abbrev main_call33_v11 : Ref sig .tc := ⟨.hbm, 1190, rfl⟩
abbrev main_v762 : Ref sig .tc := ⟨.hbm, 1191, rfl⟩
abbrev main_cst_192 : Ref sig .tc := ⟨.hbm, 1192, rfl⟩
abbrev main_v763 : Ref sig .tc := ⟨.hbm, 1193, rfl⟩
abbrev main_cst_193 : Ref sig .tc := ⟨.hbm, 1194, rfl⟩
abbrev main_v764 : Ref sig .tc := ⟨.hbm, 1195, rfl⟩
abbrev main_v765 : Ref sig .tc := ⟨.hbm, 1196, rfl⟩
abbrev main_cst_194 : Ref sig .tc := ⟨.hbm, 1197, rfl⟩
abbrev main_v766 : Ref sig .tc := ⟨.hbm, 1198, rfl⟩
abbrev main_cst_195 : Ref sig .tc := ⟨.hbm, 1199, rfl⟩
abbrev main_v767 : Ref sig .tc := ⟨.hbm, 1200, rfl⟩
abbrev main_cst_196 : Ref sig .tc := ⟨.hbm, 1201, rfl⟩
abbrev main_v768 : Ref sig .tc := ⟨.hbm, 1202, rfl⟩
abbrev main_v769 : Ref sig .tc := ⟨.hbm, 1203, rfl⟩
abbrev main_v770 : Ref sig .tc := ⟨.hbm, 1204, rfl⟩
abbrev main_v771 : Ref sig .tc := ⟨.hbm, 1205, rfl⟩
abbrev main_v772 : Ref sig .tc := ⟨.hbm, 1206, rfl⟩
abbrev main_v773 : Ref sig .tc := ⟨.hbm, 1207, rfl⟩
abbrev main_call34_c : Ref sig .tc := ⟨.hbm, 1208, rfl⟩
abbrev main_call34_v0 : Ref sig .tc := ⟨.hbm, 1209, rfl⟩
abbrev main_call34_v1 : Ref sig .tc := ⟨.hbm, 1210, rfl⟩
abbrev main_call34_c_0 : Ref sig .tc := ⟨.hbm, 1211, rfl⟩
abbrev main_call34_v2 : Ref sig .tc := ⟨.hbm, 1212, rfl⟩
abbrev main_call34_v3 : Ref sig .tc := ⟨.hbm, 1213, rfl⟩
abbrev main_call34_v4 : Ref sig .tc := ⟨.hbm, 1214, rfl⟩
abbrev main_call34_v5 : Ref sig .tc := ⟨.hbm, 1215, rfl⟩
abbrev main_call34_c_1 : Ref sig .tc := ⟨.hbm, 1216, rfl⟩
abbrev main_call34_c_2 : Ref sig .tc := ⟨.hbm, 1217, rfl⟩
abbrev main_call34_v6 : Ref sig .tc := ⟨.hbm, 1218, rfl⟩
abbrev main_call34_v7 : Ref sig .tc := ⟨.hbm, 1219, rfl⟩
abbrev main_call34_v8 : Ref sig .tc := ⟨.hbm, 1220, rfl⟩
abbrev main_call34_v9 : Ref sig .tc := ⟨.hbm, 1221, rfl⟩
abbrev main_call34_v10 : Ref sig .tc := ⟨.hbm, 1222, rfl⟩
abbrev main_call34_v11 : Ref sig .tc := ⟨.hbm, 1223, rfl⟩
abbrev main_call34_c_3 : Ref sig .tc := ⟨.hbm, 1224, rfl⟩
abbrev main_call34_v12 : Ref sig .tc := ⟨.hbm, 1225, rfl⟩
abbrev main_call34_v13 : Ref sig .tc := ⟨.hbm, 1226, rfl⟩
abbrev main_call34_cst : Ref sig .tc := ⟨.hbm, 1227, rfl⟩
abbrev main_call34_v14 : Ref sig .tc := ⟨.hbm, 1228, rfl⟩
abbrev main_v774 : Ref sig .tc := ⟨.hbm, 1229, rfl⟩
abbrev main_call35_cst : Ref sig .tc := ⟨.hbm, 1230, rfl⟩
abbrev main_call35_v0 : Ref sig .tc := ⟨.hbm, 1231, rfl⟩
abbrev main_call35_v1 : Ref sig .tc := ⟨.hbm, 1232, rfl⟩
abbrev main_call35_v2 : Ref sig .tc := ⟨.hbm, 1233, rfl⟩
abbrev main_call35_v3 : Ref sig .tc := ⟨.hbm, 1234, rfl⟩
abbrev main_call35_v4 : Ref sig .tc := ⟨.hbm, 1235, rfl⟩
abbrev main_call35_v5 : Ref sig .tc := ⟨.hbm, 1236, rfl⟩
abbrev main_call35_v6 : Ref sig .tc := ⟨.hbm, 1237, rfl⟩
abbrev main_call35_v7 : Ref sig .tc := ⟨.hbm, 1238, rfl⟩
abbrev main_call35_v8 : Ref sig .tc := ⟨.hbm, 1239, rfl⟩
abbrev main_call35_v9 : Ref sig .tc := ⟨.hbm, 1240, rfl⟩
abbrev main_call35_v10 : Ref sig .tc := ⟨.hbm, 1241, rfl⟩
abbrev main_call35_v11 : Ref sig .tc := ⟨.hbm, 1242, rfl⟩
abbrev main_v775 : Ref sig .tc := ⟨.hbm, 1243, rfl⟩
abbrev main_cst_197 : Ref sig .tc := ⟨.hbm, 1244, rfl⟩
abbrev main_v776 : Ref sig .tc := ⟨.hbm, 1245, rfl⟩
abbrev main_cst_198 : Ref sig .tc := ⟨.hbm, 1246, rfl⟩
abbrev main_v777 : Ref sig .tc := ⟨.hbm, 1247, rfl⟩
abbrev main_v778 : Ref sig .tc := ⟨.hbm, 1248, rfl⟩
abbrev main_cst_199 : Ref sig .tc := ⟨.hbm, 1249, rfl⟩
abbrev main_v779 : Ref sig .tc := ⟨.hbm, 1250, rfl⟩
abbrev main_cst_200 : Ref sig .tc := ⟨.hbm, 1251, rfl⟩
abbrev main_v780 : Ref sig .tc := ⟨.hbm, 1252, rfl⟩
abbrev main_cst_201 : Ref sig .tc := ⟨.hbm, 1253, rfl⟩
abbrev main_v781 : Ref sig .tc := ⟨.hbm, 1254, rfl⟩
abbrev main_v782 : Ref sig .tc := ⟨.hbm, 1255, rfl⟩
abbrev main_v783 : Ref sig .tc := ⟨.hbm, 1256, rfl⟩
abbrev main_v784 : Ref sig .tc := ⟨.hbm, 1257, rfl⟩

abbrev nD : Nat := 1
abbrev τ : Topo := Topo.v7x

variable {F : FTy → Type} [FloatOps F]
-- ==== Proof.Chain.lean ====
module

public import proofs.«01_k».proof.Proof.Gen.KernelIdeal.Skeleton
public import Idealize.ShloMosaic.Lib.Pointwise

/- The values one grid point computes, in the order in which the kernel body computes them.

   `kN` is the value the body calls `%N`, as a function of the blocks it depends on: `x0` the targets of one image
   (50 rows of class, centre, size), `x1` the nine anchors, `x2`, `x3`, `x4` the image's predictions at the three
   scales (the last two flattened), `x5` the sampled background positions. The next modules say what these are. -/

@[expose] public section

set_option maxRecDepth 16384

noncomputable section

namespace Cert.KernelIdeal.Chain

open Cert.KernelIdeal Cert.KernelIdeal.Gen Idealize.ShloMosaic Idealize.SL.Sem

def k4 (x0 : Vec Ideal S1x50x5 .f32) : IVec S1x50 32 :=
  k0_pay8 (F := Ideal) x0
def k5 (x0 : Vec Ideal S1x50x5 .f32) : FVec Ideal S1x50 .f32 :=
  k0_pay9 (F := Ideal) x0
def k6 (x0 : Vec Ideal S1x50x5 .f32) : FVec Ideal S1x50 .f32 :=
  k0_pay10 (F := Ideal) x0
def k7 (x0 : Vec Ideal S1x50x5 .f32) : FVec Ideal S1x50 .f32 :=
  k0_pay11 (F := Ideal) x0
def k8 (x0 : Vec Ideal S1x50x5 .f32) : FVec Ideal S1x50 .f32 :=
  k0_pay12 (F := Ideal) x0
def k36 (x0 : Vec Ideal S1x50x5 .f32) : FVec Ideal S1x50 .f32 :=
  k0_pay14 (F := Ideal) x0
def k43 (x0 : Vec Ideal S1x50x5 .f32) : Ideal .f32 :=
  k0_pay15 (F := Ideal) x0
def k45 (x5 : Vec Ideal S1x3x500 .i32) : IVec S3x500 32 :=
  k0_pay16 (F := Ideal) x5
def k53 (x5 : Vec Ideal S1x3x500 .i32) : IVec S1x500 32 :=
  k0_pay18 (F := Ideal) x5
def k56 (x5 : Vec Ideal S1x3x500 .i32) : IVec S1x500 32 :=
  k0_pay19 (F := Ideal) x5
def k70 (x5 : Vec Ideal S1x3x500 .i32) : IVec S1x500 32 :=
  k0_pay20 (F := Ideal) x5
def k72 (x5 : Vec Ideal S1x3x500 .i32) : IVec S1x500 32 :=
  k0_pay21 (F := Ideal) x5
def k86 (x5 : Vec Ideal S1x3x500 .i32) : IVec S1x500 1 :=
  k0_pay22 (F := Ideal) x5
def k88 (x5 : Vec Ideal S1x3x500 .i32) : IVec S1x500 32 :=
  k0_pay23 (F := Ideal) x5
def k94 (x5 : Vec Ideal S1x3x500 .i32) : IVec S1x500 32 :=
  k0_pay24 (k72 x5) (k86 x5) (k88 x5) (0#32)
def k121 (x5 : Vec Ideal S1x3x500 .i32) : IVec S1x500 32 :=
  k0_pay25 (k70 x5)
def k135 (x5 : Vec Ideal S1x3x500 .i32) : IVec S1x500 32 :=
  k0_pay26 (k45 x5)
def k159 (x5 : Vec Ideal S1x3x500 .i32) : IVec S1x500 32 :=
  k0_pay27 (k135 x5)
def k161 (x5 : Vec Ideal S1x3x500 .i32) : IVec S1x500 32 :=
  k0_pay28 (k135 x5)
def k180 (x5 : Vec Ideal S1x3x500 .i32) : IVec S1x500 1 :=
  k0_pay29 (k135 x5)
def k181  : IVec S1x500 32 :=
  k0_pay30
def k186 (x5 : Vec Ideal S1x3x500 .i32) : IVec S1x500 32 :=
  k0_pay31 (k135 x5) (k161 x5) (k180 x5) k181
def k188 (x2 : Vec Ideal S1x27x80x80 .f32) : FVec Ideal S27x80x80 .f32 :=
  k0_pay32 (F := Ideal) x2
def k190 (x1 : Vec Ideal S9x2 .f32) : Ideal .f32 :=
  k0_pay33 (F := Ideal) (x1 (ix2 0 0))
def k192 (x1 : Vec Ideal S9x2 .f32) : Ideal .f32 :=
  k0_pay34 (F := Ideal) (x1 (ix2 1 0))
def k194 (x1 : Vec Ideal S9x2 .f32) : Ideal .f32 :=
  k0_pay35 (F := Ideal) (x1 (ix2 2 0))
def k196 (x1 : Vec Ideal S9x2 .f32) : Ideal .f32 :=
  k0_pay36 (F := Ideal) (x1 (ix2 0 1))
def k198 (x1 : Vec Ideal S9x2 .f32) : Ideal .f32 :=
  k0_pay37 (F := Ideal) (x1 (ix2 1 1))
def k200 (x1 : Vec Ideal S9x2 .f32) : Ideal .f32 :=
  k0_pay38 (F := Ideal) (x1 (ix2 2 1))
def k213 (x0 : Vec Ideal S1x50x5 .f32) (x1 : Vec Ideal S9x2 .f32) : FVec Ideal S1x50 .f32 :=
  k0_pay39 (F := Ideal) (k7 x0) (k8 x0) (x1 (ix2 0 0)) (x1 (ix2 0 1))
def k215 (x0 : Vec Ideal S1x50x5 .f32) (x1 : Vec Ideal S9x2 .f32) : FVec Ideal S1x50 .f32 :=
  k0_pay40 (F := Ideal) (k7 x0) (x1 (ix2 1 0))
def k217 (x0 : Vec Ideal S1x50x5 .f32) (x1 : Vec Ideal S9x2 .f32) : FVec Ideal S1x50 .f32 :=
  k0_pay41 (F := Ideal) (k8 x0) (x1 (ix2 1 1))
def k247 (x0 : Vec Ideal S1x50x5 .f32) (x1 : Vec Ideal S9x2 .f32) : IVec S1x50 32 :=
  k0_pay42 (F := Ideal) (k7 x0) (k8 x0) (k192 x1) (k194 x1) (k198 x1) (k200 x1) (k213 x0 x1) (k215 x0 x1) (k217 x0 x1)
def k255 (x0 : Vec Ideal S1x50x5 .f32) : IVec S1x50 32 :=
  k0_pay43 (F := Ideal) (k5 x0)
def k263 (x0 : Vec Ideal S1x50x5 .f32) : IVec S1x50 32 :=
  k0_pay44 (F := Ideal) (k6 x0)
def k264 (x2 : Vec Ideal S1x27x80x80 .f32) : FVec Ideal S27x80x80 .bf16 :=
  k0_pay45 (F := Ideal) (k188 x2)
def k266 (x2 : Vec Ideal S1x27x80x80 .f32) : FVec Ideal S27x80x80 .f32 :=
  k0_pay46 (F := Ideal) (k188 x2)
def k302 (x0 : Vec Ideal S1x50x5 .f32) (x1 : Vec Ideal S9x2 .f32) (x2 : Vec Ideal S1x27x80x80 .f32) : FVec Ideal S9x50 .f32 :=
  k0_pay47 (F := Ideal) (k247 x0 x1) (k255 x0) (k263 x0) (k264 x2) (k266 x2)
def k311 (x0 : Vec Ideal S1x50x5 .f32) (x1 : Vec Ideal S9x2 .f32) : FVec Ideal S1x50 .f32 :=
  k0_pay48 (F := Ideal) (k190 x1) (k192 x1) (k194 x1) (k247 x0 x1)
def k313 (x0 : Vec Ideal S1x50x5 .f32) (x1 : Vec Ideal S9x2 .f32) : IVec S1x50 1 :=
  k0_pay49 (k247 x0 x1)
def k318 (x0 : Vec Ideal S1x50x5 .f32) (x1 : Vec Ideal S9x2 .f32) : FVec Ideal S1x50 .f32 :=
  k0_pay50 (F := Ideal) (k198 x1) (k200 x1) (k247 x0 x1)
def k335 (x0 : Vec Ideal S1x50x5 .f32) (x1 : Vec Ideal S9x2 .f32) (x2 : Vec Ideal S1x27x80x80 .f32) : FVec Ideal S1x50 .f32 :=
  k0_pay53 (F := Ideal) (k302 x0 x1 x2) (k311 x0 x1)
def k338 (x0 : Vec Ideal S1x50x5 .f32) (x1 : Vec Ideal S9x2 .f32) (x2 : Vec Ideal S1x27x80x80 .f32) : FVec Ideal S1x50 .f32 :=
  k0_pay54 (F := Ideal) (k196 x1) (k302 x0 x1 x2) (k313 x0 x1) (k318 x0 x1)
def k341 (x0 : Vec Ideal S1x50x5 .f32) (x1 : Vec Ideal S9x2 .f32) (x2 : Vec Ideal S1x27x80x80 .f32) : FVec Ideal S1x50 .f32 :=
  k0_pay55 (F := Ideal) (k255 x0) (k302 x0 x1 x2) (k311 x0 x1)
def k344 (x0 : Vec Ideal S1x50x5 .f32) (x1 : Vec Ideal S9x2 .f32) (x2 : Vec Ideal S1x27x80x80 .f32) : FVec Ideal S1x50 .f32 :=
  k0_pay56 (F := Ideal) (k196 x1) (k263 x0) (k302 x0 x1 x2) (k313 x0 x1) (k318 x0 x1)
def k347 (x0 : Vec Ideal S1x50x5 .f32) (x1 : Vec Ideal S9x2 .f32) (x2 : Vec Ideal S1x27x80x80 .f32) : FVec Ideal S1x50 .f32 :=
  k0_pay57 (F := Ideal) (k255 x0) (k302 x0 x1 x2) (k311 x0 x1)
def k350 (x0 : Vec Ideal S1x50x5 .f32) (x1 : Vec Ideal S9x2 .f32) (x2 : Vec Ideal S1x27x80x80 .f32) : FVec Ideal S1x50 .f32 :=
  k0_pay58 (F := Ideal) (k196 x1) (k263 x0) (k302 x0 x1 x2) (k313 x0 x1) (k318 x0 x1)
def k353 (x0 : Vec Ideal S1x50x5 .f32) : FVec Ideal S1x50 .f32 :=
  k0_pay59 (F := Ideal) (k5 x0) (k7 x0)
def k356 (x0 : Vec Ideal S1x50x5 .f32) : FVec Ideal S1x50 .f32 :=
  k0_pay60 (F := Ideal) (k6 x0) (k8 x0)
def k359 (x0 : Vec Ideal S1x50x5 .f32) : FVec Ideal S1x50 .f32 :=
  k0_pay61 (F := Ideal) (k5 x0) (k7 x0)
def k362 (x0 : Vec Ideal S1x50x5 .f32) : FVec Ideal S1x50 .f32 :=
  k0_pay62 (F := Ideal) (k6 x0) (k8 x0)
def k367 (x0 : Vec Ideal S1x50x5 .f32) (x1 : Vec Ideal S9x2 .f32) (x2 : Vec Ideal S1x27x80x80 .f32) : FVec Ideal S1x50 .f32 :=
  k0_pay63 (F := Ideal) (k5 x0) (k7 x0) (k255 x0) (k302 x0 x1 x2) (k311 x0 x1)
def k392 (x0 : Vec Ideal S1x50x5 .f32) (x1 : Vec Ideal S9x2 .f32) (x2 : Vec Ideal S1x27x80x80 .f32) : FVec Ideal S1x50 .f32 :=
  k0_pay64 (F := Ideal) (k7 x0) (k8 x0) (k335 x0 x1 x2) (k338 x0 x1 x2) (k341 x0 x1 x2) (k344 x0 x1 x2) (k347 x0 x1 x2) (k350 x0 x1 x2) (k353 x0) (k356 x0) (k359 x0) (k362 x0) (k367 x0 x1 x2)
def k399 (x0 : Vec Ideal S1x50x5 .f32) (x1 : Vec Ideal S9x2 .f32) (x2 : Vec Ideal S1x27x80x80 .f32) : Ideal .f32 :=
  k0_pay65 (F := Ideal) (k7 x0) (k8 x0) (k36 x0) (k335 x0 x1 x2) (k338 x0 x1 x2) (k341 x0 x1 x2) (k344 x0 x1 x2) (k347 x0 x1 x2) (k350 x0 x1 x2) (k353 x0) (k356 x0) (k359 x0) (k362 x0) (k367 x0 x1 x2)
def k419 (x0 : Vec Ideal S1x50x5 .f32) (x1 : Vec Ideal S9x2 .f32) (x2 : Vec Ideal S1x27x80x80 .f32) : FVec Ideal S4x50 .f32 :=
  k0_pay67 (F := Ideal) (k302 x0 x1 x2)
def k420 (x0 : Vec Ideal S1x50x5 .f32) (x1 : Vec Ideal S9x2 .f32) (x2 : Vec Ideal S1x27x80x80 .f32) : FVec Ideal S4x50 .f32 :=
  k0_pay68 (F := Ideal) (k4 x0) (k302 x0 x1 x2)
def k430 (x0 : Vec Ideal S1x50x5 .f32) (x1 : Vec Ideal S9x2 .f32) (x2 : Vec Ideal S1x27x80x80 .f32) : Ideal .f32 :=
  k0_pay69 (F := Ideal) (k36 x0) (k419 x0 x1 x2) (k420 x0 x1 x2)
def k456 (x0 : Vec Ideal S1x50x5 .f32) (x1 : Vec Ideal S9x2 .f32) (x2 : Vec Ideal S1x27x80x80 .f32) : Ideal .f32 :=
  k0_pay70 (F := Ideal) (k36 x0) (k302 x0 x1 x2) (k392 x0 x1 x2)
def k465 (x2 : Vec Ideal S1x27x80x80 .f32) : FVec Ideal S240x80 .f32 :=
  k0_pay72 (F := Ideal) (k188 x2)
def k468 (x2 : Vec Ideal S1x27x80x80 .f32) : IVec S240x80 1 :=
  k0_pay74 (F := Ideal) (k188 x2)
def k470 (x2 : Vec Ideal S1x27x80x80 .f32) : FVec Ideal S240x80 .f32 :=
  k0_pay75 (F := Ideal) (k188 x2)
def k471 (x2 : Vec Ideal S1x27x80x80 .f32) : FVec Ideal S240x80 .f32 :=
  k0_pay76 (F := Ideal) (k188 x2)
def k496 (x2 : Vec Ideal S1x27x80x80 .f32) (x5 : Vec Ideal S1x3x500 .i32) : Ideal .f32 :=
  k0_pay77 (F := Ideal) (k53 x5) (k56 x5) (k465 x2) (k468 x2) (k470 x2) (k471 x2)
def k498 (x3 : Vec Ideal S1x27x1600 .f32) : FVec Ideal S27x1600 .f32 :=
  k0_pay78 (F := Ideal) x3
def k500 (x1 : Vec Ideal S9x2 .f32) : Ideal .f32 :=
  k0_pay79 (F := Ideal) (x1 (ix2 3 0))
def k502 (x1 : Vec Ideal S9x2 .f32) : Ideal .f32 :=
  k0_pay80 (F := Ideal) (x1 (ix2 4 0))
def k504 (x1 : Vec Ideal S9x2 .f32) : Ideal .f32 :=
  k0_pay81 (F := Ideal) (x1 (ix2 5 0))
def k506 (x1 : Vec Ideal S9x2 .f32) : Ideal .f32 :=
  k0_pay82 (F := Ideal) (x1 (ix2 3 1))
def k508 (x1 : Vec Ideal S9x2 .f32) : Ideal .f32 :=
  k0_pay83 (F := Ideal) (x1 (ix2 4 1))
def k510 (x1 : Vec Ideal S9x2 .f32) : Ideal .f32 :=
  k0_pay84 (F := Ideal) (x1 (ix2 5 1))
def k557 (x0 : Vec Ideal S1x50x5 .f32) (x1 : Vec Ideal S9x2 .f32) : IVec S1x50 32 :=
  k0_pay85 (F := Ideal) (k7 x0) (k8 x0) (k500 x1) (k502 x1) (k504 x1) (k506 x1) (k508 x1) (x1 (ix2 5 1))
def k560 (x0 : Vec Ideal S1x50x5 .f32) : FVec Ideal S1x50 .f32 :=
  k0_pay86 (F := Ideal) (k5 x0)
def k565 (x0 : Vec Ideal S1x50x5 .f32) : IVec S1x50 32 :=
  k0_pay87 (F := Ideal) (k560 x0)
def k573 (x0 : Vec Ideal S1x50x5 .f32) : IVec S1x50 32 :=
  k0_pay88 (F := Ideal) (k6 x0)
def k604 (x0 : Vec Ideal S1x50x5 .f32) (x1 : Vec Ideal S9x2 .f32) (x3 : Vec Ideal S1x27x1600 .f32) : FVec Ideal S9x50 .f32 :=
  k0_pay89 (F := Ideal) (k6 x0) (k498 x3) (k557 x0 x1) (k560 x0)
def k606 (x0 : Vec Ideal S1x50x5 .f32) (x1 : Vec Ideal S9x2 .f32) : IVec S1x50 1 :=
  k0_pay90 (k557 x0 x1)
def k608 (x0 : Vec Ideal S1x50x5 .f32) (x1 : Vec Ideal S9x2 .f32) : IVec S1x50 1 :=
  k0_pay91 (k557 x0 x1)
def k609 (x1 : Vec Ideal S9x2 .f32) : FVec Ideal S1x50 .f32 :=
  k0_pay92 (F := Ideal) (k502 x1)
def k637 (x0 : Vec Ideal S1x50x5 .f32) (x1 : Vec Ideal S9x2 .f32) (x3 : Vec Ideal S1x27x1600 .f32) : FVec Ideal S1x50 .f32 :=
  k0_pay95 (F := Ideal) (k500 x1) (k504 x1) (k604 x0 x1 x3) (k606 x0 x1) (k608 x0 x1) (k609 x1)
def k640 (x0 : Vec Ideal S1x50x5 .f32) (x1 : Vec Ideal S9x2 .f32) (x3 : Vec Ideal S1x27x1600 .f32) : FVec Ideal S1x50 .f32 :=
  k0_pay96 (F := Ideal) (k506 x1) (k508 x1) (k510 x1) (k557 x0 x1) (k604 x0 x1 x3)
def k643 (x0 : Vec Ideal S1x50x5 .f32) (x1 : Vec Ideal S9x2 .f32) (x3 : Vec Ideal S1x27x1600 .f32) : FVec Ideal S1x50 .f32 :=
  k0_pay97 (F := Ideal) (k500 x1) (k504 x1) (k565 x0) (k604 x0 x1 x3) (k606 x0 x1) (k608 x0 x1) (k609 x1)
def k646 (x0 : Vec Ideal S1x50x5 .f32) (x1 : Vec Ideal S9x2 .f32) (x3 : Vec Ideal S1x27x1600 .f32) : FVec Ideal S1x50 .f32 :=
  k0_pay98 (F := Ideal) (k506 x1) (k508 x1) (k510 x1) (k557 x0 x1) (k573 x0) (k604 x0 x1 x3)
def k649 (x0 : Vec Ideal S1x50x5 .f32) (x1 : Vec Ideal S9x2 .f32) (x3 : Vec Ideal S1x27x1600 .f32) : FVec Ideal S1x50 .f32 :=
  k0_pay99 (F := Ideal) (k500 x1) (k504 x1) (k565 x0) (k604 x0 x1 x3) (k606 x0 x1) (k608 x0 x1) (k609 x1)
def k652 (x0 : Vec Ideal S1x50x5 .f32) (x1 : Vec Ideal S9x2 .f32) (x3 : Vec Ideal S1x27x1600 .f32) : FVec Ideal S1x50 .f32 :=
  k0_pay100 (F := Ideal) (k506 x1) (k508 x1) (k510 x1) (k557 x0 x1) (k573 x0) (k604 x0 x1 x3)
def k655 (x0 : Vec Ideal S1x50x5 .f32) : FVec Ideal S1x50 .f32 :=
  k0_pay101 (F := Ideal) (k5 x0) (k7 x0)
def k658 (x0 : Vec Ideal S1x50x5 .f32) : FVec Ideal S1x50 .f32 :=
  k0_pay102 (F := Ideal) (k6 x0) (k8 x0)
def k694 (x0 : Vec Ideal S1x50x5 .f32) (x1 : Vec Ideal S9x2 .f32) (x3 : Vec Ideal S1x27x1600 .f32) : FVec Ideal S1x50 .f32 :=
  k0_pay103 (F := Ideal) (k5 x0) (k6 x0) (k7 x0) (k8 x0) (k637 x0 x1 x3) (k640 x0 x1 x3) (k643 x0 x1 x3) (k646 x0 x1 x3) (k649 x0 x1 x3) (k652 x0 x1 x3) (k655 x0) (k658 x0) (FloatOps.ofBits .f32 0x40000000#32)
def k701 (x0 : Vec Ideal S1x50x5 .f32) (x1 : Vec Ideal S9x2 .f32) (x3 : Vec Ideal S1x27x1600 .f32) : Ideal .f32 :=
  k0_pay104 (F := Ideal) (k5 x0) (k6 x0) (k7 x0) (k8 x0) (k36 x0) (k637 x0 x1 x3) (k640 x0 x1 x3) (k643 x0 x1 x3) (k646 x0 x1 x3) (k649 x0 x1 x3) (k652 x0 x1 x3) (k655 x0) (k658 x0) (FloatOps.ofBits .f32 0x40000000#32)
def k702 (x0 : Vec Ideal S1x50x5 .f32) (x1 : Vec Ideal S9x2 .f32) (x3 : Vec Ideal S1x27x1600 .f32) : FVec Ideal S4x50 .f32 :=
  k0_pay105 (F := Ideal) (k604 x0 x1 x3)
def k707 (x0 : Vec Ideal S1x50x5 .f32) : FVec Ideal S4x50 .f32 :=
  k0_pay106 (F := Ideal) (k4 x0)
def k709 (x0 : Vec Ideal S1x50x5 .f32) (x1 : Vec Ideal S9x2 .f32) (x3 : Vec Ideal S1x27x1600 .f32) : FVec Ideal S4x50 .f32 :=
  k0_pay107 (F := Ideal) (k604 x0 x1 x3)
def k710  : FVec Ideal S4x50 .f32 :=
  k0_pay108 (F := Ideal)
def k732 (x0 : Vec Ideal S1x50x5 .f32) (x1 : Vec Ideal S9x2 .f32) (x3 : Vec Ideal S1x27x1600 .f32) : Ideal .f32 :=
  k0_pay109 (F := Ideal) (k36 x0) (k702 x0 x1 x3) (k707 x0) (FloatOps.ofBits .f32 0x00000000#32) (k709 x0 x1 x3) k710
def k758 (x0 : Vec Ideal S1x50x5 .f32) (x1 : Vec Ideal S9x2 .f32) (x3 : Vec Ideal S1x27x1600 .f32) : Ideal .f32 :=
  k0_pay110 (F := Ideal) (k36 x0) (k604 x0 x1 x3) (k694 x0 x1 x3)
def k759 (x3 : Vec Ideal S1x27x1600 .f32) : FVec Ideal S1x1600 .f32 :=
  k0_pay111 (F := Ideal) (k498 x3)
def k760 (x3 : Vec Ideal S1x27x1600 .f32) : FVec Ideal S1x1600 .f32 :=
  k0_pay112 (F := Ideal) (k498 x3)
def k761 (x3 : Vec Ideal S1x27x1600 .f32) : FVec Ideal S1x1600 .f32 :=
  k0_pay113 (F := Ideal) (k498 x3)
def k797 (x3 : Vec Ideal S1x27x1600 .f32) (x5 : Vec Ideal S1x3x500 .i32) : Ideal .f32 :=
  k0_pay114 (F := Ideal) (k94 x5) (k121 x5) (k759 x3) (k760 x3) (k761 x3)
def k799 (x4 : Vec Ideal S1x27x400 .f32) : FVec Ideal S27x400 .f32 :=
  k0_pay115 (F := Ideal) x4
def k801 (x1 : Vec Ideal S9x2 .f32) : Ideal .f32 :=
  k0_pay116 (F := Ideal) (x1 (ix2 6 0))
def k803 (x1 : Vec Ideal S9x2 .f32) : Ideal .f32 :=
  k0_pay117 (F := Ideal) (x1 (ix2 7 0))
def k805 (x1 : Vec Ideal S9x2 .f32) : Ideal .f32 :=
  k0_pay118 (F := Ideal) (x1 (ix2 8 0)) (FloatOps.ofBits .f32 0x44200000#32)
def k807 (x1 : Vec Ideal S9x2 .f32) : Ideal .f32 :=
  k0_pay119 (F := Ideal) (x1 (ix2 6 1))
def k809 (x1 : Vec Ideal S9x2 .f32) : Ideal .f32 :=
  k0_pay120 (F := Ideal) (x1 (ix2 7 1))
def k811 (x1 : Vec Ideal S9x2 .f32) : Ideal .f32 :=
  k0_pay121 (F := Ideal) (x1 (ix2 8 1))
def k824 (x0 : Vec Ideal S1x50x5 .f32) (x1 : Vec Ideal S9x2 .f32) : FVec Ideal S1x50 .f32 :=
  k0_pay122 (F := Ideal) (k7 x0) (k8 x0) (k801 x1) (x1 (ix2 6 1))
def k837 (x0 : Vec Ideal S1x50x5 .f32) (x1 : Vec Ideal S9x2 .f32) : FVec Ideal S1x50 .f32 :=
  k0_pay123 (F := Ideal) (k7 x0) (k8 x0) (k803 x1) (x1 (ix2 7 1))
def k850 (x0 : Vec Ideal S1x50x5 .f32) (x1 : Vec Ideal S9x2 .f32) : FVec Ideal S1x50 .f32 :=
  k0_pay124 (F := Ideal) (k7 x0) (k8 x0) (x1 (ix2 8 0)) (FloatOps.ofBits .f32 0x44200000#32) (x1 (ix2 8 1))
def k851 (x0 : Vec Ideal S1x50x5 .f32) (x1 : Vec Ideal S9x2 .f32) : IVec S1x50 1 :=
  k0_pay125 (F := Ideal) (k7 x0) (k8 x0) (k801 x1) (k803 x1) (x1 (ix2 6 1)) (x1 (ix2 7 1))
def k858 (x0 : Vec Ideal S1x50x5 .f32) (x1 : Vec Ideal S9x2 .f32) : IVec S1x50 32 :=
  k0_pay126 (F := Ideal) (k824 x0 x1) (k837 x0 x1) (k850 x0 x1) (k851 x0 x1) (1#32)
def k866 (x0 : Vec Ideal S1x50x5 .f32) : IVec S1x50 32 :=
  k0_pay127 (F := Ideal) (k5 x0)
def k874 (x0 : Vec Ideal S1x50x5 .f32) : IVec S1x50 32 :=
  k0_pay128 (F := Ideal) (k6 x0)
def k894 (x0 : Vec Ideal S1x50x5 .f32) (x1 : Vec Ideal S9x2 .f32) : IVec S1x50 1 :=
  k0_pay130 (F := Ideal) (k824 x0 x1) (k837 x0 x1) (k850 x0 x1) (k851 x0 x1) (1#32)
def k895 (x0 : Vec Ideal S1x50x5 .f32) (x4 : Vec Ideal S1x27x400 .f32) : FVec Ideal S9x50 .f32 :=
  k0_pay131 (F := Ideal) (k5 x0) (k6 x0) (k799 x4)
def k897 (x0 : Vec Ideal S1x50x5 .f32) (x1 : Vec Ideal S9x2 .f32) : IVec S1x50 1 :=
  k0_pay132 (F := Ideal) (k824 x0 x1) (k837 x0 x1) (k850 x0 x1) (k851 x0 x1) (1#32)
def k898 (x0 : Vec Ideal S1x50x5 .f32) (x4 : Vec Ideal S1x27x400 .f32) : FVec Ideal S9x50 .f32 :=
  k0_pay133 (F := Ideal) (k5 x0) (k6 x0) (k799 x4)
def k899 (x0 : Vec Ideal S1x50x5 .f32) (x4 : Vec Ideal S1x27x400 .f32) : FVec Ideal S9x50 .f32 :=
  k0_pay134 (F := Ideal) (k5 x0) (k6 x0) (k799 x4)
def k905 (x0 : Vec Ideal S1x50x5 .f32) (x1 : Vec Ideal S9x2 .f32) (x4 : Vec Ideal S1x27x400 .f32) : FVec Ideal S9x50 .f32 :=
  k0_pay135 (F := Ideal) (k894 x0 x1) (k895 x0 x4) (k897 x0 x1) (k898 x0 x4) (k899 x0 x4)
def k935 (x0 : Vec Ideal S1x50x5 .f32) (x1 : Vec Ideal S9x2 .f32) (x4 : Vec Ideal S1x27x400 .f32) : FVec Ideal S1x50 .f32 :=
  k0_pay137 (F := Ideal) (k874 x0) (k894 x0 x1) (k895 x0 x4) (k897 x0 x1) (k898 x0 x4) (k899 x0 x4)
def k938 (x0 : Vec Ideal S1x50x5 .f32) (x1 : Vec Ideal S9x2 .f32) (x4 : Vec Ideal S1x27x400 .f32) : FVec Ideal S1x50 .f32 :=
  k0_pay138 (F := Ideal) (k801 x1) (k803 x1) (k805 x1) (k858 x0 x1) (k894 x0 x1) (k895 x0 x4) (k897 x0 x1) (k898 x0 x4) (k899 x0 x4)
def k941 (x0 : Vec Ideal S1x50x5 .f32) (x1 : Vec Ideal S9x2 .f32) (x4 : Vec Ideal S1x27x400 .f32) : FVec Ideal S1x50 .f32 :=
  k0_pay139 (F := Ideal) (k807 x1) (k809 x1) (k811 x1) (k858 x0 x1) (k894 x0 x1) (k895 x0 x4) (k897 x0 x1) (k898 x0 x4) (k899 x0 x4)
def k944 (x0 : Vec Ideal S1x50x5 .f32) (x1 : Vec Ideal S9x2 .f32) (x4 : Vec Ideal S1x27x400 .f32) : FVec Ideal S1x50 .f32 :=
  k0_pay140 (F := Ideal) (k801 x1) (k803 x1) (k805 x1) (k858 x0 x1) (k866 x0) (k894 x0 x1) (k895 x0 x4) (k897 x0 x1) (k898 x0 x4) (k899 x0 x4)
def k947 (x0 : Vec Ideal S1x50x5 .f32) (x1 : Vec Ideal S9x2 .f32) (x4 : Vec Ideal S1x27x400 .f32) : FVec Ideal S1x50 .f32 :=
  k0_pay141 (F := Ideal) (k807 x1) (k809 x1) (k811 x1) (k858 x0 x1) (k874 x0) (k894 x0 x1) (k895 x0 x4) (k897 x0 x1) (k898 x0 x4) (k899 x0 x4)
def k950 (x0 : Vec Ideal S1x50x5 .f32) (x1 : Vec Ideal S9x2 .f32) (x4 : Vec Ideal S1x27x400 .f32) : FVec Ideal S1x50 .f32 :=
  k0_pay142 (F := Ideal) (k801 x1) (k803 x1) (k805 x1) (k858 x0 x1) (k866 x0) (k894 x0 x1) (k895 x0 x4) (k897 x0 x1) (k898 x0 x4) (k899 x0 x4)
def k995 (x0 : Vec Ideal S1x50x5 .f32) (x1 : Vec Ideal S9x2 .f32) (x4 : Vec Ideal S1x27x400 .f32) : FVec Ideal S1x50 .f32 :=
  k0_pay143 (F := Ideal) (k5 x0) (k6 x0) (k7 x0) (k8 x0) (k935 x0 x1 x4) (k938 x0 x1 x4) (k941 x0 x1 x4) (k944 x0 x1 x4) (k947 x0 x1 x4) (k950 x0 x1 x4)
def k999 (x0 : Vec Ideal S1x50x5 .f32) (x1 : Vec Ideal S9x2 .f32) (x4 : Vec Ideal S1x27x400 .f32) : FVec Ideal S1x1x50 .f32 :=
  k0_pay144 (F := Ideal) (k5 x0) (k6 x0) (k7 x0) (k8 x0) (k36 x0) (k935 x0 x1 x4) (k938 x0 x1 x4) (k941 x0 x1 x4) (k944 x0 x1 x4) (k947 x0 x1 x4) (k950 x0 x1 x4)
def k1002 (x0 : Vec Ideal S1x50x5 .f32) (x1 : Vec Ideal S9x2 .f32) (x4 : Vec Ideal S1x27x400 .f32) : Ideal .f32 :=
  k0_pay145 (F := Ideal) (k999 x0 x1 x4)
def k1033 (x0 : Vec Ideal S1x50x5 .f32) (x1 : Vec Ideal S9x2 .f32) (x4 : Vec Ideal S1x27x400 .f32) : Ideal .f32 :=
  k0_pay146 (F := Ideal) (k4 x0) (k36 x0) (k905 x0 x1 x4)
def k1034 (x0 : Vec Ideal S1x50x5 .f32) (x1 : Vec Ideal S9x2 .f32) (x4 : Vec Ideal S1x27x400 .f32) : FVec Ideal S1x50 .f32 :=
  k0_pay147 (F := Ideal) (k905 x0 x1 x4)
def k1038 (x0 : Vec Ideal S1x50x5 .f32) (x1 : Vec Ideal S9x2 .f32) (x4 : Vec Ideal S1x27x400 .f32) : FVec Ideal S1x50 .f32 :=
  k0_pay148 (F := Ideal) (k995 x0 x1 x4)
def k1040 (x0 : Vec Ideal S1x50x5 .f32) (x1 : Vec Ideal S9x2 .f32) (x4 : Vec Ideal S1x27x400 .f32) : FVec Ideal S1x50 .f32 :=
  k0_pay149 (F := Ideal) (k905 x0 x1 x4)
def k1043 (x0 : Vec Ideal S1x50x5 .f32) (x1 : Vec Ideal S9x2 .f32) (x4 : Vec Ideal S1x27x400 .f32) : IVec S1x50 1 :=
  k0_pay151 (F := Ideal) (k905 x0 x1 x4)
def k1045 (x0 : Vec Ideal S1x50x5 .f32) (x1 : Vec Ideal S9x2 .f32) (x4 : Vec Ideal S1x27x400 .f32) : FVec Ideal S1x50 .f32 :=
  k0_pay152 (F := Ideal) (k905 x0 x1 x4)
def k1050 (x0 : Vec Ideal S1x50x5 .f32) (x1 : Vec Ideal S9x2 .f32) (x4 : Vec Ideal S1x27x400 .f32) : FVec Ideal S1x50 .f32 :=
  k0_pay153 (F := Ideal) (k905 x0 x1 x4)
def k1098 (x4 : Vec Ideal S1x27x400 .f32) (x5 : Vec Ideal S1x3x500 .i32) : Ideal .f32 :=
  k0_pay154 (F := Ideal) (k159 x5) (k186 x5) (k799 x4)
def k1100 (x0 : Vec Ideal S1x50x5 .f32) (x1 : Vec Ideal S9x2 .f32) (x2 : Vec Ideal S1x27x80x80 .f32) (x3 : Vec Ideal S1x27x1600 .f32) (x4 : Vec Ideal S1x27x400 .f32) : Ideal .f32 :=
  k0_pay155 (F := Ideal) (k399 x0 x1 x2) (k701 x0 x1 x3) (k1002 x0 x1 x4)
def k1102 (x0 : Vec Ideal S1x50x5 .f32) (x1 : Vec Ideal S9x2 .f32) (x2 : Vec Ideal S1x27x80x80 .f32) (x3 : Vec Ideal S1x27x1600 .f32) (x4 : Vec Ideal S1x27x400 .f32) : Ideal .f32 :=
  k0_pay156 (F := Ideal) (k430 x0 x1 x2) (k732 x0 x1 x3) (k1033 x0 x1 x4)
def k1104 (x0 : Vec Ideal S1x50x5 .f32) (x1 : Vec Ideal S9x2 .f32) (x2 : Vec Ideal S1x27x80x80 .f32) (x3 : Vec Ideal S1x27x1600 .f32) (x4 : Vec Ideal S1x27x400 .f32) : Ideal .f32 :=
  k0_pay157 (F := Ideal) (k36 x0) (k456 x0 x1 x2) (k758 x0 x1 x3) (k1034 x0 x1 x4) (k1038 x0 x1 x4) (k1040 x0 x1 x4) (k1043 x0 x1 x4) (k1045 x0 x1 x4) (k1050 x0 x1 x4)

end Cert.KernelIdeal.Chain
-- ==== Proof.Spec.lean ====
module

public import Idealize.ShloMosaic.Lib.Pointwise

/- The loss of one target at one scale, in plain words and free of either program.

   A target is a row `r` of five numbers (class, centre x, centre y, width, height). A scale has an `n` by `n` grid of cells,
   three anchors of widths `aw` and heights `ah`, and nine numbers `P a row col` predicted at every anchor and cell: four
   for the box, one for the confidence, four for the classes. `g` is the literal that stands for `n` in the arithmetic
   and `top` the word `n - 1`. -/

@[expose] public section

noncomputable section

namespace Cert.Yolo

open Idealize.ShloMosaic

/-- The small number added to every denominator. -/
def eps : EReal := Ideal.ofBits .f32 869711765#32

/-- The literal 2. -/
def two : EReal := Ideal.ofBits .f32 1073741824#32

/-- The width of an image in pixels, in which the anchors are given. -/
def img : EReal := Ideal.ofBits .f32 1142947840#32

/-- `log (1 + exp x)`, as `max x 0 + log1p (exp (-|x|))`. -/
def softplus (x : EReal) : EReal :=
  max x 0 + Ideal.log1p (Ideal.exp (0 - FloatOps.absf (F := Ideal) (φ := .f32) x))

/-- The word of a target's class. -/
def cls (r : Fin 5 → EReal) : BitVec 32 := FloatOps.fptosi (F := Ideal) (φ := .f32) 32 (r 0)

/-- Whether the target is a real box inside the image (rows of padding are not). -/
def valid (r : Fin 5 → EReal) : BitVec 1 :=
  IntOp.andi (IntOp.andi (IntOp.andi (IntOp.andi (IntOp.andi (IntOp.andi (IntOp.andi
    (BitVec.ofBool (decide (0 ≤ r 1))) (BitVec.ofBool (decide (r 1 ≤ 1))))
    (BitVec.ofBool (decide (0 ≤ r 2)))) (BitVec.ofBool (decide (r 2 ≤ 1))))
    (BitVec.ofBool (decide (0 < r 3)))) (BitVec.ofBool (decide (r 3 ≤ 1))))
    (BitVec.ofBool (decide (0 < r 4)))) (BitVec.ofBool (decide (r 4 ≤ 1)))

/-- Whether the target is matched: it is a real box and its class is one of the four. -/
def matched (r : Fin 5 → EReal) : BitVec 1 := IntOp.andi (valid r) (IntOp.cmpi .slt (cls r) 4#32)

/-- The bit as a number. -/
def bit (b : BitVec 1) : EReal := FloatOps.sitofp (F := Ideal) .f32 (BitVec.setWidth 32 b)

/-- Intersection over union of the target's box and an anchor, both put at the same corner. -/
def ratio (r : Fin 5 → EReal) (w h : EReal) : EReal :=
  Ideal.div (min (r 3) w * min (r 4) h) (r 3 * r 4 + w * h - min (r 3) w * min (r 4) h + eps)

/-- The first of three numbers that attains their maximum. -/
def firstMax (a b c : EReal) : BitVec 32 := if max a b < c then 2#32 else if a < b then 1#32 else 0#32

/-- The anchor the target is matched with, as a word. -/
def best (r : Fin 5 → EReal) (aw ah : Fin 3 → EReal) : BitVec 32 :=
  firstMax (ratio r (aw 0) (ah 0)) (ratio r (aw 1) (ah 1)) (ratio r (aw 2) (ah 2))

/-- The row or column of the cell that holds the coordinate `x`, as a word. -/
def cell (g : EReal) (top : BitVec 32) (x : EReal) : BitVec 32 :=
  IntOp.minsi top (IntOp.maxsi 0#32 (FloatOps.fptosi (F := Ideal) (φ := .f32) 32 (Ideal.liftRound Int.floor (x * g))))

/-- A word as an index below `n`. -/
def at' (n : ℕ) [NeZero n] (w : BitVec 32) : Fin n := Fin.ofNat n w.toNat

/-- Common length of the intervals of centres `c`, `c'` and lengths `s`, `s'`. -/
def overlap (c s c' s' : EReal) : EReal :=
  max 0 (min (c + Ideal.div s two) (c' + Ideal.div s' two) - max (c - Ideal.div s two) (c' - Ideal.div s' two))

/-- Length of the smallest interval that holds both. -/
def span (c s c' s' : EReal) : EReal :=
  max (c + Ideal.div s two) (c' + Ideal.div s' two) - min (c - Ideal.div s two) (c' - Ideal.div s' two)

/-- Generalised intersection over union of the box `px py pw ph` and the target's. -/
def giou (px py pw ph : EReal) (r : Fin 5 → EReal) : EReal :=
  Ideal.div (overlap px pw (r 1) (r 3) * overlap py ph (r 2) (r 4))
      (pw * ph + r 3 * r 4 - overlap px pw (r 1) (r 3) * overlap py ph (r 2) (r 4) + eps)
    - Ideal.div (span px pw (r 1) (r 3) * span py ph (r 2) (r 4) + eps
          - (pw * ph + r 3 * r 4 - overlap px pw (r 1) (r 3) * overlap py ph (r 2) (r 4) + eps))
        (span px pw (r 1) (r 3) * span py ph (r 2) (r 4) + eps)

section Scale

variable (n : ℕ) [NeZero n] (g : EReal) (top : BitVec 32) (aw ah : Fin 3 → EReal)
  (P : Fin 3 → Fin n → Fin n → Fin 9 → EReal) (r : Fin 5 → EReal)

/-- The nine numbers predicted at the target's anchor and cell. -/
def pred (c : Fin 9) : EReal := P (at' 3 (best r aw ah)) (at' n (cell g top (r 2))) (at' n (cell g top (r 1))) c

/-- Centre and size of the predicted box. -/
def boxX : EReal :=
  Ideal.logistic (pred n g top aw ah P r 0) + Ideal.div (FloatOps.sitofp (F := Ideal) .f32 (cell g top (r 1))) g
def boxY : EReal :=
  Ideal.logistic (pred n g top aw ah P r 1) + Ideal.div (FloatOps.sitofp (F := Ideal) .f32 (cell g top (r 2))) g
def boxW : EReal := Ideal.exp (pred n g top aw ah P r 2) * aw (at' 3 (best r aw ah))
def boxH : EReal := Ideal.exp (pred n g top aw ah P r 3) * ah (at' 3 (best r aw ah))

/-- Generalised intersection over union of the predicted box and the target's. -/
def boxGiou : EReal :=
  giou (boxX n g top aw ah P r) (boxY n g top aw ah P r) (boxW n g top aw ah P r) (boxH n g top aw ah P r) r

/-- The box loss of the target. -/
def boxLoss : EReal := bit (matched r) * (1 - boxGiou n g top aw ah P r)

/-- The class loss of the target: cross entropy over the four classes. -/
def clsLoss : EReal :=
  bit (matched r) * Ideal.div (∑ k : Fin 4, (softplus (pred n g top aw ah P r ⟨5 + k.val, by omega⟩)
      - bit (IntOp.cmpi .eq (BitVec.ofNat 32 k.val) (cls r)) * pred n g top aw ah P r ⟨5 + k.val, by omega⟩))
    (Ideal.ofBits .f32 1082130432#32)

/-- The confidence loss of the target, whose label is the box's quality. -/
def confLoss : EReal :=
  bit (matched r) * (softplus (pred n g top aw ah P r 4)
    - min 1 (max 0 (boxGiou n g top aw ah P r)) * pred n g top aw ah P r 4)

/-- The confidence loss of one background position `j`, counted through the anchors, rows and columns. -/
def background (j : ℕ) : EReal :=
  softplus (P (Fin.ofNat 3 (j / (n * n))) (Fin.ofNat n (j / n % n)) (Fin.ofNat n (j % n)) 4)

end Scale

/-! ## Words that are small -/

/-- The anchor's word is 0, 1 or 2. -/
theorem best_eq (r : Fin 5 → EReal) (aw ah : Fin 3 → EReal) :
    best r aw ah = BitVec.ofNat 32 (at' 3 (best r aw ah)).val := by
  unfold best firstMax
  split
  · rfl
  · split <;> rfl

/-- A cell's word is that of its index. -/
theorem cell_eq (n : ℕ) [NeZero n] (g : EReal) (top : BitVec 32) (ht : top.toNat + 1 = n) (hn : n ≤ 100) (x : EReal) :
    cell g top x = BitVec.ofNat 32 (at' n (cell g top x)).val := by
  have h : (cell g top x).toNat < n := by
    unfold cell
    generalize FloatOps.fptosi (F := Ideal) (φ := .f32) 32 _ = w
    have h0 : 0 ≤ (IntOp.maxsi 0#32 w).toInt := by
      unfold IntOp.maxsi
      split <;> rename_i h1
      · decide
      · simpa [BitVec.slt] using h1
    generalize IntOp.maxsi 0#32 w = v at h0
    have hv : v.toInt = v.toNat := by rw [BitVec.toInt_eq_toNat_cond] at h0 ⊢; split at h0 <;> simp_all; omega
    have hs : top.toInt = top.toNat := by rw [BitVec.toInt_eq_toNat_cond, if_pos (by omega)]
    unfold IntOp.minsi
    split <;> rename_i h1
    · omega
    · simp only [BitVec.slt, hs, hv, decide_eq_true_eq, not_lt] at h1
      omega
  rw [at', Fin.val_ofNat, Nat.mod_eq_of_lt h, BitVec.ofNat_toNat, BitVec.setWidth_eq]

end Cert.Yolo
-- ==== Proof.Totals.lean ====
module

public import proofs.«01_k».proof.Proof.Spec

/- The losses of all targets of all images, added up. -/

@[expose] public section

noncomputable section

namespace Cert.Yolo

open Idealize.ShloMosaic

/-- The number of real boxes. -/
def countSum (R : Fin 64 → Fin 50 → Fin 5 → EReal) : EReal := ∑ b : Fin 64, ∑ t : Fin 50, bit (valid (R b t))

section Scale

variable (n : ℕ) [NeZero n] (g : EReal) (top : BitVec 32) (aw ah : Fin 3 → EReal)
  (P : Fin 64 → Fin 3 → Fin n → Fin n → Fin 9 → EReal) (R : Fin 64 → Fin 50 → Fin 5 → EReal)

/-- The three losses of one scale. -/
def boxSum : EReal := ∑ b : Fin 64, ∑ t : Fin 50, boxLoss n g top aw ah (P b) (R b t)
def clsSum : EReal := ∑ b : Fin 64, ∑ t : Fin 50, clsLoss n g top aw ah (P b) (R b t)
def confSum : EReal := ∑ b : Fin 64, ∑ t : Fin 50, confLoss n g top aw ah (P b) (R b t)

/-- The loss of one scale's background positions. -/
def backSum (J : Fin 64 → Fin 500 → BitVec 32) : EReal := ∑ b : Fin 64, ∑ t : Fin 500, background n (P b) (J b t).toNat

end Scale

/-- The literals 80, 40 and 20. -/
def g80 : EReal := Ideal.ofBits .f32 1117782016#32
def g40 : EReal := Ideal.ofBits .f32 1109393408#32
def g20 : EReal := Ideal.ofBits .f32 1101004800#32

/-- A sum divided by the count, unless nothing was counted. -/
def mean (n s : EReal) : EReal := if 0 < n then Ideal.div s (max n 1) else s

/-- The factor of the background losses: half, over the positions of an image, over all positions. -/
def backScale : EReal := ((1 / 32000000 : ℝ) : EReal)

section All

variable (aw ah : Fin 3 → Fin 3 → EReal) (P3 : Fin 64 → Fin 3 → Fin 80 → Fin 80 → Fin 9 → EReal)
  (P4 : Fin 64 → Fin 3 → Fin 40 → Fin 40 → Fin 9 → EReal) (P5 : Fin 64 → Fin 3 → Fin 20 → Fin 20 → Fin 9 → EReal)
  (R : Fin 64 → Fin 50 → Fin 5 → EReal) (J3 J4 J5 : Fin 64 → Fin 500 → BitVec 32)

/-- The number of real boxes, once for every scale. -/
def countAll : EReal := countSum R + countSum R + countSum R

/-- The four results. -/
def boxAll : EReal := mean (countAll R) (boxSum 80 g80 79#32 (aw 0) (ah 0) P3 R
  + boxSum 40 g40 39#32 (aw 1) (ah 1) P4 R + boxSum 20 g20 19#32 (aw 2) (ah 2) P5 R)
def clsAll : EReal := mean (countAll R) (clsSum 80 g80 79#32 (aw 0) (ah 0) P3 R
  + clsSum 40 g40 39#32 (aw 1) (ah 1) P4 R + clsSum 20 g20 19#32 (aw 2) (ah 2) P5 R)
def confAll : EReal := mean (countAll R) (confSum 80 g80 79#32 (aw 0) (ah 0) P3 R
  + confSum 40 g40 39#32 (aw 1) (ah 1) P4 R + confSum 20 g20 19#32 (aw 2) (ah 2) P5 R)
  + (backSum 80 P3 J3 + backSum 40 P4 J4 + backSum 20 P5 J5) * backScale
def totalAll : EReal := boxAll aw ah P3 P4 P5 R + clsAll aw ah P3 P4 P5 R + confAll aw ah P3 P4 P5 R J3 J4 J5

end All

end Cert.Yolo
-- ==== Proof.OneHot.lean ====
module

public import Idealize.ShloMosaic.Lib.Pointwise
public import Idealize.ShloMosaic.PureOps.Ideal.Laws

/- Reading one element of a row by a sum against an indicator, and choosing one of three by an anchor's word. -/

@[expose] public section

noncomputable section

namespace Cert.Yolo

open Idealize.ShloMosaic

/-- The indicator of "position `x` is position `g`", as the numbers 0 and 1. -/
theorem indicator_eq {n : ℕ} (hn : n ≤ 2 ^ 31) (x g : Fin n) :
    FloatOps.sitofp (F := Ideal) .f32 (BitVec.setWidth 32 (IntOp.cmpi .eq (BitVec.ofNat 32 x.val) (BitVec.ofNat 32 g.val)))
      = if x = g then 1 else 0 := by
  have h : (BitVec.ofNat 32 x.val == BitVec.ofNat 32 g.val) = decide (x = g) := by
    rw [Bool.eq_iff_iff, beq_iff_eq, decide_eq_true_eq]
    constructor
    · intro h
      have h' := congrArg BitVec.toNat h
      simp only [BitVec.toNat_ofNat] at h'
      rw [Nat.mod_eq_of_lt (by omega), Nat.mod_eq_of_lt (by omega)] at h'
      exact Fin.ext h'
    · rintro rfl; rfl
  show FloatOps.sitofp (F := Ideal) .f32 (BitVec.setWidth 32 (BitVec.ofBool _)) = _
  rw [h]
  by_cases hx : x = g
  · simp only [hx, decide_true, if_true]
    show ((((BitVec.setWidth 32 (BitVec.ofBool true)).toInt : ℝ)) : EReal) = 1
    rw [show (BitVec.setWidth 32 (BitVec.ofBool true)).toInt = 1 by decide]
    norm_num
  · simp only [hx, decide_false, if_false]
    show ((((BitVec.setWidth 32 (BitVec.ofBool false)).toInt : ℝ)) : EReal) = 0
    rw [show (BitVec.setWidth 32 (BitVec.ofBool false)).toInt = 0 by decide]
    norm_num

/-- A sum against the indicator of `g` is the term at `g`. -/
theorem sum_indicator {n : ℕ} (hn : n ≤ 2 ^ 31) (f : Fin n → EReal) (g : Fin n) :
    (∑ x : Fin n, f x * FloatOps.sitofp (F := Ideal) .f32
        (BitVec.setWidth 32 (IntOp.cmpi .eq (BitVec.ofNat 32 x.val) (BitVec.ofNat 32 g.val)))) = f g := by
  rw [Finset.sum_eq_single g]
  · rw [indicator_eq hn, if_pos rfl, mul_one]
  · intro x _ hx
    rw [indicator_eq hn, if_neg hx, mul_zero]
  · intro h; exact absurd (Finset.mem_univ g) h

/-- Choosing one of three values by an anchor's word. -/
theorem select_three {α : Type} (b : Fin 3) (u : Fin 3 → α) :
    Scalar.select (IntOp.cmpi .eq (BitVec.ofNat 32 b.val) 0#32) (u 0)
      (Scalar.select (IntOp.cmpi .eq (BitVec.ofNat 32 b.val) 1#32) (u 1) (u 2)) = u b := by
  match b with
  | 0 => rfl
  | 1 => rfl
  | 2 => rfl

/-- The word of a position counted through rows of `n`. -/
theorem word_mul_add (a n b : ℕ) :
    IntOp.addi (IntOp.muli (BitVec.ofNat 32 a) (BitVec.ofNat 32 n)) (BitVec.ofNat 32 b) = BitVec.ofNat 32 (a * n + b) := by
  show BitVec.ofNat 32 a * BitVec.ofNat 32 n + BitVec.ofNat 32 b = _
  rw [← BitVec.ofNat_mul, ← BitVec.ofNat_add]

/-- A finite number minus itself is zero. -/
theorem sub_self_of_finite {x : EReal} (h : x ≠ ⊥ ∧ x ≠ ⊤) : x - x = 0 := EReal.sub_self h.2 h.1

end Cert.Yolo
-- ==== Proof.KBase.lean ====
module

public import proofs.«01_k».proof.Proof.Chain
public import proofs.«01_k».proof.Proof.Totals
public import proofs.«01_k».proof.Proof.OneHot

/- The targets of one image and the anchors, as the kernel body takes them apart. -/

@[expose] public section

set_option maxRecDepth 16384

noncomputable section

namespace Cert.KernelIdeal.Chain

open Cert.KernelIdeal Cert.KernelIdeal.Gen Idealize.ShloMosaic Idealize.SL.Sem Cert.Yolo

variable (x0 : Vec Ideal S1x50x5 .f32) (x1 : Vec Ideal S9x2 .f32)

/-- The rows of the image's targets. -/
def row (t : Fin 50) : Fin 5 → EReal := fun k => x0 (ix3 0 t k)

/-- The widths of the three anchors of scale `s`. -/
def anchW (s : Fin 3) : Fin 3 → EReal := fun a => Ideal.div (x1 (ix2 ⟨3 * s.val + a.val, by omega⟩ 0)) img

/-- The heights of the three anchors of scale `s`. -/
def anchH (s : Fin 3) : Fin 3 → EReal := fun a => Ideal.div (x1 (ix2 ⟨3 * s.val + a.val, by omega⟩ 1)) img

theorem k4_eq (t : Fin 50) : k4 x0 (ix2 0 t) = cls (row x0 t) := by
  pointwise [k4, k0_pay8, k0_pay7]; rfl
theorem k5_eq (t : Fin 50) : k5 x0 (ix2 0 t) = row x0 t 1 := by pointwise [k5, k0_pay9, k0_pay7]; rfl
theorem k6_eq (t : Fin 50) : k6 x0 (ix2 0 t) = row x0 t 2 := by pointwise [k6, k0_pay10, k0_pay7]; rfl
theorem k7_eq (t : Fin 50) : k7 x0 (ix2 0 t) = row x0 t 3 := by pointwise [k7, k0_pay11, k0_pay7]; rfl
theorem k8_eq (t : Fin 50) : k8 x0 (ix2 0 t) = row x0 t 4 := by pointwise [k8, k0_pay12, k0_pay7]; rfl

/-- The mask is the bit "matched". -/
theorem k36_eq (t : Fin 50) : k36 x0 (ix2 0 t) = bit (matched (row x0 t)) := by
  pointwise [k36, k0_pay14, k0_pay13, k0_pay8, k0_pay9, k0_pay10, k0_pay11, k0_pay12, k0_pay7]; rfl

end Cert.KernelIdeal.Chain
-- ==== Proof.KScale5.lean ====
module

public import proofs.«01_k».proof.Proof.KBase

/- What one grid point computes of the third scale (20 by 20 cells, flattened): the losses of the image's fifty targets. -/

@[expose] public section

set_option maxRecDepth 16384

noncomputable section

namespace Cert.KernelIdeal.Chain

open Cert.KernelIdeal Cert.KernelIdeal.Gen Idealize.ShloMosaic Idealize.SL.Sem Cert.Yolo

variable (x0 : Vec Ideal S1x50x5 .f32) (x1 : Vec Ideal S9x2 .f32) (x4 : Vec Ideal S1x27x400 .f32)

/-- The predictions at the third scale. -/
def pred5 : Fin 3 → Fin 20 → Fin 20 → Fin 9 → EReal :=
  fun a r c k => x4 (ix3 0 ⟨9 * a.val + k.val, by omega⟩ ⟨r.val * 20 + c.val, by omega⟩)

theorem k801_eq : k801 x1 = anchW x1 2 0 := by pointwise [k801, k0_pay116]; rfl
theorem k803_eq : k803 x1 = anchW x1 2 1 := by pointwise [k803, k0_pay117]; rfl
theorem k805_eq : k805 x1 = anchW x1 2 2 := by pointwise [k805, k0_pay118]; rfl
theorem k807_eq : k807 x1 = anchH x1 2 0 := by pointwise [k807, k0_pay119]; rfl
theorem k809_eq : k809 x1 = anchH x1 2 1 := by pointwise [k809, k0_pay120]; rfl
theorem k811_eq : k811 x1 = anchH x1 2 2 := by pointwise [k811, k0_pay121]; rfl

/-- The ratio of areas of target and anchor, for each of the three anchors. -/
theorem k824_eq (t : Fin 50) : k824 x0 x1 (ix2 0 t) = ratio (row x0 t) (anchW x1 2 0) (anchH x1 2 0) := by
  have h := k807_eq x1
  unfold k807 at h
  pointwise [k824, k0_pay122]
  simp only [h, k7_eq, k8_eq, k801_eq]; rfl
theorem k837_eq (t : Fin 50) : k837 x0 x1 (ix2 0 t) = ratio (row x0 t) (anchW x1 2 1) (anchH x1 2 1) := by
  have h := k809_eq x1
  unfold k809 at h
  pointwise [k837, k0_pay123]
  simp only [h, k7_eq, k8_eq, k803_eq]; rfl
theorem k850_eq (t : Fin 50) : k850 x0 x1 (ix2 0 t) = ratio (row x0 t) (anchW x1 2 2) (anchH x1 2 2) := by
  have h := k811_eq x1
  have h' := k805_eq x1
  unfold k811 at h
  unfold k805 at h'
  pointwise [k850, k0_pay124]
  simp only [h, h', k7_eq, k8_eq]; rfl

/-- The matched anchor. -/
theorem k858_eq (t : Fin 50) : k858 x0 x1 (ix2 0 t) = best (row x0 t) (anchW x1 2) (anchH x1 2) := by
  have h0 := k824_eq x0 x1 t
  have h1 := k837_eq x0 x1 t
  unfold k824 at h0
  unfold k837 at h1
  pointwise [k858, k0_pay126, k851, k0_pay125]
  simp only [h0, h1, k824_eq, k837_eq, k850_eq]; rfl

/-- The column of the target's cell. -/
theorem k866_eq (t : Fin 50) : k866 x0 (ix2 0 t) = cell g20 19#32 (row x0 t 1) := by
  pointwise [k866, k0_pay127]; rw [k5_eq]; rfl

/-- The row of the target's cell. -/
theorem k874_eq (t : Fin 50) : k874 x0 (ix2 0 t) = cell g20 19#32 (row x0 t 2) := by
  pointwise [k874, k0_pay128]; rw [k6_eq]; rfl

theorem k799_eq (a : Fin 27) (j : Fin 400) : k799 x4 (ix2 a j) = x4 (ix3 0 a j) := by
  pointwise [k799, k0_pay115]

/-- The nine numbers read for the target are the predictions at its anchor and cell. -/
theorem k905_eq (hx : ∀ i, x4 i ≠ ⊥ ∧ x4 i ≠ ⊤) (k : Fin 9) (t : Fin 50) :
    k905 x0 x1 x4 (ix2 k t) = pred 20 g20 19#32 (anchW x1 2) (anchH x1 2) (pred5 x4) (row x0 t) k := by
  unfold pred
  have hb := (k858_eq x0 x1 t).trans (best_eq _ _ _)
  have hc := (k866_eq x0 t).trans (cell_eq 20 _ _ rfl (by decide) _)
  have hr := (k874_eq x0 t).trans (cell_eq 20 _ _ rfl (by decide) _)
  generalize at' 3 (best (row x0 t) (anchW x1 2) (anchH x1 2)) = b at hb
  generalize at' 20 (cell g20 19#32 (row x0 t 1)) = c at hc
  generalize at' 20 (cell g20 19#32 (row x0 t 2)) = r at hr
  unfold k866 at hc
  unfold k874 at hr
  unfold k858 at hb
  have hw := word_mul_add r.val 20 c.val
  have hf := sum_indicator (n := 400) (by decide) (g := ⟨r.val * 20 + c.val, by omega⟩)
  pointwise [k905, k0_pay135, k894, k895, k897, k898, k899, k0_pay130, k0_pay131, k0_pay132, k0_pay133, k0_pay134, k0_pay129]
  simp only [hb, hc, hr, hw, k799_eq, hf, sub_self_of_finite (hx _), add_zero]
  match b with
  | 0 =>
    show (dite _ _ _ : EReal) = _
    rw [dif_pos (by omega)]
    exact congrArg (fun p => x4 (ix3 0 p _)) (Fin.ext (by show k.val = 9 * 0 + k.val; omega))
  | 1 =>
    show (dite _ _ _ : EReal) = _
    rw [dif_pos (by omega)]
    exact congrArg (fun p => x4 (ix3 0 p _)) (Fin.ext (by show 9 + k.val = 9 * 1 + k.val; omega))
  | 2 =>
    show (dite _ _ _ : EReal) = _
    rw [dif_pos (by omega)]
    exact congrArg (fun p => x4 (ix3 0 p _)) (Fin.ext (by show 18 + k.val = 9 * 2 + k.val; omega))

/-- The size of the predicted box. -/
theorem k938_eq (hx : ∀ i, x4 i ≠ ⊥ ∧ x4 i ≠ ⊤) (t : Fin 50) : k938 x0 x1 x4 (ix2 0 t) = boxW 20 g20 19#32 (anchW x1 2) (anchH x1 2) (pred5 x4) (row x0 t) := by
  have hb := (k858_eq x0 x1 t).trans (best_eq _ _ _)
  have hw := select_three (at' 3 (best (row x0 t) (anchW x1 2) (anchH x1 2))) (anchW x1 2)
  rw [← hb] at hw
  have hz := k905_eq x0 x1 x4 hx
  unfold k905 at hz
  pointwise [k938, k0_pay138]
  rw [hz, k801_eq, k803_eq, k805_eq]; exact congrArg _ hw
theorem k941_eq (hx : ∀ i, x4 i ≠ ⊥ ∧ x4 i ≠ ⊤) (t : Fin 50) : k941 x0 x1 x4 (ix2 0 t) = boxH 20 g20 19#32 (anchW x1 2) (anchH x1 2) (pred5 x4) (row x0 t) := by
  have hb := (k858_eq x0 x1 t).trans (best_eq _ _ _)
  have hw := select_three (at' 3 (best (row x0 t) (anchW x1 2) (anchH x1 2))) (anchH x1 2)
  rw [← hb] at hw
  have hz := k905_eq x0 x1 x4 hx
  unfold k905 at hz
  pointwise [k941, k0_pay139]
  rw [hz, k807_eq, k809_eq, k811_eq]; exact congrArg _ hw

/-- The middle of the predicted box, and its left, upper and right edges. -/
theorem k935_eq (hx : ∀ i, x4 i ≠ ⊥ ∧ x4 i ≠ ⊤) (t : Fin 50) : k935 x0 x1 x4 (ix2 0 t) = boxY 20 g20 19#32 (anchW x1 2) (anchH x1 2) (pred5 x4) (row x0 t) := by
  have hz := k905_eq x0 x1 x4 hx
  unfold k905 at hz
  pointwise [k935, k0_pay137]
  rw [hz, k874_eq]; rfl
theorem k944_eq (hx : ∀ i, x4 i ≠ ⊥ ∧ x4 i ≠ ⊤) (t : Fin 50) :
    k944 x0 x1 x4 (ix2 0 t) = boxX 20 g20 19#32 (anchW x1 2) (anchH x1 2) (pred5 x4) (row x0 t) - Ideal.div (boxW 20 g20 19#32 (anchW x1 2) (anchH x1 2) (pred5 x4) (row x0 t)) two := by
  have hz := k905_eq x0 x1 x4 hx
  have hw := k938_eq x0 x1 x4 hx t
  unfold k905 at hz
  unfold k938 at hw
  pointwise [k944, k0_pay140, k0_pay136]
  rw [hz, hw, k866_eq]; rfl
theorem k947_eq (hx : ∀ i, x4 i ≠ ⊥ ∧ x4 i ≠ ⊤) (t : Fin 50) :
    k947 x0 x1 x4 (ix2 0 t) = boxY 20 g20 19#32 (anchW x1 2) (anchH x1 2) (pred5 x4) (row x0 t) - Ideal.div (boxH 20 g20 19#32 (anchW x1 2) (anchH x1 2) (pred5 x4) (row x0 t)) two := by
  have hw := k941_eq x0 x1 x4 hx t
  have hy := k935_eq x0 x1 x4 hx t
  unfold k941 at hw
  unfold k935 at hy
  pointwise [k947, k0_pay141]
  rw [hw, hy]; rfl
theorem k950_eq (hx : ∀ i, x4 i ≠ ⊥ ∧ x4 i ≠ ⊤) (t : Fin 50) :
    k950 x0 x1 x4 (ix2 0 t) = boxX 20 g20 19#32 (anchW x1 2) (anchH x1 2) (pred5 x4) (row x0 t) + Ideal.div (boxW 20 g20 19#32 (anchW x1 2) (anchH x1 2) (pred5 x4) (row x0 t)) two := by
  have hz := k905_eq x0 x1 x4 hx
  have hw := k938_eq x0 x1 x4 hx t
  unfold k905 at hz
  unfold k938 at hw
  pointwise [k950, k0_pay142, k0_pay136]
  rw [hz, hw, k866_eq]; rfl

/-- The box's generalised intersection over union with the target. -/
theorem k995_eq (hx : ∀ i, x4 i ≠ ⊥ ∧ x4 i ≠ ⊤) (t : Fin 50) : k995 x0 x1 x4 (ix2 0 t) = boxGiou 20 g20 19#32 (anchW x1 2) (anchH x1 2) (pred5 x4) (row x0 t) := by
  pointwise [k995, k0_pay143]
  simp only [k935_eq x0 x1 x4 hx, k938_eq x0 x1 x4 hx, k941_eq x0 x1 x4 hx, k944_eq x0 x1 x4 hx, k947_eq x0 x1 x4 hx, k950_eq x0 x1 x4 hx,
    k5_eq, k6_eq, k7_eq, k8_eq]
  rfl

/-- The scale's box loss. -/
theorem k1002_eq (hx : ∀ i, x4 i ≠ ⊥ ∧ x4 i ≠ ⊤) :
    k1002 x0 x1 x4 = ∑ t : Fin 50, boxLoss 20 g20 19#32 (anchW x1 2) (anchH x1 2) (pred5 x4) (row x0 t) := by
  have h := k995_eq x0 x1 x4 hx
  unfold k995 at h
  pointwise [k1002, k0_pay145, k999, k0_pay144]
  simp only [h, k36_eq, Fin.sum_univ_one]
  rfl

/-- The scale's class loss. -/
theorem k1033_eq (hx : ∀ i, x4 i ≠ ⊥ ∧ x4 i ≠ ⊤) :
    k1033 x0 x1 x4 = ∑ t : Fin 50, clsLoss 20 g20 19#32 (anchW x1 2) (anchH x1 2) (pred5 x4) (row x0 t) := by
  pointwise [k1033, k0_pay146]
  simp only [k905_eq x0 x1 x4 hx, k36_eq, k4_eq, Fin.sum_univ_one, ne_eq, not_true_eq_false, if_false]
  rfl

end Cert.KernelIdeal.Chain
-- ==== Proof.KScale4.lean ====
module

public import proofs.«01_k».proof.Proof.KBase

/- What one grid point computes of the second scale (40 by 40 cells, flattened): the losses of the image's fifty targets. -/

@[expose] public section

set_option maxRecDepth 16384

noncomputable section

namespace Cert.KernelIdeal.Chain

open Cert.KernelIdeal Cert.KernelIdeal.Gen Idealize.ShloMosaic Idealize.SL.Sem Cert.Yolo

variable (x0 : Vec Ideal S1x50x5 .f32) (x1 : Vec Ideal S9x2 .f32) (x3 : Vec Ideal S1x27x1600 .f32)

/-- The predictions at the second scale. -/
def pred4 : Fin 3 → Fin 40 → Fin 40 → Fin 9 → EReal :=
  fun a r c k => x3 (ix3 0 ⟨9 * a.val + k.val, by omega⟩ ⟨r.val * 40 + c.val, by omega⟩)

theorem k500_eq : k500 x1 = anchW x1 1 0 := by pointwise [k500, k0_pay79]; rfl
theorem k502_eq : k502 x1 = anchW x1 1 1 := by pointwise [k502, k0_pay80]; rfl
theorem k504_eq : k504 x1 = anchW x1 1 2 := by pointwise [k504, k0_pay81]; rfl
theorem k506_eq : k506 x1 = anchH x1 1 0 := by pointwise [k506, k0_pay82]; rfl
theorem k508_eq : k508 x1 = anchH x1 1 1 := by pointwise [k508, k0_pay83]; rfl
theorem k510_eq : k510 x1 = anchH x1 1 2 := by pointwise [k510, k0_pay84]; rfl

/-- The matched anchor. -/
theorem k557_eq (t : Fin 50) : k557 x0 x1 (ix2 0 t) = best (row x0 t) (anchW x1 1) (anchH x1 1) := by
  have h := k510_eq x1
  unfold k510 at h
  pointwise [k557, k0_pay85]
  simp only [h, k7_eq, k8_eq, k500_eq, k502_eq, k504_eq, k506_eq, k508_eq]; rfl

/-- The column of the target's cell. -/
theorem k565_eq (t : Fin 50) : k565 x0 (ix2 0 t) = cell g40 39#32 (row x0 t 1) := by
  pointwise [k565, k0_pay87, k560, k0_pay86]; rw [k5_eq]; rfl

/-- The row of the target's cell. -/
theorem k573_eq (t : Fin 50) : k573 x0 (ix2 0 t) = cell g40 39#32 (row x0 t 2) := by
  pointwise [k573, k0_pay88]; rw [k6_eq]; rfl

theorem k498_eq (a : Fin 27) (j : Fin 1600) : k498 x3 (ix2 a j) = x3 (ix3 0 a j) := by
  pointwise [k498, k0_pay78]

/-- The nine numbers read for the target are the predictions at its anchor and cell. -/
theorem k604_eq (hx : ∀ i, x3 i ≠ ⊥ ∧ x3 i ≠ ⊤) (k : Fin 9) (t : Fin 50) :
    k604 x0 x1 x3 (ix2 k t) = pred 40 g40 39#32 (anchW x1 1) (anchH x1 1) (pred4 x3) (row x0 t) k := by
  unfold pred
  have hb := (k557_eq x0 x1 t).trans (best_eq _ _ _)
  have hc := (k565_eq x0 t).trans (cell_eq 40 _ _ rfl (by decide) _)
  have hr := (k573_eq x0 t).trans (cell_eq 40 _ _ rfl (by decide) _)
  generalize at' 3 (best (row x0 t) (anchW x1 1) (anchH x1 1)) = b at hb
  generalize at' 40 (cell g40 39#32 (row x0 t 1)) = c at hc
  generalize at' 40 (cell g40 39#32 (row x0 t 2)) = r at hr
  unfold k565 at hc
  unfold k573 at hr
  have hw := word_mul_add r.val 40 c.val
  have hf := sum_indicator (n := 1600) (by decide) (g := ⟨r.val * 40 + c.val, by omega⟩)
  pointwise [k604, k0_pay89]
  simp only [hb, hc, hr, hw, k498_eq, hf, sub_self_of_finite (hx _), add_zero]
  match b with
  | 0 =>
    show (dite _ _ _ : EReal) = _
    rw [dif_pos (by omega)]
    exact congrArg (fun p => x3 (ix3 0 p _)) (Fin.ext (by show k.val = 9 * 0 + k.val; omega))
  | 1 =>
    show (dite _ _ _ : EReal) = _
    rw [dif_pos (by omega)]
    exact congrArg (fun p => x3 (ix3 0 p _)) (Fin.ext (by show 9 + k.val = 9 * 1 + k.val; omega))
  | 2 =>
    show (dite _ _ _ : EReal) = _
    rw [dif_pos (by omega)]
    exact congrArg (fun p => x3 (ix3 0 p _)) (Fin.ext (by show 18 + k.val = 9 * 2 + k.val; omega))

/-- The box's generalised intersection over union with the target. -/
theorem k694_eq (hx : ∀ i, x3 i ≠ ⊥ ∧ x3 i ≠ ⊤) (t : Fin 50) :
    k694 x0 x1 x3 (ix2 0 t) = boxGiou 40 g40 39#32 (anchW x1 1) (anchH x1 1) (pred4 x3) (row x0 t) := by
  have hb := (k557_eq x0 x1 t).trans (best_eq _ _ _)
  have hw := select_three (at' 3 (best (row x0 t) (anchW x1 1) (anchH x1 1))) (anchW x1 1)
  have hh := select_three (at' 3 (best (row x0 t) (anchW x1 1) (anchH x1 1))) (anchH x1 1)
  rw [← hb] at hw hh
  have e1 : k637 x0 x1 x3 (ix2 0 t) = boxW 40 g40 39#32 (anchW x1 1) (anchH x1 1) (pred4 x3) (row x0 t) := by
    pointwise [k637, k606, k608, k609, k0_pay90, k0_pay91, k0_pay92, k0_pay95]
    rw [k604_eq x0 x1 x3 hx, k500_eq, k502_eq, k504_eq]; exact congrArg _ hw
  have e2 : k640 x0 x1 x3 (ix2 0 t) = boxH 40 g40 39#32 (anchW x1 1) (anchH x1 1) (pred4 x3) (row x0 t) := by
    pointwise [k640, k0_pay96]
    rw [k604_eq x0 x1 x3 hx, k506_eq, k508_eq, k510_eq]; exact congrArg _ hh
  have u1 := e1
  have u2 := e2
  unfold k637 at u1
  unfold k640 at u2
  have e3 : k643 x0 x1 x3 (ix2 0 t) = boxX 40 g40 39#32 (anchW x1 1) (anchH x1 1) (pred4 x3) (row x0 t) - Ideal.div (boxW 40 g40 39#32 (anchW x1 1) (anchH x1 1) (pred4 x3) (row x0 t)) two := by
    pointwise [k643, k0_pay93, k0_pay97]
    rw [u1, k604_eq x0 x1 x3 hx, k565_eq]; rfl
  have e4 : k646 x0 x1 x3 (ix2 0 t) = boxY 40 g40 39#32 (anchW x1 1) (anchH x1 1) (pred4 x3) (row x0 t) - Ideal.div (boxH 40 g40 39#32 (anchW x1 1) (anchH x1 1) (pred4 x3) (row x0 t)) two := by
    pointwise [k646, k0_pay94, k0_pay98]
    rw [u2, k604_eq x0 x1 x3 hx, k573_eq]; rfl
  have e5 : k649 x0 x1 x3 (ix2 0 t) = boxX 40 g40 39#32 (anchW x1 1) (anchH x1 1) (pred4 x3) (row x0 t) + Ideal.div (boxW 40 g40 39#32 (anchW x1 1) (anchH x1 1) (pred4 x3) (row x0 t)) two := by
    pointwise [k649, k0_pay93, k0_pay99]
    rw [u1, k604_eq x0 x1 x3 hx, k565_eq]; rfl
  have e6 : k652 x0 x1 x3 (ix2 0 t) = boxY 40 g40 39#32 (anchW x1 1) (anchH x1 1) (pred4 x3) (row x0 t) + Ideal.div (boxH 40 g40 39#32 (anchW x1 1) (anchH x1 1) (pred4 x3) (row x0 t)) two := by
    pointwise [k652, k0_pay94, k0_pay100]
    rw [u2, k604_eq x0 x1 x3 hx, k573_eq]; rfl
  have e7 : k655 x0 (ix2 0 t) = row x0 t 1 - Ideal.div (row x0 t 3) two := by
    pointwise [k655, k0_pay101]
    rw [k5_eq, k7_eq]; rfl
  have e8 : k658 x0 (ix2 0 t) = row x0 t 2 - Ideal.div (row x0 t 4) two := by
    pointwise [k658, k0_pay102]
    rw [k6_eq, k8_eq]; rfl
  pointwise [k694, k0_pay103]
  simp only [e1, e2, e3, e4, e5, e6, e7, e8, k5_eq, k6_eq, k7_eq, k8_eq]
  rfl

/-- The box loss is the sum, over the targets, of the matched ones' distance from overlap. -/
theorem pay104_eq (v5 v6 v7 v8 v36 v637 v640 v643 v646 v649 v652 v655 v658 : FVec Ideal S1x50 .f32) (c : Ideal .f32) :
    k0_pay104 (F := Ideal) v5 v6 v7 v8 v36 v637 v640 v643 v646 v649 v652 v655 v658 c
      = ∑ t : Fin 50, v36 (ix2 0 t) * ((FloatOps.ofBits .f32 0x3F800000#32 : Ideal .f32)
          - k0_pay103 (F := Ideal) v5 v6 v7 v8 v637 v640 v643 v646 v649 v652 v655 v658 c (ix2 0 t)) := by
  unfold k0_pay104
  generalize k0_pay103 (F := Ideal) v5 v6 v7 v8 v637 v640 v643 v646 v649 v652 v655 v658 c = w
  pointwise []
  simp only [Fin.sum_univ_one]

/-- The scale's box loss. -/
theorem k701_eq (hx : ∀ i, x3 i ≠ ⊥ ∧ x3 i ≠ ⊤) :
    k701 x0 x1 x3 = ∑ t : Fin 50, boxLoss 40 g40 39#32 (anchW x1 1) (anchH x1 1) (pred4 x3) (row x0 t) := by
  unfold k701
  rw [pay104_eq]
  refine Finset.sum_congr rfl fun t _ => ?_
  have h := k694_eq x0 x1 x3 hx t
  unfold k694 at h
  rw [h, k36_eq]
  exact congrArg (fun o => bit (matched (row x0 t)) * (o - _)) Ideal.ofBits_one_f32

/-- The scale's class loss. -/
theorem k732_eq (hx : ∀ i, x3 i ≠ ⊥ ∧ x3 i ≠ ⊤) :
    k732 x0 x1 x3 = ∑ t : Fin 50, clsLoss 40 g40 39#32 (anchW x1 1) (anchH x1 1) (pred4 x3) (row x0 t) := by
  pointwise [k732, k0_pay109, k702, k707, k709, k710, k0_pay105, k0_pay106, k0_pay107, k0_pay108]
  simp only [k604_eq x0 x1 x3 hx, k36_eq, k4_eq, Fin.sum_univ_one, ne_eq, not_true_eq_false, if_false]
  rfl

/-- The scale's confidence loss at the targets. -/
theorem k758_eq (hx : ∀ i, x3 i ≠ ⊥ ∧ x3 i ≠ ⊤) :
    k758 x0 x1 x3 = ∑ t : Fin 50, confLoss 40 g40 39#32 (anchW x1 1) (anchH x1 1) (pred4 x3) (row x0 t) := by
  pointwise [k758, k0_pay110]
  simp only [k604_eq x0 x1 x3 hx, k694_eq x0 x1 x3 hx, k36_eq, Fin.sum_univ_one, ne_eq, not_true_eq_false, if_false]
  rfl

end Cert.KernelIdeal.Chain
-- ==== Proof.KScale3.lean ====
module

public import proofs.«01_k».proof.Proof.KBase

/- What one grid point computes of the first scale (80 by 80 cells): the losses of the image's fifty targets. -/

@[expose] public section

set_option maxRecDepth 16384

noncomputable section

namespace Cert.KernelIdeal.Chain

open Cert.KernelIdeal Cert.KernelIdeal.Gen Idealize.ShloMosaic Idealize.SL.Sem Cert.Yolo

variable (x0 : Vec Ideal S1x50x5 .f32) (x1 : Vec Ideal S9x2 .f32) (x2 : Vec Ideal S1x27x80x80 .f32)

/-- The predictions at the first scale. -/
def pred3 : Fin 3 → Fin 80 → Fin 80 → Fin 9 → EReal := fun a r c k => x2 (ix4 0 ⟨9 * a.val + k.val, by omega⟩ r c)

theorem k190_eq : k190 x1 = anchW x1 0 0 := by pointwise [k190, k0_pay33]; rfl
theorem k192_eq : k192 x1 = anchW x1 0 1 := by pointwise [k192, k0_pay34]; rfl
theorem k194_eq : k194 x1 = anchW x1 0 2 := by pointwise [k194, k0_pay35]; rfl
theorem k196_eq : k196 x1 = anchH x1 0 0 := by pointwise [k196, k0_pay36]; rfl
theorem k198_eq : k198 x1 = anchH x1 0 1 := by pointwise [k198, k0_pay37]; rfl
theorem k200_eq : k200 x1 = anchH x1 0 2 := by pointwise [k200, k0_pay38]; rfl

/-- The matched anchor. -/
theorem k247_eq (t : Fin 50) : k247 x0 x1 (ix2 0 t) = best (row x0 t) (anchW x1 0) (anchH x1 0) := by
  have h0 : k213 x0 x1 (ix2 0 t) = ratio (row x0 t) (anchW x1 0 0) (anchH x1 0 0) := by
    rw [← k190_eq, ← k196_eq]
    pointwise [k213, k0_pay39]
    rw [k7_eq, k8_eq]; rfl
  have h1 : k215 x0 x1 (ix2 0 t) = min (row x0 t 3) (anchW x1 0 1) := by
    rw [← k192_eq, ← k7_eq]; pointwise [k215, k0_pay40]; rfl
  have h2 : k217 x0 x1 (ix2 0 t) = min (row x0 t 4) (anchH x1 0 1) := by
    rw [← k198_eq, ← k8_eq]; pointwise [k217, k0_pay41]; rfl
  pointwise [k247, k0_pay42]
  rw [h0, h1, h2, k7_eq, k8_eq, k192_eq, k194_eq, k198_eq, k200_eq]; rfl

/-- The column of the target's cell. -/
theorem k255_eq (t : Fin 50) : k255 x0 (ix2 0 t) = cell g80 79#32 (row x0 t 1) := by
  pointwise [k255, k0_pay43]; rw [k5_eq]; rfl

/-- The row of the target's cell. -/
theorem k263_eq (t : Fin 50) : k263 x0 (ix2 0 t) = cell g80 79#32 (row x0 t 2) := by
  pointwise [k263, k0_pay44]; rw [k6_eq]; rfl

theorem k188_eq (a : Fin 27) (r c : Fin 80) : k188 x2 (ix3 a r c) = x2 (ix4 0 a r c) := by
  pointwise [k188, k0_pay32]

/-- The nine numbers read for the target are the predictions at its anchor and cell. -/
theorem k302_eq (hx : ∀ i, x2 i ≠ ⊥ ∧ x2 i ≠ ⊤) (k : Fin 9) (t : Fin 50) :
    k302 x0 x1 x2 (ix2 k t) = pred 80 g80 79#32 (anchW x1 0) (anchH x1 0) (pred3 x2) (row x0 t) k := by
  unfold pred
  have hb := (k247_eq x0 x1 t).trans (best_eq _ _ _)
  have hc := (k255_eq x0 t).trans (cell_eq 80 _ _ rfl (by decide) _)
  have hr := (k263_eq x0 t).trans (cell_eq 80 _ _ rfl (by decide) _)
  generalize at' 3 (best (row x0 t) (anchW x1 0) (anchH x1 0)) = b at hb
  generalize at' 80 (cell g80 79#32 (row x0 t 1)) = c at hc
  generalize at' 80 (cell g80 79#32 (row x0 t 2)) = r at hr
  pointwise [k302, k0_pay47, k264, k266, k0_pay45, k0_pay46]
  simp only [hb, hc, hr, k188_eq, sum_indicator (show 80 ≤ 2 ^ 31 by decide), sub_self_of_finite (hx _)]
  have hp : ∀ (p q : Fin 27), p = q → x2 (ix4 0 p r c) = x2 (ix4 0 q r c) := fun _ _ h => h ▸ rfl
  match b with
  | 0 =>
    show (dite _ _ _ : EReal) + (dite _ _ _ : EReal) = _
    rw [dif_pos (by omega), dif_neg (by omega), add_zero]
    exact hp _ _ (Fin.ext (by show (k.val * 80 + r.val) / 80 = 9 * 0 + k.val; omega))
  | 1 =>
    show (dite _ _ _ : EReal) + (dite _ _ _ : EReal) = _
    rw [dif_pos (by omega), dif_neg (by omega), add_zero]
    exact hp _ _ (Fin.ext (by show (720 + (k.val * 80 + r.val)) / 80 = 9 * 1 + k.val; omega))
  | 2 =>
    show (dite _ _ _ : EReal) + (dite _ _ _ : EReal) = _
    rw [dif_pos (by omega), dif_neg (by omega), add_zero]
    exact hp _ _ (Fin.ext (by show (1440 + (k.val * 80 + r.val)) / 80 = 9 * 2 + k.val; omega))

/-- The box's generalised intersection over union with the target. -/
theorem k392_eq (hx : ∀ i, x2 i ≠ ⊥ ∧ x2 i ≠ ⊤) (t : Fin 50) :
    k392 x0 x1 x2 (ix2 0 t) = boxGiou 80 g80 79#32 (anchW x1 0) (anchH x1 0) (pred3 x2) (row x0 t) := by
  have hw : k311 x0 x1 (ix2 0 t) = anchW x1 0 (at' 3 (best (row x0 t) (anchW x1 0) (anchH x1 0))) := by
    have hb := (k247_eq x0 x1 t).trans (best_eq _ _ _)
    generalize at' 3 (best (row x0 t) (anchW x1 0) (anchH x1 0)) = b at hb
    pointwise [k311, k0_pay48]
    rw [hb, k190_eq, k192_eq, k194_eq]
    exact select_three b _
  have hh : Scalar.select (k313 x0 x1 (ix2 0 t)) (k196 x1) (k318 x0 x1 (ix2 0 t))
      = anchH x1 0 (at' 3 (best (row x0 t) (anchW x1 0) (anchH x1 0))) := by
    have hb := (k247_eq x0 x1 t).trans (best_eq _ _ _)
    generalize at' 3 (best (row x0 t) (anchW x1 0) (anchH x1 0)) = b at hb
    pointwise [k313, k0_pay49, k318, k0_pay50]
    rw [hb, k196_eq, k198_eq, k200_eq]
    exact select_three b _
  pointwise [k392, k0_pay64, k335, k338, k341, k344, k347, k350, k353, k356, k359, k362, k367, k0_pay51, k0_pay52,
    k0_pay53, k0_pay54, k0_pay55, k0_pay56, k0_pay57, k0_pay58, k0_pay59, k0_pay60, k0_pay61, k0_pay62, k0_pay63]
  simp only [hw, hh, k302_eq x0 x1 x2 hx, k255_eq, k263_eq, k5_eq, k6_eq, k7_eq, k8_eq]
  rfl

/-- The scale's box loss. -/
theorem k399_eq (hx : ∀ i, x2 i ≠ ⊥ ∧ x2 i ≠ ⊤) :
    k399 x0 x1 x2 = ∑ t : Fin 50, boxLoss 80 g80 79#32 (anchW x1 0) (anchH x1 0) (pred3 x2) (row x0 t) := by
  have h := k392_eq x0 x1 x2 hx
  unfold k392 at h
  pointwise [k399, k0_pay65]
  simp only [h, k36_eq, Fin.sum_univ_one]
  rfl

/-- The scale's class loss. -/
theorem k430_eq (hx : ∀ i, x2 i ≠ ⊥ ∧ x2 i ≠ ⊤) :
    k430 x0 x1 x2 = ∑ t : Fin 50, clsLoss 80 g80 79#32 (anchW x1 0) (anchH x1 0) (pred3 x2) (row x0 t) := by
  pointwise [k430, k0_pay69, k419, k420, k0_pay66, k0_pay67, k0_pay68]
  simp only [k302_eq x0 x1 x2 hx, k36_eq, k4_eq, Fin.sum_univ_one, ne_eq, not_true_eq_false, if_false]
  rfl

/-- The scale's confidence loss at the targets. -/
theorem k456_eq (hx : ∀ i, x2 i ≠ ⊥ ∧ x2 i ≠ ⊤) :
    k456 x0 x1 x2 = ∑ t : Fin 50, confLoss 80 g80 79#32 (anchW x1 0) (anchH x1 0) (pred3 x2) (row x0 t) := by
  pointwise [k456, k0_pay70]
  simp only [k302_eq x0 x1 x2 hx, k392_eq x0 x1 x2 hx, k36_eq, Fin.sum_univ_one, ne_eq, not_true_eq_false, if_false]
  rfl

end Cert.KernelIdeal.Chain
-- ==== Proof.KPoint.lean ====
module

public import proofs.«01_k».proof.Proof.KScale5
public import proofs.«01_k».proof.Proof.KScale4
public import proofs.«01_k».proof.Proof.KScale3

/- One grid point's contribution, and what the last point makes of the sum of all contributions: both are rows of 128
   lanes of which only the first few are used. -/

@[expose] public section

set_option maxRecDepth 16384

noncomputable section

namespace Cert.KernelIdeal.Chain

open Cert.KernelIdeal Cert.KernelIdeal.Gen Idealize.ShloMosaic Idealize.SL.Sem Cert.Yolo

variable (x0 : Vec Ideal S1x50x5 .f32) (x1 : Vec Ideal S9x2 .f32) (x2 : Vec Ideal S1x27x80x80 .f32)
  (x3 : Vec Ideal S1x27x1600 .f32) (x4 : Vec Ideal S1x27x400 .f32) (x5 : Vec Ideal S1x3x500 .i32)

/-- Three times the number of the image's real boxes. -/
theorem k43_eq : k43 x0 = (∑ t : Fin 50, bit (valid (row x0 t))) * Ideal.ofBits .f32 0x40400000#32 := by
  pointwise [k43, k0_pay15, k0_pay13, k0_pay9, k0_pay10, k0_pay11, k0_pay12, k0_pay7]
  simp only [Fin.sum_univ_one]
  rfl

theorem k1100_eq (h2 : ∀ i, x2 i ≠ ⊥ ∧ x2 i ≠ ⊤) (h3 : ∀ i, x3 i ≠ ⊥ ∧ x3 i ≠ ⊤) (h4 : ∀ i, x4 i ≠ ⊥ ∧ x4 i ≠ ⊤) :
    k1100 x0 x1 x2 x3 x4 = (∑ t : Fin 50, boxLoss 80 g80 79#32 (anchW x1 0) (anchH x1 0) (pred3 x2) (row x0 t))
      + (∑ t : Fin 50, boxLoss 40 g40 39#32 (anchW x1 1) (anchH x1 1) (pred4 x3) (row x0 t))
      + (∑ t : Fin 50, boxLoss 20 g20 19#32 (anchW x1 2) (anchH x1 2) (pred5 x4) (row x0 t)) := by
  rw [← k399_eq x0 x1 x2 h2, ← k701_eq x0 x1 x3 h3, ← k1002_eq x0 x1 x4 h4]
  rfl

theorem k1102_eq (h2 : ∀ i, x2 i ≠ ⊥ ∧ x2 i ≠ ⊤) (h3 : ∀ i, x3 i ≠ ⊥ ∧ x3 i ≠ ⊤) (h4 : ∀ i, x4 i ≠ ⊥ ∧ x4 i ≠ ⊤) :
    k1102 x0 x1 x2 x3 x4 = (∑ t : Fin 50, clsLoss 80 g80 79#32 (anchW x1 0) (anchH x1 0) (pred3 x2) (row x0 t))
      + (∑ t : Fin 50, clsLoss 40 g40 39#32 (anchW x1 1) (anchH x1 1) (pred4 x3) (row x0 t))
      + (∑ t : Fin 50, clsLoss 20 g20 19#32 (anchW x1 2) (anchH x1 2) (pred5 x4) (row x0 t)) := by
  rw [← k430_eq x0 x1 x2 h2, ← k732_eq x0 x1 x3 h3, ← k1033_eq x0 x1 x4 h4]
  rfl

theorem k1034_eq (hx : ∀ i, x4 i ≠ ⊥ ∧ x4 i ≠ ⊤) (t : Fin 50) :
    k1034 x0 x1 x4 (ix2 0 t) = pred 20 g20 19#32 (anchW x1 2) (anchH x1 2) (pred5 x4) (row x0 t) 4 := by
  pointwise [k1034, k0_pay147]
  exact k905_eq x0 x1 x4 hx _ _

/-- What the last scale adds to the confidence loss, over variables. -/
theorem pay157_eq (v36 v1034 v1038 v1040 v1045 v1050 : FVec Ideal S1x50 .f32) (v456 v758 : Ideal .f32)
    (v1043 : IVec S1x50 1) :
    k0_pay157 (F := Ideal) v36 v456 v758 v1034 v1038 v1040 v1043 v1045 v1050 = v456 + v758
      + ∑ t : Fin 50, v36 (ix2 0 t) * ((if v1043 (ix2 0 t) = 1#1 then v1045 (ix2 0 t) else v1040 (ix2 0 t) + v1050 (ix2 0 t))
          - v1038 (ix2 0 t) * v1034 (ix2 0 t)) := by
  pointwise [k0_pay157]
  simp only [Fin.sum_univ_one]
  rfl

theorem k1104_eq (h2 : ∀ i, x2 i ≠ ⊥ ∧ x2 i ≠ ⊤) (h3 : ∀ i, x3 i ≠ ⊥ ∧ x3 i ≠ ⊤) (h4 : ∀ i, x4 i ≠ ⊥ ∧ x4 i ≠ ⊤) :
    k1104 x0 x1 x2 x3 x4 = (∑ t : Fin 50, confLoss 80 g80 79#32 (anchW x1 0) (anchH x1 0) (pred3 x2) (row x0 t))
      + (∑ t : Fin 50, confLoss 40 g40 39#32 (anchW x1 1) (anchH x1 1) (pred4 x3) (row x0 t))
      + (∑ t : Fin 50, confLoss 20 g20 19#32 (anchW x1 2) (anchH x1 2) (pred5 x4) (row x0 t)) := by
  unfold k1104
  rw [pay157_eq, k456_eq x0 x1 x2 h2, k758_eq x0 x1 x3 h3]
  refine congrArg (fun s => _ + _ + s) (Finset.sum_congr rfl fun t _ => ?_)
  have hz := k1034_eq x0 x1 x4 h4 t
  have hz' := hz
  unfold k1034 at hz'
  have e1 : k1038 x0 x1 x4 (ix2 0 t) = min 1 (max 0 (boxGiou 20 g20 19#32 (anchW x1 2) (anchH x1 2) (pred5 x4) (row x0 t))) := by
    pointwise [k1038, k0_pay148]
    rw [k995_eq x0 x1 x4 h4]
  have e2 : k1040 x0 x1 x4 (ix2 0 t) = max (k1034 x0 x1 x4 (ix2 0 t)) 0 := by
    pointwise [k1040, k0_pay149, k1034]
  have e3 : k1043 x0 x1 x4 (ix2 0 t) ≠ 1#1 := by
    pointwise [k1043, k0_pay151]
    simp
  have e4 : k1050 x0 x1 x4 (ix2 0 t) = Ideal.log1p (Ideal.exp (0 - FloatOps.absf (F := Ideal) (φ := .f32) (k1034 x0 x1 x4 (ix2 0 t)))) := by
    pointwise [k1050, k0_pay153, k0_pay150, k1034]
  rw [if_neg e3, e1, e2, e4, hz, k36_eq]
  rfl

/-! ## The lanes -/

/-- Lane 0 to 4 of a point's contribution. -/
theorem lane_box (n a b c v w u : Ideal .f32) : k0_pay158 (F := Ideal) n a b c v w u (ix2 0 0) = v := by
  pointwise [k0_pay158]
  show v + (0 : EReal) + (0 : EReal) + (0 : EReal) + (0 : EReal) = _
  simp only [zero_add, add_zero]
theorem lane_cls (n a b c v w u : Ideal .f32) : k0_pay158 (F := Ideal) n a b c v w u (ix2 0 1) = w := by
  pointwise [k0_pay158]
  show (0 : EReal) + w + (0 : EReal) + (0 : EReal) + (0 : EReal) = _
  simp only [zero_add, add_zero]
theorem lane_conf (n a b c v w u : Ideal .f32) : k0_pay158 (F := Ideal) n a b c v w u (ix2 0 2) = u := by
  pointwise [k0_pay158]
  show (0 : EReal) + (0 : EReal) + u + (0 : EReal) + (0 : EReal) = _
  simp only [zero_add, add_zero]
theorem lane_count (n a b c v w u : Ideal .f32) : k0_pay158 (F := Ideal) n a b c v w u (ix2 0 3) = n := by
  pointwise [k0_pay158]
  show (0 : EReal) + (0 : EReal) + (0 : EReal) + n + (0 : EReal) = _
  simp only [zero_add, add_zero]
theorem lane_back (n a b c v w u : Ideal .f32) : k0_pay158 (F := Ideal) n a b c v w u (ix2 0 4) = a + b + c := by
  pointwise [k0_pay158]
  show (0 : EReal) + (0 : EReal) + (0 : EReal) + (0 : EReal) + (a + b + c) = _
  simp only [zero_add, add_zero]

theorem first_eq (n a b c v w u : Ideal .f32) (i : S1x128.Idx) :
    k0_pay159 (F := Ideal) n a b c v w u i = k0_pay158 (F := Ideal) n a b c v w u i := by
  pointwise [k0_pay159]
theorem next_eq (n a b c v w u : Ideal .f32) (acc : Vec Ideal S1x128 .f32) (i : S1x128.Idx) :
    k0_pay160 (F := Ideal) n a b c v w u acc i = acc i + k0_pay158 (F := Ideal) n a b c v w u i := by
  pointwise [k0_pay160]

/-! ## The last point -/

/-- One lane, picked out by a sum over all. -/
theorem pick (v : Vec Ideal S1x128 .f32) (k : Fin 128) :
    (∑ l : Fin 128, Scalar.select (IntOp.cmpi .eq (BitVec.ofNat 32 l.val) (BitVec.ofNat 32 k.val)) (v (ix2 0 l)) (0 : EReal))
      = v (ix2 0 k) := by
  have hsel : ∀ l : Fin 128, IntOp.cmpi .eq (BitVec.ofNat 32 l.val) (BitVec.ofNat 32 k.val) = if l = k then 1#1 else 0#1 := by
    revert k; decide +kernel
  rw [Finset.sum_eq_single k]
  · rw [hsel, if_pos rfl]; rfl
  · intro l _ h
    rw [hsel, if_neg h]; rfl
  · intro h; exact absurd (Finset.mem_univ _) h

theorem pay1_eq (v : Vec Ideal S1x128 .f32) : k0_pay1 (F := Ideal) (iota .tc S1x128 32 [1] iota_S1x128_d1_w32) v = v (ix2 0 0) := by
  pointwise [k0_pay1]
  simp only [Fin.sum_univ_one]
  exact pick v 0
theorem pay2_eq (v : Vec Ideal S1x128 .f32) : k0_pay2 (F := Ideal) (iota .tc S1x128 32 [1] iota_S1x128_d1_w32) v = v (ix2 0 1) := by
  pointwise [k0_pay2]
  simp only [Fin.sum_univ_one]
  exact pick v 1
theorem pay3_eq (v : Vec Ideal S1x128 .f32) : k0_pay3 (F := Ideal) (iota .tc S1x128 32 [1] iota_S1x128_d1_w32) v = v (ix2 0 2) := by
  pointwise [k0_pay3]
  simp only [Fin.sum_univ_one]
  exact pick v 2
theorem pay4_eq (v : Vec Ideal S1x128 .f32) : k0_pay4 (F := Ideal) (iota .tc S1x128 32 [1] iota_S1x128_d1_w32) v = v (ix2 0 3) := by
  pointwise [k0_pay4]
  simp only [Fin.sum_univ_one]
  exact pick v 3
theorem pay5_eq (v : Vec Ideal S1x128 .f32) : k0_pay5 (F := Ideal) (iota .tc S1x128 32 [1] iota_S1x128_d1_w32) v = v (ix2 0 4) := by
  pointwise [k0_pay5]
  simp only [Fin.sum_univ_one]
  exact pick v 4
theorem pay6_eq (v : Vec Ideal S1x128 .f32) : k0_pay6 (F := Ideal) (iota .tc S1x128 32 [1] iota_S1x128_d1_w32) v = max (v (ix2 0 3)) 1 := by
  rw [← pay4_eq v]
  unfold k0_pay6
  exact congrArg (max _) Ideal.ofBits_one_f32

theorem named_eq : Named.named (F := Ideal) (φ := .f32) κ "neg_scale" 0x330637BD#32 = backScale :=
  IdealRules.named_const.ideal_named_scalar _ _ _ _ rfl

/-- The last point's row, over variables. -/
theorem last_box (a b c n g : Ideal .f32) : k0_pay161 (F := Ideal) a b c n g (max n 1) (ix2 0 1) = mean n a := by
  pointwise [k0_pay161]
  show (0 : EReal) + mean n a + 0 + 0 = _
  simp only [zero_add, add_zero]
theorem last_cls (a b c n g : Ideal .f32) : k0_pay161 (F := Ideal) a b c n g (max n 1) (ix2 0 2) = mean n b := by
  pointwise [k0_pay161]
  show (0 : EReal) + 0 + mean n b + 0 = _
  simp only [zero_add, add_zero]
theorem last_conf (a b c n g : Ideal .f32) :
    k0_pay161 (F := Ideal) a b c n g (max n 1) (ix2 0 3) = mean n c + g * backScale := by
  pointwise [k0_pay161]
  rw [named_eq]
  show (0 : EReal) + 0 + 0 + (mean n c + g * backScale) = _
  simp only [zero_add, add_zero]
theorem last_total (a b c n g : Ideal .f32) :
    k0_pay161 (F := Ideal) a b c n g (max n 1) (ix2 0 0) = mean n a + mean n b + (mean n c + g * backScale) := by
  pointwise [k0_pay161]
  rw [named_eq]
  show (mean n a + mean n b + (mean n c + g * backScale)) + (0 : EReal) + 0 + 0 = _
  simp only [add_zero]

end Cert.KernelIdeal.Chain
-- ==== Proof.KRun.lean ====
module

public import proofs.«01_k».proof.Proof.KPoint
public import proofs.«01_k».proof.Proof.Gen.KernelIdeal.Frame
public import Idealize.ShloMosaic.Lib.Pipeline.ValueKit

/- What the carried row and the result hold after each grid point. -/

@[expose] public section

set_option maxRecDepth 16384

noncomputable section

namespace Cert.KernelIdeal.Chain

open Cert.KernelIdeal Cert.KernelIdeal.Gen Idealize.ShloMosaic Idealize.ShloMosaic.TcCoe Idealize.SL.Sem Cert.Yolo

variable (m : (ℓ : Loc nD τ sig) → Buf (Elt Ideal) ℓ)

/-- One image's row of contributions. -/
def contrib (x0 : Vec Ideal S1x50x5 .f32) (x1 : Vec Ideal S9x2 .f32) (x2 : Vec Ideal S1x27x80x80 .f32)
    (x3 : Vec Ideal S1x27x1600 .f32) (x4 : Vec Ideal S1x27x400 .f32) (x5 : Vec Ideal S1x3x500 .i32) : FVec Ideal S1x128 .f32 :=
  k0_pay158 (F := Ideal) (k43 x0) (k496 x2 x5) (k797 x3 x5) (k1098 x4 x5) (k1100 x0 x1 x2 x3 x4) (k1102 x0 x1 x2 x3 x4)
    (k1104 x0 x1 x2 x3 x4)

/-- The word loaded from the anchors' table is its entry. -/
theorem ld_word (x1 : Vec Ideal S9x2 .f32) (a b : ℕ) (h : ∀ k, (![a, b] : Fin 2 → ℕ) k + S1x1.size k ≤ S9x2.size k) (h')
    (ha : a < 9) (hb : b < 2) :
    View.ld x1 (Rect.unit (s := S9x2) ![a, b] S1x1.size h) (Shape.Idx.first h') = x1 (ix2 ⟨a, ha⟩ ⟨b, hb⟩) := by
  refine congrArg x1 ?_
  funext k
  match k with
  | 0 => exact Fin.ext (by simp [Rect.unit, Shape.Idx.first])
  | 1 => exact Fin.ext (by simp [Rect.unit, Shape.Idx.first])

/-- The contribution of point `t`. -/
def part (c : Dev nD) (t : Fin cfg0.N) : FVec Ideal S1x128 .f32 :=
  contrib (iblk m c 0 t) (iblk m c 1 t) (iblk m c 2 t) (iblk m c 3 t) (iblk m c 4 t) (iblk m c 5 t)

theorem carried_first (c : Dev nD) (t : Fin cfg0.N) (h0 : t.val % 64 = 0) (h1 : ¬1 ≤ t.val) (h2 : ¬t.val % 64 = 63)
    (j : S1x128.Idx) : (outsAt0 m c t.val t.isLt).2 j = part m c t j := by
  rw [outsAt0_A m c t h0 h1 h2, part]
  frame_out
  generalize (iblk m c 0 t : Vec Ideal S1x50x5 .f32) = x0
  generalize (iblk m c 1 t : Vec Ideal S9x2 .f32) = x1
  generalize (iblk m c 2 t : Vec Ideal S1x27x80x80 .f32) = x2
  generalize (iblk m c 3 t : Vec Ideal S1x27x1600 .f32) = x3
  generalize (iblk m c 4 t : Vec Ideal S1x27x400 .f32) = x4
  generalize (iblk m c 5 t : Vec Ideal S1x3x500 .i32) = x5
  simp only [ld_word x1, Nat.reduceLT]
  rw [first_eq]
  rfl

theorem carried_next (c : Dev nD) (t : Fin cfg0.N) (h0 : ¬t.val % 64 = 0) (h1 : 1 ≤ t.val) (j : S1x128.Idx) :
    (outsAt0 m c t.val t.isLt).2 j
      = (outsAt0 m c (t.val - 1) (Nat.lt_of_le_of_lt (Nat.sub_le _ _) t.isLt)).2 j + part m c t j := by
  rw [part]
  by_cases h2 : t.val % 64 = 63
  · rw [outsAt0_C m c t h0 h1 h2]
    frame_out
    generalize (iblk m c 0 t : Vec Ideal S1x50x5 .f32) = x0
    generalize (iblk m c 1 t : Vec Ideal S9x2 .f32) = x1
    generalize (iblk m c 2 t : Vec Ideal S1x27x80x80 .f32) = x2
    generalize (iblk m c 3 t : Vec Ideal S1x27x1600 .f32) = x3
    generalize (iblk m c 4 t : Vec Ideal S1x27x400 .f32) = x4
    generalize (iblk m c 5 t : Vec Ideal S1x3x500 .i32) = x5
    simp only [ld_word x1, Nat.reduceLT]
    rw [next_eq]
    refine congrArg₂ (· + ·) (congrFun ((Memref.isWhole_whole cc0_scratch0).read_unread _) j) ?_
    rfl
  · rw [outsAt0_B m c t h0 h1 h2]
    frame_out
    generalize (iblk m c 0 t : Vec Ideal S1x50x5 .f32) = x0
    generalize (iblk m c 1 t : Vec Ideal S9x2 .f32) = x1
    generalize (iblk m c 2 t : Vec Ideal S1x27x80x80 .f32) = x2
    generalize (iblk m c 3 t : Vec Ideal S1x27x1600 .f32) = x3
    generalize (iblk m c 4 t : Vec Ideal S1x27x400 .f32) = x4
    generalize (iblk m c 5 t : Vec Ideal S1x3x500 .i32) = x5
    simp only [ld_word x1, Nat.reduceLT]
    rw [next_eq]
    refine congrArg₂ (· + ·) (congrFun ((Memref.isWhole_whole cc0_scratch0).read_unread _) j) ?_
    rfl

/-- The result row, from the carried row. -/
theorem result_last (c : Dev nD) (t : Fin cfg0.N) (h2 : t.val % 64 = 63) (j : S1x128.Idx) :
    (outsAt0 m c t.val t.isLt).1 j
      = k0_pay161 (F := Ideal) ((outsAt0 m c t.val t.isLt).2 (ix2 0 0)) ((outsAt0 m c t.val t.isLt).2 (ix2 0 1))
          ((outsAt0 m c t.val t.isLt).2 (ix2 0 2)) ((outsAt0 m c t.val t.isLt).2 (ix2 0 3))
          ((outsAt0 m c t.val t.isLt).2 (ix2 0 4)) (max ((outsAt0 m c t.val t.isLt).2 (ix2 0 3)) 1) j := by
  have h0 : ¬t.val % 64 = 0 := by omega
  have h1 : 1 ≤ t.val := by omega
  obtain ⟨v, hv⟩ : ∃ v, (outsAt0 m c t.val t.isLt).2 = v := ⟨_, rfl⟩
  rw [hv, ← pay1_eq v, ← pay2_eq v, ← pay3_eq v, ← pay5_eq v, ← pay6_eq v, ← pay4_eq v, ← hv]
  rw [outsAt0_C m c t h0 h1 h2]
  frame_out
  rfl

end Cert.KernelIdeal.Chain
-- ==== Proof.KFinal.lean ====
module

public import proofs.«01_k».proof.Proof.KRun

/- The kernel's result row after the whole run, from the blocks the points read. -/

@[expose] public section

set_option maxRecDepth 16384

noncomputable section

namespace Cert.KernelIdeal.Chain

open Cert.KernelIdeal Cert.KernelIdeal.Gen Idealize.ShloMosaic Idealize.ShloMosaic.TcCoe Idealize.SL.Sem Cert.Yolo
open Idealize.ShloMosaic.Pipeline (Dat)

variable (m : (ℓ : Loc nD τ sig) → Buf (Elt Ideal) ℓ)

/-- The carried row after the last point: all contributions together. -/
theorem carried_last (c : Dev nD) (t : Fin cfg0.N) (h : t.val % 64 = 63) (j : S1x128.Idx) :
    (outsAt0 m c t.val t.isLt).2 j = ∑ p : Fin cfg0.N, part m c p j := by
  have hN : cfg0.N = 64 := N_0
  have key := Pipeline.eq_sum_fin_of_reset_step_apply_last (fun n h => (outsAt0 (F := Ideal) m c n h).2) 64 (fun _ => (0 : EReal))
    (fun p j => (part m c p j : EReal))
    (fun t h j => by
      have := t.isLt
      rw [carried_first m c t h (by omega) (by omega), zero_add])
    (fun t h j => carried_next m c t h (by omega) j)
    (le_of_eq N_0) t (by have := t.isLt; omega) j
  rw [key, zero_add]

/-- The result row of the whole run. -/
def resultRow (c : Dev nD) : FVec Ideal S1x128 .f32 :=
  k0_pay161 (F := Ideal) (∑ p : Fin cfg0.N, part m c p (ix2 0 0)) (∑ p : Fin cfg0.N, part m c p (ix2 0 1))
    (∑ p : Fin cfg0.N, part m c p (ix2 0 2)) (∑ p : Fin cfg0.N, part m c p (ix2 0 3))
    (∑ p : Fin cfg0.N, part m c p (ix2 0 4)) (max (∑ p : Fin cfg0.N, part m c p (ix2 0 3)) 1)

theorem idx : ∀ t : Fin cfg0.N, win0_0.index t = ![t.val, 0, 0] ∧ win0_1.index t = ![0, 0] ∧ win0_2.index t = ![t.val, 0, 0, 0]
    ∧ win0_3.index t = ![t.val, 0, 0] ∧ win0_4.index t = ![t.val, 0, 0] ∧ win0_5.index t = ![t.val, 0, 0] ∧ win0_6.index t = ![0, 0] :=
  (by decide +kernel : ∀ t : Fin grid0.N, _)

theorem final (c : Dev nD) : (dats m 0 c).arrAt 6 (cfgs 0).N = resultRow m c := by
  refine (dats m 0 c).arrAt_eq_of_covers 6 _ (by decide +kernel) fun t hf y => ?_
  have h63 := (flush0_6 t).mp hf
  blk_simp
  rw [after0_6, result_last m c t h63]
  simp only [carried_last m c t h63]
  unfold resultRow
  blk_ext [idx t]

variable (c : Dev nD) (t : Fin cfg0.N)

theorem blk0 (a : Fin 50) (b : Fin 5) : iblk m c 0 t (ix3 0 a b) = m ((c : Thread nD τ).loc main_arg3) (ix3 ⟨t.val, lt_of_lt_of_eq t.isLt N_0⟩ a b) := by
  blk_ext [iblk, V, idx t]
theorem blk1 (a : Fin 9) (b : Fin 2) : iblk m c 1 t (ix2 a b) = m ((c : Thread nD τ).loc main_arg4) (ix2 a b) := by
  blk_ext [iblk, V, idx t]
theorem blk2 (a : Fin 27) (b e : Fin 80) : iblk m c 2 t (ix4 0 a b e) = m ((c : Thread nD τ).loc main_arg0) (ix4 ⟨t.val, lt_of_lt_of_eq t.isLt N_0⟩ a b e) := by
  blk_ext [iblk, V, idx t]
omit t in
theorem entry4 : V m c main_call0_v4 = shapeCast S64x27x1600 (m ((c : Thread nD τ).loc main_arg1)) shapeCasts_S64x27x40x40_S64x27x1600 := by
  show StableHlo.after hostOps0 (fun b => m (c, b)) _ = _
  after_results_simp
  rfl
omit t in
theorem entry5 : V m c main_call0_v5 = shapeCast S64x27x400 (m ((c : Thread nD τ).loc main_arg2)) shapeCasts_S64x27x20x20_S64x27x400 := by
  show StableHlo.after hostOps0 (fun b => m (c, b)) _ = _
  after_results_simp
  rfl
omit t in
theorem entry3 : V m c main_call0_v3 = concatenate S64x3x500 1
    [⟨S64x1x500, broadcastInDim S64x1x500 ![0, 2] bcast_S64x500_S64x1x500_0_2 (m ((c : Thread nD τ).loc main_arg5))⟩,
      ⟨S64x1x500, broadcastInDim S64x1x500 ![0, 2] bcast_S64x500_S64x1x500_0_2 (m ((c : Thread nD τ).loc main_arg6))⟩,
      ⟨S64x1x500, broadcastInDim S64x1x500 ![0, 2] bcast_S64x500_S64x1x500_0_2 (m ((c : Thread nD τ).loc main_arg7))⟩]
    concatenates_S64x1x500_S64x1x500_S64x1x500_S64x3x500_d1 := by
  show StableHlo.after hostOps0 (fun b => m (c, b)) _ = _
  after_results_simp
  rfl
theorem blk3 (a : Fin 27) (b : Fin 1600) : iblk m c 3 t (ix3 0 a b)
    = m ((c : Thread nD τ).loc main_arg1) (ix4 ⟨t.val, lt_of_lt_of_eq t.isLt N_0⟩ a ⟨b.val / 40, by omega⟩ ⟨b.val % 40, by omega⟩) := by
  have h : iblk m c 3 t (ix3 0 a b) = V m c main_call0_v4 (ix3 ⟨t.val, lt_of_lt_of_eq t.isLt N_0⟩ a b) := by blk_ext [iblk, idx t]
  rw [h]
  rw [entry4]
  pointwise
theorem blk4 (a : Fin 27) (b : Fin 400) : iblk m c 4 t (ix3 0 a b)
    = m ((c : Thread nD τ).loc main_arg2) (ix4 ⟨t.val, lt_of_lt_of_eq t.isLt N_0⟩ a ⟨b.val / 20, by omega⟩ ⟨b.val % 20, by omega⟩) := by
  have h : iblk m c 4 t (ix3 0 a b) = V m c main_call0_v5 (ix3 ⟨t.val, lt_of_lt_of_eq t.isLt N_0⟩ a b) := by blk_ext [iblk, idx t]
  rw [h]
  rw [entry5]
  pointwise
theorem blk5_0 (b : Fin 500) : iblk m c 5 t (ix3 0 0 b) = m ((c : Thread nD τ).loc main_arg5) (ix2 ⟨t.val, lt_of_lt_of_eq t.isLt N_0⟩ b) := by
  have h : iblk m c 5 t (ix3 0 0 b) = V m c main_call0_v3 (ix3 ⟨t.val, lt_of_lt_of_eq t.isLt N_0⟩ 0 b) := by blk_ext [iblk, idx t]
  rw [h]
  rw [entry3]
  pointwise
theorem blk5_1 (b : Fin 500) : iblk m c 5 t (ix3 0 1 b) = m ((c : Thread nD τ).loc main_arg6) (ix2 ⟨t.val, lt_of_lt_of_eq t.isLt N_0⟩ b) := by
  have h : iblk m c 5 t (ix3 0 1 b) = V m c main_call0_v3 (ix3 ⟨t.val, lt_of_lt_of_eq t.isLt N_0⟩ 1 b) := by blk_ext [iblk, idx t]
  rw [h]
  rw [entry3]
  pointwise
theorem blk5_2 (b : Fin 500) : iblk m c 5 t (ix3 0 2 b) = m ((c : Thread nD τ).loc main_arg7) (ix2 ⟨t.val, lt_of_lt_of_eq t.isLt N_0⟩ b) := by
  have h : iblk m c 5 t (ix3 0 2 b) = V m c main_call0_v3 (ix3 ⟨t.val, lt_of_lt_of_eq t.isLt N_0⟩ 2 b) := by blk_ext [iblk, idx t]
  rw [h]
  rw [entry3]
  pointwise

end Cert.KernelIdeal.Chain
-- ==== Proof.Counts.lean ====
module

public import proofs.«01_k».proof.Proof.OneHot

/- A table summed against how often each of its cells is drawn is the sum of the cells drawn; and the words by which a
   drawn position is found in a table: division by 80 by a rounded reciprocal, division by 128, both exact on the range
   of the positions. -/

@[expose] public section

set_option maxRecDepth 16384

noncomputable section

namespace Cert.Yolo

open Idealize.ShloMosaic

/-- A number times a sum of numbers that are not negative. -/
theorem mul_sum_of_nonneg {ι : Type} (s : Finset ι) (x : EReal) (f : ι → EReal) (h : ∀ i, 0 ≤ f i) :
    x * ∑ i ∈ s, f i = ∑ i ∈ s, x * f i := by
  classical
  induction s using Finset.induction_on with
  | empty => simp
  | insert a s ha ih =>
    rw [Finset.sum_insert ha, Finset.sum_insert ha, ← ih]
    exact EReal.left_distrib_of_nonneg (h a) (Finset.sum_nonneg fun i _ => h i)

/-- The indicator of a position, as the number that the words give. -/
abbrev hit (x g : ℕ) : EReal :=
  FloatOps.sitofp (F := Ideal) .f32 (BitVec.setWidth 32 (IntOp.cmpi .eq (BitVec.ofNat 32 x) (BitVec.ofNat 32 g)))

/-- The table against the counts is the sum over the draws. -/
theorem sum_counts {A B T : ℕ} (hA : A ≤ 2 ^ 31) (hB : B ≤ 2 ^ 31) (s : Fin A → Fin B → EReal) (ρ : Fin T → Fin A) (κ : Fin T → Fin B) :
    (∑ a : Fin A, ∑ b : Fin B, s a b * ∑ t : Fin T, hit a.val (ρ t).val * hit b.val (κ t).val) = ∑ t : Fin T, s (ρ t) (κ t) := by
  have hh : ∀ a b t, hit (Fin.val (n := A) a) (ρ t).val * hit (Fin.val (n := B) b) (κ t).val
      = if a = ρ t ∧ b = κ t then (1 : EReal) else 0 := by
    intro a b t
    rw [hit, hit, indicator_eq hA, indicator_eq hB]
    by_cases h1 : a = ρ t <;> by_cases h2 : b = κ t <;> simp [h1, h2]
  simp only [hh]
  have hd : ∀ a b, (s a b * ∑ t : Fin T, if a = ρ t ∧ b = κ t then (1 : EReal) else 0)
      = ∑ t : Fin T, if a = ρ t ∧ b = κ t then s a b else 0 := by
    intro a b
    rw [mul_sum_of_nonneg _ _ _ (fun t => by split <;> norm_num)]
    exact Finset.sum_congr rfl fun t _ => by split <;> simp
  simp only [hd]
  rw [Finset.sum_congr rfl fun a _ => Finset.sum_comm, Finset.sum_comm]
  refine Finset.sum_congr rfl fun t _ => ?_
  rw [Finset.sum_eq_single (ρ t) (fun a _ ha => Finset.sum_eq_zero fun b _ => if_neg fun h => ha h.1) (by simp),
    Finset.sum_eq_single (κ t) (fun b _ hb => if_neg fun h => hb h.2) (by simp), if_pos ⟨rfl, rfl⟩]

/-! ## Division by 80 -/

/-- The word of the row of position `w` among rows of 80. -/
def row80 (w : BitVec 32) : BitVec 32 :=
  FloatOps.fptosi (F := Ideal) (φ := .f32) 32 (Ideal.liftRound Int.floor
    ((FloatOps.sitofp (F := Ideal) .f32 w + Ideal.ofBits .f32 1056964608#32) * Ideal.ofBits .f32 1011666125#32))

theorem half_eq : Ideal.ofBits .f32 1056964608#32 = ((1 / 2 : ℝ) : EReal) := by
  simp [Ideal.ofBits, Ideal.ieee, -EReal.coe_mul]; norm_num

theorem recip80_eq : Ideal.ofBits .f32 1011666125#32 = ((13421773 / 1073741824 : ℝ) : EReal) := by
  simp [Ideal.ofBits, Ideal.ieee, -EReal.coe_mul]; norm_num

/-- It is the quotient. -/
theorem row80_eq (j : ℕ) (hj : j < 19200) : row80 (BitVec.ofNat 32 j) = BitVec.ofNat 32 (j / 80) := by
  have hi : (BitVec.ofNat 32 j).toInt = (j : ℤ) := by
    rw [BitVec.toInt_eq_toNat_of_lt] <;> simp only [BitVec.toNat_ofNat] <;> rw [Nat.mod_eq_of_lt (by omega)] ; omega
  have hs : FloatOps.sitofp (F := Ideal) .f32 (BitVec.ofNat 32 j) = ((j : ℝ) : EReal) := by
    show ((((BitVec.ofNat 32 j).toInt : ℝ)) : EReal) = _
    rw [hi]; norm_num
  have hfl : ⌊((j : ℝ) + 1 / 2) * (13421773 / 1073741824)⌋ = ((j / 80 : ℕ) : ℤ) := by
    have h1 : 2147483648 * (j / 80) ≤ (2 * j + 1) * 13421773 := by omega
    have h2 : (2 * j + 1) * 13421773 < 2147483648 * (j / 80 + 1) := by omega
    have h1' : (2147483648 : ℝ) * ((j / 80 : ℕ) : ℝ) ≤ (2 * (j : ℝ) + 1) * 13421773 := by exact_mod_cast h1
    have h2' : (2 * (j : ℝ) + 1) * 13421773 < (2147483648 : ℝ) * (((j / 80 : ℕ) : ℝ) + 1) := by exact_mod_cast h2
    generalize j / 80 = q at h1' h2'
    rw [Int.floor_eq_iff, Int.cast_natCast]
    constructor <;> linarith
  unfold row80
  rw [hs, half_eq, recip80_eq, ← EReal.coe_add, ← EReal.coe_mul, Ideal.liftRound_coe, hfl]
  show Ideal.fptosi 32 _ = _
  rw [Ideal.fptosi, Ideal.toIntClamped_coe]
  have hq : ((j / 80 : ℕ) : ℤ) ≤ 240 := by exact_mod_cast (by omega : j / 80 ≤ 240)
  have h0 : (0 : ℤ) ≤ ((j / 80 : ℕ) : ℤ) := Int.natCast_nonneg _
  rw [if_pos (by exact_mod_cast h0), Int.floor_intCast, min_eq_right (by norm_num; omega), max_eq_right (by norm_num; omega)]
  exact BitVec.ofInt_natCast _ _

/-- The word of the column. -/
def col80 (w : BitVec 32) : BitVec 32 := IntOp.subi w (IntOp.muli (row80 w) 80#32)

theorem col80_eq (j : ℕ) (hj : j < 19200) : col80 (BitVec.ofNat 32 j) = BitVec.ofNat 32 (j % 80) := by
  unfold col80
  rw [row80_eq j hj]
  show BitVec.ofNat 32 j - BitVec.ofNat 32 (j / 80) * BitVec.ofNat 32 80 = _
  have h : j = j / 80 * 80 + j % 80 := by omega
  conv_lhs => enter [1]; rw [h]
  rw [BitVec.ofNat_add, ← BitVec.ofNat_mul]
  rw [BitVec.add_comm]
  exact BitVec.add_sub_cancel _ _

/-! ## Division by 128 -/

/-- Position `w` counted through three pieces of `m` cells, counted again through pieces padded to `M` cells. -/
def padded (m M w : BitVec 32) : BitVec 32 :=
  IntOp.addi (IntOp.muli (IntOp.addi (BitVec.setWidth 32 (IntOp.cmpi .sge w m)) (BitVec.setWidth 32 (IntOp.cmpi .sge w (m + m)))) M)
    (IntOp.subi w (IntOp.muli (IntOp.addi (BitVec.setWidth 32 (IntOp.cmpi .sge w m)) (BitVec.setWidth 32 (IntOp.cmpi .sge w (m + m)))) m))

/-- Division by 128 rounded down, as the words do it. -/
def quot128 (w : BitVec 32) : BitVec 32 :=
  Scalar.select (IntOp.andi
      (IntOp.cmpi .ne (IntOp.subi (BitVec.setWidth 32 (IntOp.cmpi .sgt w 0#32)) (BitVec.setWidth 32 (IntOp.cmpi .slt w 0#32))) 1#32)
      (IntOp.cmpi .ne (IntOp.remsi .vector w 128#32) 0#32))
    (IntOp.subi (IntOp.divsi .vector w 128#32) 1#32) (IntOp.divsi .vector w 128#32)

/-- The remainder. -/
def rem128 (w : BitVec 32) : BitVec 32 := IntOp.subi w (IntOp.muli (quot128 w) 128#32)

theorem quot128_eq' : ∀ (a : Fin 39) (b : Fin 128),
    quot128 (BitVec.ofNat 32 (a.val * 128 + b.val)) = BitVec.ofNat 32 a.val
      ∧ rem128 (BitVec.ofNat 32 (a.val * 128 + b.val)) = BitVec.ofNat 32 b.val := by decide +kernel

/-- They are quotient and remainder. -/
theorem quot128_eq (k : ℕ) (hk : k < 4992) : quot128 (BitVec.ofNat 32 k) = BitVec.ofNat 32 (k / 128)
    ∧ rem128 (BitVec.ofNat 32 k) = BitVec.ofNat 32 (k % 128) := by
  have h := quot128_eq' ⟨k / 128, by omega⟩ ⟨k % 128, by omega⟩
  rwa [show k / 128 * 128 + k % 128 = k by omega] at h

theorem padded1600_eq' : ∀ (a : Fin 3) (r c : Fin 40),
    padded 1600#32 1664#32 (BitVec.ofNat 32 (a.val * 1600 + (r.val * 40 + c.val)))
      = BitVec.ofNat 32 (a.val * 1664 + (r.val * 40 + c.val)) := by decide +kernel

theorem padded400_eq' : ∀ (a : Fin 3) (r c : Fin 20),
    padded 400#32 512#32 (BitVec.ofNat 32 (a.val * 400 + (r.val * 20 + c.val)))
      = BitVec.ofNat 32 (a.val * 512 + (r.val * 20 + c.val)) := by decide +kernel

/-- Positions of the second and third scale, through the padded pieces. -/
theorem padded1600_eq (j : ℕ) (hj : j < 4800) :
    padded 1600#32 1664#32 (BitVec.ofNat 32 j) = BitVec.ofNat 32 (j / 1600 * 1664 + j % 1600) := by
  have h := padded1600_eq' ⟨j / 1600, by omega⟩ ⟨j % 1600 / 40, by omega⟩ ⟨j % 1600 % 40, by omega⟩
  simp only at h
  rwa [show j % 1600 / 40 * 40 + j % 1600 % 40 = j % 1600 by omega, show j / 1600 * 1600 + j % 1600 = j by omega] at h

theorem padded400_eq (j : ℕ) (hj : j < 1200) :
    padded 400#32 512#32 (BitVec.ofNat 32 j) = BitVec.ofNat 32 (j / 400 * 512 + j % 400) := by
  have h := padded400_eq' ⟨j / 400, by omega⟩ ⟨j % 400 / 20, by omega⟩ ⟨j % 400 % 20, by omega⟩
  simp only at h
  rwa [show j % 400 / 20 * 20 + j % 400 % 20 = j % 400 by omega, show j / 400 * 400 + j % 400 = j by omega] at h

end Cert.Yolo
-- ==== Proof.KDraws.lean ====
module

public import proofs.«01_k».proof.Proof.Counts
public import proofs.«01_k».proof.Proof.Totals

/- A scale's background loss from a table of losses and two words for each draw, stated for every scale; and where a cell
   lies in a table of padded pieces. -/

@[expose] public section

set_option maxRecDepth 16384

noncomputable section

namespace Cert.Yolo

open Idealize.ShloMosaic

/-- The indicator of a word, as the number that the words give. -/
abbrev hitWord (x : ℕ) (g : BitVec 32) : EReal :=
  FloatOps.sitofp (F := Ideal) .f32 (BitVec.setWidth 32 (IntOp.cmpi .eq (BitVec.ofNat 32 x) g))

/-- A table `s` of losses, summed against how often the words `f`, `g` of the draws name each entry, is the background loss
    of the draws, if the entry that the words of a position name is that position's loss. -/
theorem sum_draws {n A B N : ℕ} [NeZero n] {P : Fin 3 → Fin n → Fin n → Fin 9 → EReal} {s : Fin A → Fin B → EReal}
    {w ρ κ : Fin 500 → BitVec 32} {f g : BitVec 32 → BitVec 32} (u v : ℕ → ℕ) (hA : A ≤ 2 ^ 31) (hB : B ≤ 2 ^ 31)
    (hN : ∀ t, (w t).toNat < N) (hρ : ∀ t, ρ t = f (w t)) (hκ : ∀ t, κ t = g (w t))
    (hf : ∀ j < N, f (BitVec.ofNat 32 j) = BitVec.ofNat 32 (u j) ∧ u j < A)
    (hg : ∀ j < N, g (BitVec.ofNat 32 j) = BitVec.ofNat 32 (v j) ∧ v j < B)
    (hs : ∀ j < N, ∀ a b, a.val = u j → b.val = v j → s a b = background n P j) :
    (∑ a : Fin A, ∑ b : Fin B, s a b * ∑ t : Fin 500, hitWord a.val (ρ t) * hitWord b.val (κ t))
      = ∑ t : Fin 500, background n P (w t).toNat := by
  have hw : ∀ t, w t = BitVec.ofNat 32 (w t).toNat := fun t => by rw [BitVec.ofNat_toNat, BitVec.setWidth_eq]
  have hr : ∀ t, ρ t = BitVec.ofNat 32 (u (w t).toNat) := fun t => by
    rw [hρ, ← (hf _ (hN t)).1, ← hw]
  have hc : ∀ t, κ t = BitVec.ofNat 32 (v (w t).toNat) := fun t => by
    rw [hκ, ← (hg _ (hN t)).1, ← hw]
  simp only [hr, hc]
  exact (sum_counts hA hB s (fun t => ⟨_, (hf _ (hN t)).2⟩) fun t => ⟨_, (hg _ (hN t)).2⟩).trans
    (Finset.sum_congr rfl fun t _ => hs _ (hN t) _ _ rfl rfl)

/-- Position `i` of three pieces of `m` cells, each padded to `q` rows of 128, lies in row `a` and lane `b`: the piece that
    the row belongs to, and the place within it. -/
theorem piece {m q i a b : ℕ} (hq : m ≤ q * 128) (hi : i < 3 * m)
    (ha : a = (i / m * (q * 128) + i % m) / 128) (hb : b = (i / m * (q * 128) + i % m) % 128) :
    a / q = i / m ∧ a % q * 128 + b = i % m ∧ i / m < 3 := by
  have hm : 0 < m := by omega
  have hr : i % m < q * 128 := (Nat.mod_lt _ hm).trans_le hq
  have hp : i / m < 3 := Nat.div_lt_of_lt_mul (by omega)
  generalize i / m = p at *
  generalize i % m = r at *
  have hk : r / 128 < q := by omega
  have h1 : p * (q * 128) = q * p * 128 := by ring
  rw [h1] at ha hb
  have ha' : a = q * p + r / 128 := by omega
  have hb' : b = r % 128 := by omega
  refine ⟨?_, ?_, hp⟩
  · rw [ha', Nat.mul_add_div (by omega), Nat.div_eq_of_lt hk, add_zero]
  · rw [ha', Nat.mul_add_mod, Nat.mod_eq_of_lt hk]; omega

/-- So the position's loss is read from flat predictions at the channel of the piece and the place within it. -/
theorem background_piece {n m q i a b : ℕ} [NeZero n] {P : Fin 3 → Fin n → Fin n → Fin 9 → EReal} {x : Fin 27 → Fin m → EReal}
    (hm : m = n * n) (hq : m ≤ q * 128) (hi : i < 3 * m)
    (ha : a = (i / m * (q * 128) + i % m) / 128) (hb : b = (i / m * (q * 128) + i % m) % 128)
    (hP : ∀ p r c (l : Fin 27) (d : Fin m), l.val = 9 * p.val + 4 → d.val = r.val * n + c.val → P p r c 4 = x l d)
    (l : Fin 27) (d : Fin m) (hl : l.val = 9 * (a / q) + 4) (hd : d.val = a % q * 128 + b) :
    softplus (x l d) = background n P i := by
  obtain ⟨h1, h2, h3⟩ := piece hq hi ha hb
  unfold background
  refine congrArg softplus (hP _ _ _ l d ?_ ?_).symm
  · rw [hl, h1, hm]
    show _ = 9 * (i / (n * n) % 3) + 4
    rw [Nat.mod_eq_of_lt (by rwa [hm] at h3)]
  · rw [hd, h2, hm, Nat.mod_mul]
    show _ = i / n % n % n * n + i % n % n
    rw [Nat.mod_mod, Nat.mod_mod]; ring

end Cert.Yolo
-- ==== Proof.KNeg.lean ====
module

public import proofs.«01_k».proof.Proof.KDraws
public import proofs.«01_k».proof.Proof.KScale5
public import proofs.«01_k».proof.Proof.KScale4
public import proofs.«01_k».proof.Proof.KScale3

/- What one grid point computes of the background positions: the kernel sums a whole table of losses against how often
   each cell is drawn; that is the sum of the losses at the cells drawn. -/

@[expose] public section

set_option maxRecDepth 16384

noncomputable section

namespace Cert.KernelIdeal.Chain

open Cert.KernelIdeal Cert.KernelIdeal.Gen Idealize.ShloMosaic Idealize.SL.Sem Cert.Yolo

variable (x2 : Vec Ideal S1x27x80x80 .f32) (x3 : Vec Ideal S1x27x1600 .f32) (x4 : Vec Ideal S1x27x400 .f32)
  (x5 : Vec Ideal S1x3x500 .i32)

theorem k53_eq (t : Fin 500) : k53 x5 (ix2 0 t) = row80 (x5 (ix3 0 0 t)) := by
  pointwise [k53, k0_pay18, k0_pay17, k0_pay16]; rfl
theorem k56_eq (t : Fin 500) : k56 x5 (ix2 0 t) = col80 (x5 (ix3 0 0 t)) := by
  pointwise [k56, k0_pay19, k0_pay18, k0_pay17, k0_pay16]; rfl
theorem k70_eq (t : Fin 500) : k70 x5 (ix2 0 t) = padded 1600#32 1664#32 (x5 (ix3 0 1 t)) := by
  pointwise [k70, k0_pay20, k0_pay16]; rfl
theorem k94_eq (t : Fin 500) : k94 x5 (ix2 0 t) = quot128 (k70 x5 (ix2 0 t)) := by
  pointwise [k94, k72, k86, k88, k70, k0_pay24, k0_pay23, k0_pay22, k0_pay21, k0_pay20, k0_pay16]; rfl
theorem k121_eq (t : Fin 500) : k121 x5 (ix2 0 t) = rem128 (k70 x5 (ix2 0 t)) := by
  pointwise [k121, k0_pay25]; rfl
theorem k135_eq (t : Fin 500) : k135 x5 (ix2 0 t) = padded 400#32 512#32 (x5 (ix3 0 2 t)) := by
  pointwise [k135, k0_pay26, k45, k0_pay16]; rfl
theorem k159_eq (t : Fin 500) : k159 x5 (ix2 0 t) = quot128 (k135 x5 (ix2 0 t)) := by
  pointwise [k159, k0_pay27]; rfl
theorem k186_eq (t : Fin 500) : k186 x5 (ix2 0 t) = rem128 (k135 x5 (ix2 0 t)) := by
  pointwise [k186, k0_pay31, k161, k0_pay28, k180, k0_pay29, k181, k0_pay30]; rfl

/-- The three anchors' confidence logits at the second scale. -/
theorem k759_eq (i : Fin 1) (c : Fin 1600) : k759 x3 (ix2 i c) = x3 (ix3 0 4 c) := by
  pointwise [k759, k0_pay111]; exact k498_eq x3 4 c
theorem k760_eq (i : Fin 1) (c : Fin 1600) : k760 x3 (ix2 i c) = x3 (ix3 0 13 c) := by
  pointwise [k760, k0_pay112]; exact k498_eq x3 13 c
theorem k761_eq (i : Fin 1) (c : Fin 1600) : k761 x3 (ix2 i c) = x3 (ix3 0 22 c) := by
  pointwise [k761, k0_pay113]; exact k498_eq x3 22 c

/-- The first scale's background loss. -/
theorem k496_eq (h : ∀ t, (x5 (ix3 0 0 t)).toNat < 19200) :
    k496 x2 x5 = ∑ t : Fin 500, background 80 (pred3 x2) (x5 (ix3 0 0 t)).toNat := by
  pointwise [k496, k0_pay77, k465, k468, k470, k471, k0_pay71, k0_pay72, k0_pay73, k0_pay74, k0_pay75, k0_pay76]
  simp only [ne_eq, not_true_eq_false, if_false, k188_eq]
  refine sum_draws (A := 240) (B := 80) (N := 19200) (w := fun t => x5 (ix3 0 0 t)) (ρ := fun t => k53 x5 (ix2 0 t)) (κ := fun t => k56 x5 (ix2 0 t))
    (f := row80) (g := col80) (· / 80) (· % 80) (by decide) (by decide) h (k53_eq x5) (k56_eq x5)
    (fun j hj => ⟨row80_eq j hj, by show j / 80 < 240; omega⟩) (fun j hj => ⟨col80_eq j hj, Nat.mod_lt _ (by decide)⟩) fun i h a b hu hv => ?_
  unfold background pred3
  refine congrArg softplus ?_
  have hix : ∀ (p q : Fin 27) (r r' c c' : Fin 80), p.val = q.val → r.val = r'.val → c.val = c'.val →
      x2 (ix4 0 p r c) = x2 (ix4 0 q r' c') := by
    intro p q r r' c c' h1 h2 h3
    rw [Fin.ext h1, Fin.ext h2, Fin.ext h3]
  split_ifs with h1 h2
  all_goals
    refine hix _ _ _ _ _ _ ?_ ?_ (by show b.val = i % 80 % 80; omega)
    · first
        | (show 4 = 9 * (i / 6400 % 3) + 4; omega)
        | (show 13 = 9 * (i / 6400 % 3) + 4; omega)
        | (show 22 = 9 * (i / 6400 % 3) + 4; omega)
    · first
        | (show a.val = i / 80 % 80 % 80; omega)
        | (show a.val - 80 = i / 80 % 80 % 80; omega)
        | (show a.val - 80 - 80 = i / 80 % 80 % 80; omega)

/-- The second scale's background loss. -/
theorem k797_eq (h : ∀ t, (x5 (ix3 0 1 t)).toNat < 4800) :
    k797 x3 x5 = ∑ t : Fin 500, background 40 (pred4 x3) (x5 (ix3 0 1 t)).toNat := by
  pointwise [k797, k0_pay114]
  simp only [ne_eq, not_true_eq_false, if_false, k759_eq, k760_eq, k761_eq]
  refine sum_draws (A := 39) (B := 128) (N := 4800) (w := fun t => x5 (ix3 0 1 t)) (ρ := fun t => k94 x5 (ix2 0 t)) (κ := fun t => k121 x5 (ix2 0 t))
    (f := fun w => quot128 (padded 1600#32 1664#32 w)) (g := fun w => rem128 (padded 1600#32 1664#32 w))
    (fun j => (j / 1600 * 1664 + j % 1600) / 128) (fun j => (j / 1600 * 1664 + j % 1600) % 128) (by decide) (by decide) h
    (fun t => by rw [k94_eq, k70_eq]) (fun t => by rw [k121_eq, k70_eq])
    (fun j hj => by rw [padded1600_eq j hj]; exact ⟨(quot128_eq _ (by omega)).1, by omega⟩)
    (fun j hj => by rw [padded1600_eq j hj]; exact ⟨(quot128_eq _ (by omega)).2, Nat.mod_lt _ (by decide)⟩) fun i h a b hu hv => ?_
  obtain ⟨_, h2, _⟩ := piece (m := 1600) (q := 13) (by decide) h hu hv
  have hf : a.val % 13 * 128 + b.val < 1600 := h2 ▸ Nat.mod_lt _ (by decide)
  rw [dif_pos hf]
  refine Eq.trans (congrArg softplus ?_) (background_piece (m := 1600) (q := 13) (x := fun l d => x3 (ix3 0 l d)) rfl (by decide) h hu hv
    (fun p r c l d hl hd => congrArg₂ (fun l d => x3 (ix3 0 l d)) (Fin.ext hl.symm) (Fin.ext hd.symm)) ⟨9 * (a.val / 13) + 4, by omega⟩
    ⟨_, hf⟩ rfl rfl)
  split_ifs with h4 h5
  all_goals
    refine congrArg (fun l => x3 (ix3 0 l _)) (Fin.ext ?_)
    first
      | (show 4 = 9 * (a.val / 13) + 4; omega)
      | (show 13 = 9 * (a.val / 13) + 4; omega)
      | (show 22 = 9 * (a.val / 13) + 4; omega)

set_option maxHeartbeats 4000000 in
/-- The third scale's background loss. Its three logits are cut from one array, so the channel is counted from each cut. -/
theorem k1098_eq (h : ∀ t, (x5 (ix3 0 2 t)).toNat < 1200) :
    k1098 x4 x5 = ∑ t : Fin 500, background 20 (pred5 x4) (x5 (ix3 0 2 t)).toNat := by
  pointwise [k1098, k0_pay154]
  simp only [ne_eq, not_true_eq_false, if_false, k799_eq]
  refine sum_draws (A := 12) (B := 128) (N := 1200) (w := fun t => x5 (ix3 0 2 t)) (ρ := fun t => k159 x5 (ix2 0 t)) (κ := fun t => k186 x5 (ix2 0 t))
    (f := fun w => quot128 (padded 400#32 512#32 w)) (g := fun w => rem128 (padded 400#32 512#32 w))
    (fun j => (j / 400 * 512 + j % 400) / 128) (fun j => (j / 400 * 512 + j % 400) % 128) (by decide) (by decide) h
    (fun t => by rw [k159_eq, k135_eq]) (fun t => by rw [k186_eq, k135_eq])
    (fun j hj => by rw [padded400_eq j hj]; exact ⟨(quot128_eq _ (by omega)).1, by omega⟩)
    (fun j hj => by rw [padded400_eq j hj]; exact ⟨(quot128_eq _ (by omega)).2, Nat.mod_lt _ (by decide)⟩) fun i h a b hu hv => ?_
  obtain ⟨_, h2, _⟩ := piece (m := 400) (q := 4) (by decide) h hu hv
  have hf : a.val % 4 * 128 + b.val < 400 := h2 ▸ Nat.mod_lt _ (by decide)
  rw [dif_pos hf]
  refine Eq.trans (congrArg softplus ?_) (background_piece (m := 400) (q := 4) (x := fun l d => x4 (ix3 0 l d)) rfl (by decide) h hu hv
    (fun p r c l d hl hd => congrArg₂ (fun l d => x4 (ix3 0 l d)) (Fin.ext hl.symm) (Fin.ext hd.symm)) ⟨9 * (a.val / 4) + 4, by omega⟩
    ⟨_, hf⟩ rfl rfl)
  split_ifs with h4 h5
  all_goals
    refine congrArg (fun l => x4 (ix3 0 l _)) (Fin.ext ?_)
    first
      | (show 4 + a.val / 4 = 9 * (a.val / 4) + 4; omega)
      | (show 13 + (a.val / 4 - 1) = 9 * (a.val / 4) + 4; omega)
      | (show 22 + (a.val / 4 - 1 - 1) = 9 * (a.val / 4) + 4; omega)

end Cert.KernelIdeal.Chain
-- ==== Proof.Reals.lean ====
module

public import proofs.«01_k».proof.Proof.Spec

/- Sums of real numbers among the extended ones. -/

@[expose] public section

noncomputable section

namespace Cert.Yolo

open Idealize.ShloMosaic

theorem coe_sum {ι : Type} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- A bit is a real number. -/
theorem bit_coe (b : BitVec 1) : ∃ r : ℝ, bit b = (r : EReal) := ⟨_, rfl⟩

/-- The literal 3. -/
theorem three_eq : Ideal.ofBits .f32 0x40400000#32 = ((3 : ℝ) : EReal) := by
  simp [Ideal.ofBits, Ideal.ieee, -EReal.coe_mul]; norm_num

end Cert.Yolo
-- ==== Proof.KTotals.lean ====
module

public import proofs.«01_k».proof.Proof.KFinal
public import proofs.«01_k».proof.Proof.KNeg
public import proofs.«01_k».proof.Proof.KNeg
public import proofs.«01_k».proof.Proof.Reals

/- The kernel's four results are the losses of all targets, added up. -/

@[expose] public section

set_option maxRecDepth 16384

noncomputable section

namespace Cert.KernelIdeal.Chain

open Cert.KernelIdeal Cert.KernelIdeal.Gen Idealize.ShloMosaic Idealize.ShloMosaic.TcCoe Idealize.SL.Sem Cert.Yolo

/-! ## The arguments by name -/

section Args

variable (p3 : Vec Ideal S64x27x80x80 .f32) (p4 : Vec Ideal S64x27x40x40 .f32) (p5 : Vec Ideal S64x27x20x20 .f32)
  (tg : Vec Ideal S64x50x5 .f32) (an : Vec Ideal S9x2 .f32) (j : Vec Ideal S64x500 .i32)

def rows : Fin 64 → Fin 50 → Fin 5 → EReal := fun b t k => tg (ix3 b t k)
def grid3 : Fin 64 → Fin 3 → Fin 80 → Fin 80 → Fin 9 → EReal := fun b a r c k => p3 (ix4 b ⟨9 * a.val + k.val, by omega⟩ r c)
def grid4 : Fin 64 → Fin 3 → Fin 40 → Fin 40 → Fin 9 → EReal := fun b a r c k => p4 (ix4 b ⟨9 * a.val + k.val, by omega⟩ r c)
def grid5 : Fin 64 → Fin 3 → Fin 20 → Fin 20 → Fin 9 → EReal := fun b a r c k => p5 (ix4 b ⟨9 * a.val + k.val, by omega⟩ r c)
def draw : Fin 64 → Fin 500 → BitVec 32 := fun b t => j (ix2 b t)

end Args

variable (m : (ℓ : Loc nD τ sig) → Buf (Elt Ideal) ℓ) (c : Dev nD)

abbrev mW : Fin 3 → Fin 3 → EReal := anchW (m ((c : Thread nD τ).loc main_arg4))
abbrev mH : Fin 3 → Fin 3 → EReal := anchH (m ((c : Thread nD τ).loc main_arg4))
abbrev mR : Fin 64 → Fin 50 → Fin 5 → EReal := rows (m ((c : Thread nD τ).loc main_arg3))
abbrev m3 : Fin 64 → Fin 3 → Fin 80 → Fin 80 → Fin 9 → EReal := grid3 (m ((c : Thread nD τ).loc main_arg0))
abbrev m4 : Fin 64 → Fin 3 → Fin 40 → Fin 40 → Fin 9 → EReal := grid4 (m ((c : Thread nD τ).loc main_arg1))
abbrev m5 : Fin 64 → Fin 3 → Fin 20 → Fin 20 → Fin 9 → EReal := grid5 (m ((c : Thread nD τ).loc main_arg2))
abbrev mJ3 : Fin 64 → Fin 500 → BitVec 32 := draw (m ((c : Thread nD τ).loc main_arg5))
abbrev mJ4 : Fin 64 → Fin 500 → BitVec 32 := draw (m ((c : Thread nD τ).loc main_arg6))
abbrev mJ5 : Fin 64 → Fin 500 → BitVec 32 := draw (m ((c : Thread nD τ).loc main_arg7))

section Point

variable (t : Fin cfg0.N)

/-- The image a point works on. -/
abbrev im (t : Fin cfg0.N) : Fin 64 := ⟨t.val, lt_of_lt_of_eq t.isLt N_0⟩

theorem row_eq : row (iblk m c 0 t) = mR m c (im t) := by
  funext a k; exact blk0 m c t a k
theorem anchW_eq : anchW (iblk m c 1 t) = mW m c := by
  funext s a; exact congrArg (Ideal.div · img) (blk1 m c t _ 0)
theorem anchH_eq : anchH (iblk m c 1 t) = mH m c := by
  funext s a; exact congrArg (Ideal.div · img) (blk1 m c t _ 1)
theorem pred3_eq : pred3 (iblk m c 2 t) = m3 m c (im t) := by
  funext a r q k; exact blk2 m c t _ r q
theorem pred4_eq : pred4 (iblk m c 3 t) = m4 m c (im t) := by
  funext a r q k
  exact (blk3 m c t _ _).trans (congrArg₂ (fun x y : Fin 40 => m ((c : Thread nD τ).loc main_arg1) (ix4 (im t) ⟨9 * a.val + k.val, by omega⟩ x y))
    (Fin.ext (by show (r.val * 40 + q.val) / 40 = r.val; omega)) (Fin.ext (by show (r.val * 40 + q.val) % 40 = q.val; omega)))
theorem pred5_eq : pred5 (iblk m c 4 t) = m5 m c (im t) := by
  funext a r q k
  exact (blk4 m c t _ _).trans (congrArg₂ (fun x y : Fin 20 => m ((c : Thread nD τ).loc main_arg2) (ix4 (im t) ⟨9 * a.val + k.val, by omega⟩ x y))
    (Fin.ext (by show (r.val * 20 + q.val) / 20 = r.val; omega)) (Fin.ext (by show (r.val * 20 + q.val) % 20 = q.val; omega)))

/-- What the arguments are assumed to be: finite predictions, and background positions that exist. -/
structure Good : Prop where
  h3 : ∀ i, m ((c : Thread nD τ).loc main_arg0) i ≠ (⊥ : EReal) ∧ m ((c : Thread nD τ).loc main_arg0) i ≠ (⊤ : EReal)
  h4 : ∀ i, m ((c : Thread nD τ).loc main_arg1) i ≠ (⊥ : EReal) ∧ m ((c : Thread nD τ).loc main_arg1) i ≠ (⊤ : EReal)
  h5 : ∀ i, m ((c : Thread nD τ).loc main_arg2) i ≠ (⊥ : EReal) ∧ m ((c : Thread nD τ).loc main_arg2) i ≠ (⊤ : EReal)
  j3 : ∀ b t, (mJ3 m c b t).toNat < 19200
  j4 : ∀ b t, (mJ4 m c b t).toNat < 4800
  j5 : ∀ b t, (mJ5 m c b t).toNat < 1200

variable {m c} (H : Good m c)
include H

theorem fin3 (i : S1x27x80x80.Idx) : iblk m c 2 t i ≠ (⊥ : EReal) ∧ iblk m c 2 t i ≠ (⊤ : EReal) := H.h3 _
theorem fin4 (i : S1x27x1600.Idx) : iblk m c 3 t i ≠ (⊥ : EReal) ∧ iblk m c 3 t i ≠ (⊤ : EReal) := by
  have h : ∀ i, V m c main_call0_v4 i ≠ (⊥ : EReal) ∧ V m c main_call0_v4 i ≠ (⊤ : EReal) := by
    rw [entry4]; intro i; exact H.h4 _
  exact h _
theorem fin5 (i : S1x27x400.Idx) : iblk m c 4 t i ≠ (⊥ : EReal) ∧ iblk m c 4 t i ≠ (⊤ : EReal) := by
  have h : ∀ i, V m c main_call0_v5 i ≠ (⊥ : EReal) ∧ V m c main_call0_v5 i ≠ (⊤ : EReal) := by
    rw [entry5]; intro i; exact H.h5 _
  exact h _

theorem part_box : part m c t (ix2 0 0) = (∑ q : Fin 50, boxLoss 80 g80 79#32 (mW m c 0) (mH m c 0) (m3 m c (im t)) (mR m c (im t) q))
      + (∑ q : Fin 50, boxLoss 40 g40 39#32 (mW m c 1) (mH m c 1) (m4 m c (im t)) (mR m c (im t) q))
      + (∑ q : Fin 50, boxLoss 20 g20 19#32 (mW m c 2) (mH m c 2) (m5 m c (im t)) (mR m c (im t) q)) := by
  rw [part, contrib, lane_box]
  refine (k1100_eq _ _ _ _ _ (fin3 t H) (fin4 t H) (fin5 t H)).trans ?_
  rw [row_eq, anchW_eq, anchH_eq, pred3_eq, pred4_eq, pred5_eq]
theorem part_cls : part m c t (ix2 0 1) = (∑ q : Fin 50, clsLoss 80 g80 79#32 (mW m c 0) (mH m c 0) (m3 m c (im t)) (mR m c (im t) q))
      + (∑ q : Fin 50, clsLoss 40 g40 39#32 (mW m c 1) (mH m c 1) (m4 m c (im t)) (mR m c (im t) q))
      + (∑ q : Fin 50, clsLoss 20 g20 19#32 (mW m c 2) (mH m c 2) (m5 m c (im t)) (mR m c (im t) q)) := by
  rw [part, contrib, lane_cls]
  refine (k1102_eq _ _ _ _ _ (fin3 t H) (fin4 t H) (fin5 t H)).trans ?_
  rw [row_eq, anchW_eq, anchH_eq, pred3_eq, pred4_eq, pred5_eq]
theorem part_conf : part m c t (ix2 0 2) = (∑ q : Fin 50, confLoss 80 g80 79#32 (mW m c 0) (mH m c 0) (m3 m c (im t)) (mR m c (im t) q))
      + (∑ q : Fin 50, confLoss 40 g40 39#32 (mW m c 1) (mH m c 1) (m4 m c (im t)) (mR m c (im t) q))
      + (∑ q : Fin 50, confLoss 20 g20 19#32 (mW m c 2) (mH m c 2) (m5 m c (im t)) (mR m c (im t) q)) := by
  rw [part, contrib, lane_conf]
  refine (k1104_eq _ _ _ _ _ (fin3 t H) (fin4 t H) (fin5 t H)).trans ?_
  rw [row_eq, anchW_eq, anchH_eq, pred3_eq, pred4_eq, pred5_eq]
omit H in
theorem part_count : part m c t (ix2 0 3) = (∑ q : Fin 50, bit (valid (mR m c (im t) q))) * Ideal.ofBits .f32 0x40400000#32 := by
  rw [part, contrib, lane_count]
  refine (k43_eq _).trans ?_
  rw [row_eq]
theorem part_back : part m c t (ix2 0 4) = (∑ q : Fin 500, background 80 (m3 m c (im t)) (mJ3 m c (im t) q).toNat)
      + (∑ q : Fin 500, background 40 (m4 m c (im t)) (mJ4 m c (im t) q).toNat)
      + (∑ q : Fin 500, background 20 (m5 m c (im t)) (mJ5 m c (im t) q).toNat) := by
  have e3 : ∀ q, iblk m c 5 t (ix3 0 0 q) = mJ3 m c (im t) q := fun q => blk5_0 m c t q
  have e4 : ∀ q, iblk m c 5 t (ix3 0 1 q) = mJ4 m c (im t) q := fun q => blk5_1 m c t q
  have e5 : ∀ q, iblk m c 5 t (ix3 0 2 q) = mJ5 m c (im t) q := fun q => blk5_2 m c t q
  rw [part, contrib, lane_back]
  refine (congrArg₂ (· + ·) (congrArg₂ (· + ·) (k496_eq _ _ fun q => ?_) (k797_eq _ _ fun q => ?_)) (k1098_eq _ _ fun q => ?_)).trans ?_
  · rw [e3]; exact H.j3 _ _
  · rw [e4]; exact H.j4 _ _
  · rw [e5]; exact H.j5 _ _
  · simp only [e3, e4, e5]
    rw [pred3_eq, pred4_eq, pred5_eq]

end Point

/-! ## All points -/

/-- A sum over the points is one over the images. -/
theorem sum_points (f : Fin 64 → EReal) : ∑ t : Fin cfg0.N, f (im t) = ∑ b : Fin 64, f b :=
  Fintype.sum_equiv (finCongr N_0) _ _ fun _ => rfl

theorem sum_three (f g h : Fin 64 → EReal) : ∑ t : Fin cfg0.N, (f (im t) + g (im t) + h (im t)) = ∑ b, f b + ∑ b, g b + ∑ b, h b := by
  rw [sum_points fun b => f b + g b + h b, Finset.sum_add_distrib, Finset.sum_add_distrib]

variable {m c} (H : Good m c)
include H

theorem sum_box : ∑ t : Fin cfg0.N, (part m c t (ix2 0 0) : EReal) = boxSum 80 g80 79#32 (mW m c 0) (mH m c 0) (m3 m c) (mR m c)
    + boxSum 40 g40 39#32 (mW m c 1) (mH m c 1) (m4 m c) (mR m c) + boxSum 20 g20 19#32 (mW m c 2) (mH m c 2) (m5 m c) (mR m c) := by
  simp only [part_box _ H]
  exact sum_three (fun b => ∑ q, boxLoss 80 g80 79#32 (mW m c 0) (mH m c 0) (m3 m c b) (mR m c b q))
    (fun b => ∑ q, boxLoss 40 g40 39#32 (mW m c 1) (mH m c 1) (m4 m c b) (mR m c b q))
    (fun b => ∑ q, boxLoss 20 g20 19#32 (mW m c 2) (mH m c 2) (m5 m c b) (mR m c b q))
theorem sum_cls : ∑ t : Fin cfg0.N, (part m c t (ix2 0 1) : EReal) = clsSum 80 g80 79#32 (mW m c 0) (mH m c 0) (m3 m c) (mR m c)
    + clsSum 40 g40 39#32 (mW m c 1) (mH m c 1) (m4 m c) (mR m c) + clsSum 20 g20 19#32 (mW m c 2) (mH m c 2) (m5 m c) (mR m c) := by
  simp only [part_cls _ H]
  exact sum_three (fun b => ∑ q, clsLoss 80 g80 79#32 (mW m c 0) (mH m c 0) (m3 m c b) (mR m c b q))
    (fun b => ∑ q, clsLoss 40 g40 39#32 (mW m c 1) (mH m c 1) (m4 m c b) (mR m c b q))
    (fun b => ∑ q, clsLoss 20 g20 19#32 (mW m c 2) (mH m c 2) (m5 m c b) (mR m c b q))
theorem sum_conf : ∑ t : Fin cfg0.N, (part m c t (ix2 0 2) : EReal) = confSum 80 g80 79#32 (mW m c 0) (mH m c 0) (m3 m c) (mR m c)
    + confSum 40 g40 39#32 (mW m c 1) (mH m c 1) (m4 m c) (mR m c) + confSum 20 g20 19#32 (mW m c 2) (mH m c 2) (m5 m c) (mR m c) := by
  simp only [part_conf _ H]
  exact sum_three (fun b => ∑ q, confLoss 80 g80 79#32 (mW m c 0) (mH m c 0) (m3 m c b) (mR m c b q))
    (fun b => ∑ q, confLoss 40 g40 39#32 (mW m c 1) (mH m c 1) (m4 m c b) (mR m c b q))
    (fun b => ∑ q, confLoss 20 g20 19#32 (mW m c 2) (mH m c 2) (m5 m c b) (mR m c b q))
theorem sum_back : ∑ t : Fin cfg0.N, (part m c t (ix2 0 4) : EReal) = backSum 80 (m3 m c) (mJ3 m c)
    + backSum 40 (m4 m c) (mJ4 m c) + backSum 20 (m5 m c) (mJ5 m c) := by
  simp only [part_back _ H]
  exact sum_three (fun b => ∑ q, background 80 (m3 m c b) (mJ3 m c b q).toNat) (fun b => ∑ q, background 40 (m4 m c b) (mJ4 m c b q).toNat)
    (fun b => ∑ q, background 20 (m5 m c b) (mJ5 m c b q).toNat)

omit H in
theorem sum_count : ∑ t : Fin cfg0.N, (part m c t (ix2 0 3) : EReal) = countAll (mR m c) := by
  simp only [part_count]
  rw [sum_points fun b => (∑ q : Fin 50, bit (valid (mR m c b q))) * Ideal.ofBits .f32 0x40400000#32, three_eq, countAll, countSum]
  choose f hf using bit_coe
  simp only [hf, coe_sum, ← EReal.coe_mul, ← EReal.coe_add]
  rw [← Finset.sum_mul]
  exact congrArg _ (by ring)

/-! ## The results -/

theorem res_box : resultRow m c (ix2 0 1) = boxAll (mW m c) (mH m c) (m3 m c) (m4 m c) (m5 m c) (mR m c) := by
  rw [resultRow, last_box]
  exact congrArg₂ mean sum_count (sum_box H)
theorem res_cls : resultRow m c (ix2 0 2) = clsAll (mW m c) (mH m c) (m3 m c) (m4 m c) (m5 m c) (mR m c) := by
  rw [resultRow, last_cls]
  exact congrArg₂ mean sum_count (sum_cls H)
theorem res_conf : resultRow m c (ix2 0 3)
    = confAll (mW m c) (mH m c) (m3 m c) (m4 m c) (m5 m c) (mR m c) (mJ3 m c) (mJ4 m c) (mJ5 m c) := by
  rw [resultRow, last_conf]
  exact congrArg₂ (· + ·) (congrArg₂ mean sum_count (sum_conf H)) (congrArg (· * backScale) (sum_back H))
theorem res_total : resultRow m c (ix2 0 0)
    = totalAll (mW m c) (mH m c) (m3 m c) (m4 m c) (m5 m c) (mR m c) (mJ3 m c) (mJ4 m c) (mJ5 m c) := by
  rw [totalAll, ← res_box H, ← res_cls H, ← res_conf H]
  rw [resultRow, last_box, last_cls, last_conf, last_total]

end Cert.KernelIdeal.Chain
-- ==== Proof.Range.lean ====
module

public import proofs.«01_k».proof.Defs
public import proofs.«01_k».proof.Proof.Gen.Pre_finite_in_range
public import proofs.«01_k».proof.Proof.KTotals
public import Idealize.ShloMosaic.Lib.ReduceAll

/- What the precondition says of the arguments, element by element. -/

@[expose] public section

set_option maxRecDepth 16384

noncomputable section

namespace Cert.KernelIdeal.Chain

open Cert.KernelIdeal Cert.KernelIdeal.Gen Idealize.ShloMosaic Idealize.ShloMosaic.TcCoe Idealize.SL.Sem Cert.Yolo

instance : Subsingleton Cert.Pre_finite_in_range.S_.Idx := ⟨fun a b => funext fun k => k.elim0⟩

/-- A number whose absolute value is below infinity is finite. -/
theorem finite_of_abs {x : EReal}
    (h : FloatOps.cmpf (F := Ideal) (φ := .f32) .olt (FloatOps.absf (F := Ideal) (φ := .f32) x) (Ideal.ofBits .f32 0x7F800000#32) = 1#1) :
    x ≠ ⊥ ∧ x ≠ ⊤ := by
  have ht : Ideal.ofBits .f32 0x7F800000#32 = ⊤ := by simp [Ideal.ofBits, Ideal.ieee]
  have h' : BitVec.ofBool (decide (max x (-x) < ⊤)) = 1#1 := by rw [← ht]; exact h
  have hl : max x (-x) < ⊤ := by
    by_contra hn
    rw [decide_eq_false hn] at h'
    exact absurd h' (by decide)
  constructor
  · rintro rfl
    simp at hl
  · rintro rfl
    simp at hl

/-- A word that is at least 0 and below `n` is below `n` as a natural number. -/
theorem below_of_word {n : ℕ} (hn : n < 2 ^ 31) {w : BitVec 32}
    (h : IntOp.andi (IntOp.cmpi .sge w 0#32) (IntOp.cmpi .slt w (BitVec.ofNat 32 n)) = 1#1) : w.toNat < n := by
  by_contra hc
  have e := WordCmp.andi_sge_zero_slt_ofNat (w := 32) (k := n) hn w
  rw [e, decide_eq_false hc] at h
  exact absurd h (by decide)

theorem good (m : (ℓ : Loc nD τ sig) → Buf (Elt Ideal) ℓ)
    (H : Cert.Pre_KernelIdeal_finite_in_range (hPre_finite_in_range := Cert.Pre_finite_in_range.Gen.facts) m) (c : Dev nD) : Good m c := by
  have h := congrFun (H c) (fun k => k.elim0)
  dsimp only [Cert.Pre_finite_in_range.fn, Cert.Pre_finite_in_range.fn_part1, Cert.Pre_finite_in_range.fn_part2] at h
  obtain ⟨h1, h2⟩ := IntOp.andi_eq_one.mp h
  obtain ⟨h3, p5⟩ := IntOp.andi_eq_one.mp h1
  obtain ⟨p3, p4⟩ := IntOp.andi_eq_one.mp h3
  obtain ⟨h4, n5⟩ := IntOp.andi_eq_one.mp h2
  obtain ⟨n3, n4⟩ := IntOp.andi_eq_one.mp h4
  exact ⟨fun i => finite_of_abs (Host.reduce_andi_all _ _ _ _ _ p3 i), fun i => finite_of_abs (Host.reduce_andi_all _ _ _ _ _ p4 i),
    fun i => finite_of_abs (Host.reduce_andi_all _ _ _ _ _ p5 i),
    fun b t => below_of_word (n := 19200) (by norm_num) (Host.reduce_andi_all _ _ _ _ _ n3 (ix2 b t)),
    fun b t => below_of_word (n := 4800) (by norm_num) (Host.reduce_andi_all _ _ _ _ _ n4 (ix2 b t)),
    fun b t => below_of_word (n := 1200) (by norm_num) (Host.reduce_andi_all _ _ _ _ _ n5 (ix2 b t))⟩

end Cert.KernelIdeal.Chain
-- ==== Proof.RGather.lean ====
module

public import Idealize.ShloMosaic.Lib.Pointwise
public import Idealize.ShloMosaic.Lib.ValueIdxCore

/- Two gathers read at an index: the nine numbers of one cell, and one entry of a row. -/

@[expose] public section

noncomputable section

namespace Cert.Yolo

open Idealize.ShloMosaic

section Cell

variable {α : Type} {n : ℕ}

/-- Dimension numbers that take, per image and target, the nine numbers at an image, anchor, row and column. -/
abbrev cellDims (n : ℕ) (wf : GatherDims.WF ⟨5, ![64, 3, n, n, 9]⟩ ⟨3, ![64, 50, 4]⟩ ⟨3, ![64, 50, 9]⟩ [2] [0, 1, 2, 3] [] [0, 1, 2, 3] [] 2
    ![1, 1, 1, 1, 9]) : GatherDims ⟨5, ![64, 3, n, n, 9]⟩ ⟨3, ![64, 50, 4]⟩ ⟨3, ![64, 50, 9]⟩ where
  offsetDims := [2]
  collapsedSliceDims := [0, 1, 2, 3]
  operandBatchingDims := []
  startIndicesBatchingDims := []
  startIndexMap := [0, 1, 2, 3]
  indexVectorDim := 2
  sliceSizes := ![1, 1, 1, 1, 9]
  wf := wf

theorem siIdx_cell (wf) (b : Fin 64) (t : Fin 50) (k : Fin 9) (c : Fin 4) :
    (cellDims n wf).siIdx (ix3 b t k) c = ix3 b t c := by
  funext a; refine Fin.ext ?_
  match a with
  | ⟨0, _⟩ => rfl
  | ⟨1, _⟩ => rfl
  | ⟨2, _⟩ => rfl

theorem gather_cell (wf) (x : (⟨5, ![64, 3, n, n, 9]⟩ : Shape).Idx → α) (idx : IVec ⟨3, ![64, 50, 4]⟩ 32)
    (b : Fin 64) (t : Fin 50) (k : Fin 9) (a : Fin 3) (r c : Fin n)
    (h0 : (idx (ix3 b t 0)).toInt = b.val) (h1 : (idx (ix3 b t 1)).toInt = a.val)
    (h2 : (idx (ix3 b t 2)).toInt = r.val) (h3 : (idx (ix3 b t 3)).toInt = c.val) :
    Host.gather (cellDims n wf) x idx (ix3 b t k) = x (ix5 b a r c k) := by
  unfold Host.gather
  congr 1
  funext q
  refine Fin.ext ?_
  show (cellDims n wf).start (ix3 b t k) idx q + (cellDims n wf).batchCoord (ix3 b t k) q + (cellDims n wf).offCoord (ix3 b t k) q = _
  rw [GatherDims.batchCoord_eq_zero _ _ _ List.not_mem_nil]
  match q with
  | ⟨0, _⟩ =>
    rw [GatherDims.offCoord_eq_zero _ _ _ (fun h => ((GatherDims.mem_sKept _ _).mp h).1 (by simp)), GatherDims.start, dif_pos (by simp)]
    show min (idx ((cellDims n wf).siIdx (ix3 b t k) 0)).toInt.toNat (64 - 1) = b.val
    rw [siIdx_cell, h0]; omega
  | ⟨1, _⟩ =>
    rw [GatherDims.offCoord_eq_zero _ _ _ (fun h => ((GatherDims.mem_sKept _ _).mp h).1 (by simp)), GatherDims.start, dif_pos (by simp)]
    show min (idx ((cellDims n wf).siIdx (ix3 b t k) 1)).toInt.toNat (3 - 1) = a.val
    rw [siIdx_cell, h1]; omega
  | ⟨2, _⟩ =>
    rw [GatherDims.offCoord_eq_zero _ _ _ (fun h => ((GatherDims.mem_sKept _ _).mp h).1 (by simp)), GatherDims.start, dif_pos (by simp)]
    show min (idx ((cellDims n wf).siIdx (ix3 b t k) 2)).toInt.toNat (n - 1) = r.val
    rw [siIdx_cell, h2]; omega
  | ⟨3, _⟩ =>
    rw [GatherDims.offCoord_eq_zero _ _ _ (fun h => ((GatherDims.mem_sKept _ _).mp h).1 (by simp)), GatherDims.start, dif_pos (by simp)]
    show min (idx ((cellDims n wf).siIdx (ix3 b t k) 3)).toInt.toNat (n - 1) = c.val
    rw [siIdx_cell, h3]; omega
  | ⟨4, _⟩ =>
    rw [GatherDims.start, dif_neg (by simp)]
    show 0 + 0 + (cellDims n wf).offCoord (ix3 b t k) 4 = k.val
    rw [GatherDims.offCoord, dif_pos ((GatherDims.mem_sKept _ _).mpr ⟨by simp, List.not_mem_nil⟩)]
    show 0 + 0 + k.val = k.val
    omega

end Cell

theorem gather_anchor {α : Type} (wf) (x : (⟨1, ![3]⟩ : Shape).Idx → α) (idx : IVec ⟨3, ![64, 50, 1]⟩ 32)
    (b : Fin 64) (t : Fin 50) (a : Fin 3) (h : (idx (ix3 b t 0)).toInt = a.val) :
    Host.gather (ValueIdx.takeDims 3 64 50 wf) x idx (ix2 b t) = x (ix1 a) := by
  have hi : ValueIdx.takeIdx (ix2 b t) = (ix3 b t 0 : (⟨3, ![64, 50, 1]⟩ : Shape).Idx) := by
    funext q; refine Fin.ext ?_
    match q with
    | ⟨0, _⟩ => rfl
    | ⟨1, _⟩ => rfl
    | ⟨2, _⟩ => rfl
  rw [ValueIdx.gather_take_apply (by norm_num) wf x idx (ix2 b t)]
  congr 1
  funext q; refine Fin.ext ?_
  match q with
  | ⟨0, _⟩ =>
    show min (idx (ValueIdx.takeIdx (ix2 b t))).toInt.toNat (3 - 1) = a.val
    rw [hi, h]; omega

section Entry

variable {α : Type} {N : ℕ}

/-- Dimension numbers that take, per image, 500 entries of its row. -/
abbrev entryDims (N : ℕ) (wf : GatherDims.WF ⟨2, ![64, N]⟩ ⟨3, ![64, 500, 1]⟩ ⟨2, ![64, 500]⟩ [] [1] [0] [1] [0] 2 ![1, 1]) :
    GatherDims ⟨2, ![64, N]⟩ ⟨3, ![64, 500, 1]⟩ ⟨2, ![64, 500]⟩ where
  offsetDims := []
  collapsedSliceDims := [1]
  operandBatchingDims := [0]
  startIndicesBatchingDims := [0]
  startIndexMap := [1]
  indexVectorDim := 2
  sliceSizes := ![1, 1]
  wf := wf

theorem gather_entry (wf) (x : (⟨2, ![64, N]⟩ : Shape).Idx → α) (idx : IVec ⟨3, ![64, 500, 1]⟩ 32)
    (b : Fin 64) (t : Fin 500) (j : Fin N) (h : (idx (ix3 b t 0)).toInt = j.val) :
    Host.gather (entryDims N wf) x idx (ix2 b t) = x (ix2 b j) := by
  unfold Host.gather
  congr 1
  funext q
  refine Fin.ext ?_
  show (entryDims N wf).start (ix2 b t) idx q + (entryDims N wf).batchCoord (ix2 b t) q + (entryDims N wf).offCoord (ix2 b t) q = _
  match q with
  | ⟨0, _⟩ =>
    rw [GatherDims.start_batching _ _ _ _ (by simp),
      GatherDims.offCoord_eq_zero _ _ _ (fun h => ((GatherDims.mem_sKept _ _).mp h).2 (by simp)),
      GatherDims.batchCoord, dif_pos (by simp)]
    show 0 + b.val + 0 = b.val
    omega
  | ⟨1, _⟩ =>
    rw [GatherDims.offCoord_eq_zero _ _ _ (fun h => ((GatherDims.mem_sKept _ _).mp h).1 (by simp)),
      GatherDims.batchCoord_eq_zero _ _ _ (by simp), GatherDims.start, dif_pos (by simp)]
    have hs : (entryDims N wf).siIdx (ix2 b t) 0 = ix3 b t 0 := by
      funext a; refine Fin.ext ?_
      match a with
      | ⟨0, _⟩ => rfl
      | ⟨1, _⟩ => rfl
      | ⟨2, _⟩ => rfl
    show min (idx ((entryDims N wf).siIdx (ix2 b t) 0)).toInt.toNat (N - 1) + 0 + 0 = j.val
    rw [hs, h]; omega

end Entry

end Cert.Yolo
-- ==== Proof.RStage.lean ====
module

public import proofs.«01_k».proof.Proof.Totals
public import proofs.«01_k».proof.Proof.Reals
public import proofs.«01_k».proof.Proof.RGather

/- The loss of one target as it is written over arrays: with the literals 0 and 1 as numbers `z` and `o`, the guarded
   softplus, and the best anchor as the least index that attains the maximum. -/

@[expose] public section

noncomputable section

namespace Cert.Yolo

open Idealize.ShloMosaic

/-- The literals 0 and 1. -/
abbrev litZero : EReal := Ideal.ofBits .f32 0x00000000#32
abbrev litOne : EReal := Ideal.ofBits .f32 0x3F800000#32

theorem litZero_eq : litZero = 0 := Ideal.ofBits_zero_f32
theorem litOne_eq : litOne = 1 := Ideal.ofBits_one_f32

/-! ## Small steps -/

/-- A bit converted as an unsigned number. -/
theorem uitofp_bit (b : BitVec 1) : FloatOps.uitofp (F := Ideal) .f32 b = bit b := by
  have h : b = 0#1 ∨ b = 1#1 := by revert b; decide
  rcases h with rfl | rfl
  · show (((0#1).toNat : ℝ) : EReal) = (((BitVec.setWidth 32 0#1).toInt : ℝ) : EReal)
    rfl
  · show (((1#1).toNat : ℝ) : EReal) = (((BitVec.setWidth 32 1#1).toInt : ℝ) : EReal)
    norm_num

/-- The logistic function written out. -/
theorem logistic_lit (x : EReal) : Ideal.div litOne (litOne + Ideal.exp (-x)) = Ideal.logistic x := by
  rw [litOne_eq]; rfl

def validAt (z o : EReal) (r : Fin 5 → EReal) : BitVec 1 :=
  IntOp.andi (IntOp.andi (IntOp.andi (IntOp.andi (IntOp.andi (IntOp.andi (IntOp.andi
    (BitVec.ofBool (decide (z ≤ r 1))) (BitVec.ofBool (decide (r 1 ≤ o))))
    (BitVec.ofBool (decide (z ≤ r 2)))) (BitVec.ofBool (decide (r 2 ≤ o))))
    (BitVec.ofBool (decide (z < r 3)))) (BitVec.ofBool (decide (r 3 ≤ o))))
    (BitVec.ofBool (decide (z < r 4)))) (BitVec.ofBool (decide (r 4 ≤ o)))

theorem validAt_lit (r : Fin 5 → EReal) : validAt litZero litOne r = valid r := by
  rw [litZero_eq, litOne_eq]; rfl

/-- Softplus with its guard against an unordered difference, which never holds. -/
def softplusAt (z x : EReal) : EReal :=
  Scalar.select (FloatOps.cmpf (F := Ideal) (φ := .f32) .une (x - z) (x - z)) (x + z)
    (max x z + Ideal.log1p (Ideal.exp (-(FloatOps.absf (F := Ideal) (φ := .f32) (x - z)))))

theorem softplusAt_lit (x : EReal) : softplusAt litZero x = softplus x := by
  have h : FloatOps.cmpf (F := Ideal) (φ := .f32) .une (x - 0) (x - 0) = 0#1 := by
    show BitVec.ofBool (decide (x - 0 ≠ x - 0)) = 0#1
    simp
  rw [litZero_eq, softplusAt, h, sub_zero]
  show max x 0 + _ = _
  rw [softplus, sub_eq_add_neg (0 : EReal), zero_add]

def overlapAt (z c s c' s' : EReal) : EReal :=
  max z (min (c + Ideal.div s two) (c' + Ideal.div s' two) - max (c - Ideal.div s two) (c' - Ideal.div s' two))

def giouAt (z px py pw ph : EReal) (r : Fin 5 → EReal) : EReal :=
  Ideal.div (overlapAt z px pw (r 1) (r 3) * overlapAt z py ph (r 2) (r 4))
      (pw * ph + r 3 * r 4 - overlapAt z px pw (r 1) (r 3) * overlapAt z py ph (r 2) (r 4) + eps)
    - Ideal.div (span px pw (r 1) (r 3) * span py ph (r 2) (r 4) + eps
          - (pw * ph + r 3 * r 4 - overlapAt z px pw (r 1) (r 3) * overlapAt z py ph (r 2) (r 4) + eps))
        (span px pw (r 1) (r 3) * span py ph (r 2) (r 4) + eps)

theorem giouAt_lit (px py pw ph : EReal) (r : Fin 5 → EReal) : giouAt litZero px py pw ph r = giou px py pw ph r := by
  rw [litZero_eq]; rfl

/-! ## The best anchor -/

/-- The largest of three numbers, folded from the least number. -/
abbrev topOf (f : Fin 3 → EReal) : EReal :=
  Finset.fold (FloatOps.maximumf (F := Ideal) (φ := .f32)) (Ideal.ofBits .f32 0xFF800000#32) f Finset.univ

theorem topOf_eq (f : Fin 3 → EReal) : topOf f = max (f 0) (max (f 1) (f 2)) := by
  have h : Ideal.ofBits .f32 0xFF800000#32 = ⊥ := by simp [Ideal.ofBits, Ideal.ieee]
  show max (f 0) (max (f 1) (max (f 2) (Ideal.ofBits .f32 0xFF800000#32))) = _
  rw [h, max_bot_right]

/-- The least index that attains the maximum. -/
theorem least_best (f : Fin 3 → EReal) :
    Finset.fold IntOp.minsi 0x7FFFFFFF#32
      (fun a => Scalar.select (FloatOps.cmpf (F := Ideal) (φ := .f32) .oeq (f a) (topOf f)) (BitVec.ofNat 32 a.val) 3#32)
      Finset.univ = firstMax (f 0) (f 1) (f 2) := by
  have hc : ∀ x y : EReal, FloatOps.cmpf (F := Ideal) (φ := .f32) .oeq x y = BitVec.ofBool (decide (x = y)) := fun _ _ => rfl
  simp only [hc, topOf_eq]
  show IntOp.minsi (Scalar.select (BitVec.ofBool (decide (f 0 = _))) 0#32 3#32)
    (IntOp.minsi (Scalar.select (BitVec.ofBool (decide (f 1 = _))) 1#32 3#32)
      (IntOp.minsi (Scalar.select (BitVec.ofBool (decide (f 2 = _))) 2#32 3#32) 0x7FFFFFFF#32)) = _
  generalize f 0 = a, f 1 = b, f 2 = c
  unfold firstMax
  by_cases h1 : max a b < c
  · have ha := lt_of_le_of_lt (le_max_left a b) h1
    have hb := lt_of_le_of_lt (le_max_right a b) h1
    rw [if_pos h1, max_eq_right hb.le, max_eq_right ha.le, decide_eq_false ha.ne, decide_eq_false hb.ne, decide_eq_true rfl]
    rfl
  · rw [if_neg h1]
    by_cases h2 : a < b
    · have hc : c ≤ b := by rw [max_eq_right h2.le] at h1; exact not_lt.mp h1
      rw [if_pos h2, max_eq_left hc, max_eq_right h2.le, decide_eq_false h2.ne, decide_eq_true rfl]
      cases decide (c = b) <;> rfl
    · have hb := not_lt.mp h2
      have hc : c ≤ a := by rw [max_eq_left hb] at h1; exact not_lt.mp h1
      rw [if_neg h2, max_eq_left (max_le hb hc), decide_eq_true rfl]
      cases decide (b = a) <;> cases decide (c = a) <;> rfl

/-! ## Index words -/

theorem word_int (i : ℕ) (hi : i < 2 ^ 31) : (BitVec.ofNat 32 i).toInt = i := by
  rw [BitVec.toInt_eq_toNat_cond, BitVec.toNat_ofNat]; omega

/-- A small word is not negative, so it is not moved. -/
theorem keep_word (i : ℕ) (hi : i < 2 ^ 31) (v : BitVec 32) :
    Scalar.select (IntOp.cmpi .slt (BitVec.ofNat 32 i) 0#32) v (BitVec.ofNat 32 i) = BitVec.ofNat 32 i := by
  have h : (BitVec.ofNat 32 i).slt 0#32 = false := by
    rw [BitVec.slt, word_int i hi, decide_eq_false]; show ¬ (i : ℤ) < 0; omega
  show Scalar.select (BitVec.ofBool ((BitVec.ofNat 32 i).slt 0#32)) v _ = _
  rw [h]; rfl

theorem keep_row {w v : BitVec 32} {i : ℕ} (hw : w = BitVec.ofNat 32 i) (hi : i < 2 ^ 31) :
    Scalar.select (IntOp.cmpi .slt w 0#32) v w = BitVec.ofNat 32 i := by
  rw [hw]; exact keep_word i hi v

/-! ## What is read at a target's anchor and cell -/

/-- The index word `w` is moved up by `u` when it is negative. -/
abbrev wrapped (w u : BitVec 32) : BitVec 32 := Scalar.select (IntOp.cmpi .slt w 0#32) u w

theorem gather_pred {n : ℕ} [NeZero n] {g : EReal} {top : BitVec 32} (ht : top.toNat + 1 = n) (hn : n ≤ 100) {aw ah : Fin 3 → EReal}
    {P : Fin 3 → Fin n → Fin n → Fin 9 → EReal} {r : Fin 5 → EReal} (wf) {A : (⟨5, ![64, 3, n, n, 9]⟩ : Shape).Idx → EReal}
    {I : IVec ⟨3, ![64, 50, 4]⟩ 32} (b : Fin 64) (t : Fin 50) (k : Fin 9) (hA : ∀ a y x, A (ix5 b a y x k) = P a y x k)
    {u1 u2 u3 : BitVec 32} (e0 : I (ix3 b t 0) = BitVec.ofNat 32 b.val) (e1 : I (ix3 b t 1) = wrapped (best r aw ah) u1)
    (e2 : I (ix3 b t 2) = wrapped (cell g top (r 2)) u2) (e3 : I (ix3 b t 3) = wrapped (cell g top (r 1)) u3) :
    Host.gather (cellDims n wf) A I (ix3 b t k) = pred n g top aw ah P r k := by
  refine (gather_cell wf A I b t k _ _ _ ?_ ?_ ?_ ?_).trans (hA _ _ _)
  · rw [e0, word_int _ (by omega)]
  · rw [e1, wrapped, keep_row (best_eq r aw ah) (by omega), word_int _ (by omega)]
  · rw [e2, wrapped, keep_row (cell_eq n g top ht hn (r 2)) (by omega), word_int _ (by omega)]
  · rw [e3, wrapped, keep_row (cell_eq n g top ht hn (r 1)) (by omega), word_int _ (by omega)]

theorem gather_best {aw ah : Fin 3 → EReal} {r : Fin 5 → EReal} (wf) {x : (⟨1, ![3]⟩ : Shape).Idx → EReal} {s : Fin 3 → EReal}
    {I : IVec ⟨3, ![64, 50, 1]⟩ 32} (b : Fin 64) (t : Fin 50) (hx : (fun a => x (ix1 a)) = s) {u : BitVec 32}
    (e : I (ix3 b t 0) = wrapped (best r aw ah) u) :
    Host.gather (ValueIdx.takeDims 3 64 50 wf) x I (ix2 b t) = s (at' 3 (best r aw ah)) := by
  refine (gather_anchor wf x I b t _ ?_).trans (congrFun hx _)
  rw [e, wrapped, keep_row (best_eq r aw ah) (by omega), word_int _ (by omega)]

/-! ## The losses from their parts -/

section Scale

variable (n : ℕ) [NeZero n] (g : EReal) (top : BitVec 32) (aw ah : Fin 3 → EReal)
  (P : Fin 3 → Fin n → Fin n → Fin 9 → EReal) (r : Fin 5 → EReal)

/-- The box's quality from the four numbers that give it, the cell's words and the anchor's size. -/
def boxAt (z o g : EReal) (wx wy : BitVec 32) (q0 q1 q2 q3 w h : EReal) (r : Fin 5 → EReal) : EReal :=
  giouAt z (Ideal.div o (o + Ideal.exp (-q0)) + Ideal.div (FloatOps.sitofp (F := Ideal) .f32 wx) g)
    (Ideal.div o (o + Ideal.exp (-q1)) + Ideal.div (FloatOps.sitofp (F := Ideal) .f32 wy) g)
    (Ideal.exp q2 * w) (Ideal.exp q3 * h) r

theorem boxAt_lit :
    boxAt litZero litOne g (cell g top (r 1)) (cell g top (r 2)) (pred n g top aw ah P r 0) (pred n g top aw ah P r 1)
        (pred n g top aw ah P r 2) (pred n g top aw ah P r 3) (aw (at' 3 (best r aw ah))) (ah (at' 3 (best r aw ah))) r
      = boxGiou n g top aw ah P r := by
  rw [boxAt, giouAt_lit, logistic_lit, logistic_lit]; rfl

theorem boxLoss_lit : bit (matched r) * (litOne - boxGiou n g top aw ah P r) = boxLoss n g top aw ah P r := by
  rw [litOne_eq]; rfl

theorem confLoss_lit :
    bit (matched r) * (softplusAt litZero (pred n g top aw ah P r 4)
        - min litOne (max litZero (boxGiou n g top aw ah P r)) * pred n g top aw ah P r 4) = confLoss n g top aw ah P r := by
  rw [softplusAt_lit, litOne_eq, litZero_eq]; rfl

theorem clsLoss_lit :
    bit (matched r) * Ideal.div (litZero + ∑ k : Fin 4, (softplusAt litZero (pred n g top aw ah P r ⟨5 + k.val, by omega⟩)
        - FloatOps.uitofp (F := Ideal) .f32 (IntOp.cmpi .eq (cls r) (BitVec.ofNat 32 k.val))
          * pred n g top aw ah P r ⟨5 + k.val, by omega⟩)) (Ideal.ofBits .f32 1082130432#32)
      = clsLoss n g top aw ah P r := by
  rw [litZero_eq, zero_add, clsLoss]
  congr 2
  refine Finset.sum_congr rfl fun k _ => ?_
  rw [← litZero_eq, softplusAt_lit, uitofp_bit]
  congr 3
  show BitVec.ofBool (_ == _) = BitVec.ofBool (_ == _)
  rw [BEq.comm]

end Scale

end Cert.Yolo
-- ==== Proof.RBack.lean ====
module

public import proofs.«01_k».proof.Proof.RStage

/- The background losses as the reference averages them. -/

@[expose] public section

noncomputable section

namespace Cert.Yolo

open Idealize.ShloMosaic

theorem coe_max' (a b : ℝ) : max (a : EReal) (b : EReal) = ((max a b : ℝ) : EReal) :=
  (EReal.coe_strictMono.monotone.map_max).symm

/-- Softplus of a real number is a real number. -/
theorem softplus_coe (r : ℝ) : ∃ s : ℝ, softplus (r : EReal) = (s : EReal) := by
  have ha : FloatOps.absf (F := Ideal) (φ := .f32) (r : EReal) = ((max r (-r) : ℝ) : EReal) := by
    show max (r : EReal) (-(r : EReal)) = _
    rw [← EReal.coe_neg, coe_max']
  have hl (y : ℝ) : ∃ s : ℝ, Ideal.log1p (Ideal.exp (y : EReal)) = (s : EReal) := by
    refine ⟨Real.log (1 + Real.exp y), ?_⟩
    rw [Ideal.exp_coe, Ideal.log1p, ← EReal.coe_one, ← EReal.coe_add]
    have : ¬ (1 + Real.exp y) ≤ 0 := by have := Real.exp_pos y; linarith
    show (if 1 + Real.exp y ≤ 0 then (⊥ : EReal) else _) = _
    rw [if_neg this]
  obtain ⟨s, hs⟩ := hl (0 - max r (-r))
  refine ⟨max r 0 + s, ?_⟩
  rw [softplus, ha, ← EReal.coe_zero, ← EReal.coe_sub, hs, coe_max', EReal.coe_add]

theorem real_of_finite {x : EReal} (h : x ≠ ⊥ ∧ x ≠ ⊤) : ∃ r : ℝ, x = (r : EReal) := ⟨x.toReal, (EReal.coe_toReal h.2 h.1).symm⟩

/-- The background loss is a real number when the predictions are. -/
theorem background_coe (n : ℕ) [NeZero n] (P : Fin 3 → Fin n → Fin n → Fin 9 → EReal) (h : ∀ a r c k, P a r c k ≠ ⊥ ∧ P a r c k ≠ ⊤) (j : ℕ) :
    ∃ s : ℝ, background n P j = (s : EReal) := by
  obtain ⟨r, hr⟩ := real_of_finite (h (Fin.ofNat 3 (j / (n * n))) (Fin.ofNat n (j / n % n)) (Fin.ofNat n (j % n)) 4)
  rw [background, hr]
  exact softplus_coe r

theorem half_lit : Ideal.ofBits .f32 0x3F000000#32 = ((1 / 2 : ℝ) : EReal) := by
  simp [Ideal.ofBits, Ideal.ieee, -EReal.coe_mul]; norm_num
theorem positions_lit : Ideal.ofBits .f32 0x43FA0000#32 = ((500 : ℝ) : EReal) := by
  simp [Ideal.ofBits, Ideal.ieee, -EReal.coe_mul]; norm_num
theorem total_lit : Ideal.ofBits .f32 0x46FA0000#32 = ((32000 : ℝ) : EReal) := by
  simp [Ideal.ofBits, Ideal.ieee, -EReal.coe_mul]; norm_num

/-- Half the sum of the images' means over all positions is the sum of all losses times one number. -/
theorem back_mean (f : Fin 64 → Fin 500 → EReal) (hf : ∀ b t, ∃ s : ℝ, f b t = (s : EReal)) :
    Ideal.div (Ideal.ofBits .f32 0x3F000000#32
        * (litZero + ∑ b : Fin 64, Ideal.div (litZero + ∑ t : Fin 500, f b t) (Ideal.ofBits .f32 0x43FA0000#32)))
      (Ideal.ofBits .f32 0x46FA0000#32) = (∑ b : Fin 64, ∑ t : Fin 500, f b t) * backScale := by
  choose s hs using hf
  simp only [hs, litZero_eq, zero_add, half_lit, positions_lit, total_lit, coe_sum,
    Ideal.div_coe (by norm_num : (500 : ℝ) ≠ 0), Ideal.div_coe (by norm_num : (32000 : ℝ) ≠ 0), ← EReal.coe_mul, backScale]
  rw [← Finset.sum_mul]
  congr 1
  ring

theorem backSum_coe (n : ℕ) [NeZero n] (P : Fin 64 → Fin 3 → Fin n → Fin n → Fin 9 → EReal)
    (h : ∀ b a r c k, P b a r c k ≠ ⊥ ∧ P b a r c k ≠ ⊤) (J : Fin 64 → Fin 500 → BitVec 32) : ∃ s : ℝ, backSum n P J = (s : EReal) := by
  choose s hs using fun b (t : Fin 500) => background_coe n (P b) (h b) (J b t).toNat
  refine ⟨∑ b, ∑ t, s b t, ?_⟩
  simp only [backSum, hs, coe_sum]

/-- Three real sums scaled one by one, and together. -/
theorem add_scaled (u : EReal) {x y z : EReal} (hx : ∃ s : ℝ, x = (s : EReal)) (hy : ∃ s : ℝ, y = (s : EReal))
    (hz : ∃ s : ℝ, z = (s : EReal)) : u + x * backScale + y * backScale + z * backScale = u + (x + y + z) * backScale := by
  obtain ⟨x, rfl⟩ := hx
  obtain ⟨y, rfl⟩ := hy
  obtain ⟨z, rfl⟩ := hz
  rw [add_assoc, add_assoc, backScale]
  congr 1
  simp only [← EReal.coe_mul, ← EReal.coe_add]
  congr 1
  ring

/-- An entry taken at a word in range, under the guard that it is in range. -/
theorem taken_at {N : ℕ} (hN : N < 2 ^ 31) {w u top : BitVec 32} (hw : w.toNat < N) (ht : top.toNat + 1 = N) (wf)
    (x : (⟨2, ![64, N]⟩ : Shape).Idx → EReal) (I : IVec ⟨3, ![64, 500, 1]⟩ 32) (b : Fin 64) (t : Fin 500) (v : EReal)
    (hI : I (ix3 b t 0) = wrapped w u) :
    Scalar.select (IntOp.andi (IntOp.andi (IntOp.cmpi .sge (I (ix3 b t 0)) 0#32) (IntOp.cmpi .sle (I (ix3 b t 0)) top)) 1#1)
      (Host.gather (entryDims N wf) x I (ix2 b t)) v = x (ix2 b ⟨w.toNat, hw⟩) := by
  have hk : I (ix3 b t 0) = w := by
    have e : w = BitVec.ofNat 32 w.toNat := by rw [BitVec.ofNat_toNat, BitVec.setWidth_eq]
    rw [hI, wrapped, keep_row e (by omega), ← e]
  have hi : w.toInt = w.toNat := by rw [BitVec.toInt_eq_toNat_cond, if_pos (by omega)]
  have ht' : top.toInt = top.toNat := by rw [BitVec.toInt_eq_toNat_cond, if_pos (by omega)]
  have h1 : IntOp.cmpi .sge w 0#32 = 1#1 := by
    show BitVec.ofBool ((0#32).sle w) = 1#1
    rw [BitVec.sle, hi, decide_eq_true (by show (0 : ℤ) ≤ _; omega)]; rfl
  have h2 : IntOp.cmpi .sle w top = 1#1 := by
    show BitVec.ofBool (w.sle top) = 1#1
    rw [BitVec.sle, hi, ht', decide_eq_true (by omega)]; rfl
  rw [gather_entry wf x I b t ⟨w.toNat, hw⟩ (by rw [hk, hi]), hk, h1, h2]
  rfl

end Cert.Yolo
-- ==== Proof.RBase.lean ====
module

public import proofs.«01_k».proof.Proof.RStage
public import proofs.«01_k».proof.Proof.RGather
public import proofs.«01_k».proof.Proof.Gen.ReferenceIdeal.Read

/- What the three scales of the reference share: the rows of the targets, which of them are real and matched, and sums over
   all targets. -/

@[expose] public section

set_option maxRecDepth 16384

noncomputable section

namespace Cert.ReferenceIdeal.Read

open Idealize.ShloMosaic Idealize.ShloMosaic.TcCoe Idealize.SL.Sem Cert.Yolo

variable (x3 : Vec Ideal S64x50x5 .f32) (x4 : Vec Ideal S9x2 .f32) (b : Fin 64) (t : Fin 50)

/-- The row of a target. -/
def rows (b : Fin 64) (t : Fin 50) : Fin 5 → EReal := fun k => x3 (ix3 b t k)

/-- The widths and heights of the three anchors of scale `s`. -/
def anchW (s : Fin 3) : Fin 3 → EReal := fun a => Ideal.div (x4 (ix2 ⟨3 * s.val + a.val, by omega⟩ 0)) img
def anchH (s : Fin 3) : Fin 3 → EReal := fun a => Ideal.div (x4 (ix2 ⟨3 * s.val + a.val, by omega⟩ 1)) img

/-- The row of a target as the five columns hold it. -/
def cols (b : Fin 64) (t : Fin 50) : Fin 5 → EReal :=
  ![val_main_v4 (F := Ideal) x3 (ix2 b t), val_main_v7 (F := Ideal) x3 (ix2 b t), val_main_v9 (F := Ideal) x3 (ix2 b t),
    val_main_v11 (F := Ideal) x3 (ix2 b t), val_main_v13 (F := Ideal) x3 (ix2 b t)]

theorem cols_eq : cols x3 b t = rows x3 b t := by
  funext k
  match k with
  | 0 => show val_main_v4 (F := Ideal) x3 (ix2 b t) = _; pointwise [val_main_v4, val_main_v3]; rfl
  | 1 => show val_main_v7 (F := Ideal) x3 (ix2 b t) = _; pointwise [val_main_v7, val_main_v6]; rfl
  | 2 => show val_main_v9 (F := Ideal) x3 (ix2 b t) = _; pointwise [val_main_v9, val_main_v8]; rfl
  | 3 => show val_main_v11 (F := Ideal) x3 (ix2 b t) = _; pointwise [val_main_v11, val_main_v10]; rfl
  | 4 => show val_main_v13 (F := Ideal) x3 (ix2 b t) = _; pointwise [val_main_v13, val_main_v12]; rfl

theorem valid_at : val_main_v36 (F := Ideal) x3 (ix2 b t) = valid (cols x3 b t) := validAt_lit (cols x3 b t)

theorem mask_at : val_main_v218 (F := Ideal) x3 (ix2 b t) = bit (matched (cols x3 b t)) :=
  (uitofp_bit _).trans (congrArg bit (congrArg (IntOp.andi · _) (valid_at x3 b t)))

/-- A sum over all targets from 0. -/
theorem sum_targets {f : S64x50.Idx → EReal} {g : Fin 64 → Fin 50 → EReal} (h : ∀ b t, f (ix2 b t) = g b t) :
    litZero + ∑ j : S64x50.Idx, f j = ∑ b : Fin 64, ∑ t : Fin 50, g b t := by
  rw [litZero_eq, zero_add, sum_idx2]
  exact Finset.sum_congr rfl fun b _ => Finset.sum_congr rfl fun t _ => h b t

theorem count_at (i : S_.Idx) : val_main_v239 (F := Ideal) x3 i = countSum (rows x3) := by
  rw [val_main_v239_apply]
  refine sum_targets fun b t => ?_
  rw [← cols_eq, ← valid_at]
  exact uitofp_bit _

/-- The index of a target and a class. -/
theorem class_index (k : Fin 4) : idx_main_v227 (ix2 b t) k = ix3 b t k := by
  funext a
  match a with
  | ⟨0, _⟩ => rfl
  | ⟨1, _⟩ => rfl
  | ⟨2, _⟩ => rfl

/-- The index of a background position. -/
theorem position_index (t : Fin 500) : idx_main_v750 (ix1 b) t = ix2 b t := by
  funext a
  match a with
  | ⟨0, _⟩ => rfl
  | ⟨1, _⟩ => rfl

/-- The image's index word. -/
theorem image_at : val_main_v91 (F := Ideal) (ix2 b 0) = BitVec.ofNat 32 b.val := keep_word b.val (by omega) _

end Cert.ReferenceIdeal.Read
-- ==== Proof.RNeg.lean ====
module

public import proofs.«01_k».proof.Proof.RBack
public import proofs.«01_k».proof.Proof.RBase

/- The background loss of the reference at one scale, for any scale. -/

@[expose] public section

set_option maxRecDepth 16384

noncomputable section

namespace Cert.ReferenceIdeal.Read

open Idealize.ShloMosaic Idealize.ShloMosaic.TcCoe Idealize.SL.Sem Cert.Yolo

variable {n : ℕ} [NeZero n]

/-- The number at flat position `j` is the confidence of the anchor and cell that `j` counts to. -/
theorem logit_of {x : (⟨4, ![64, 27, n, n]⟩ : Shape).Idx → EReal} {b : Fin 64} {P : Fin 3 → Fin n → Fin n → Fin 9 → EReal}
    (hP : ∀ a r c k, P a r c k = x (ix4 b ⟨9 * a.val + k.val, by omega⟩ r c)) {j : ℕ} (hj : j / (n * n) < 3) {p : Fin 27} {r c : Fin n}
    (hp : p.val = j / (n * n) * 9 + 4) (hr : r.val = j / n % n) (hc : c.val = j % n) :
    x (ix4 b p r c) = P (Fin.ofNat 3 (j / (n * n))) (Fin.ofNat n (j / n % n)) (Fin.ofNat n (j % n)) 4 := by
  have ep : p = ⟨9 * (Fin.ofNat 3 (j / (n * n))).val + (4 : Fin 9).val, by omega⟩ :=
    Fin.ext (by show p.val = 9 * (j / (n * n) % 3) + 4; rw [hp, Nat.mod_eq_of_lt hj, Nat.mul_comm])
  have er : r = Fin.ofNat n (j / n % n) := Fin.ext (by show r.val = j / n % n % n; rw [Nat.mod_mod, hr])
  have ec : c = Fin.ofNat n (j % n) := Fin.ext (by show c.val = j % n % n; rw [Nat.mod_mod, hc])
  rw [hP, ← ep, ← er, ← ec]

/-- The losses at the positions drawn, averaged over each image and then over all images. -/
theorem back_of {P : Fin 64 → Fin 3 → Fin n → Fin n → Fin 9 → EReal} (H : ∀ b a r c k, P b a r c k ≠ ⊥ ∧ P b a r c k ≠ ⊤)
    {J : Fin 64 → Fin 500 → BitVec 32} {y s : S64x500.Idx → EReal} {v : Fin 64 → EReal}
    (hy : ∀ b t, softplus (y (ix2 b t)) = background n (P b) (J b t).toNat) (hs : ∀ b t, s (ix2 b t) = softplusAt litZero (y (ix2 b t)))
    (hv : ∀ b, v b = Ideal.div (litZero + ∑ t : Fin 500, s (idx_main_v750 (ix1 b) t)) (Ideal.ofBits .f32 0x43FA0000#32)) :
    Ideal.div (Ideal.ofBits .f32 0x3F000000#32 * (litZero + ∑ b : Fin 64, v b)) (Ideal.ofBits .f32 0x46FA0000#32)
      = backSum n P J * backScale := by
  simp only [hv, position_index, hs, softplusAt_lit, hy]
  exact back_mean _ fun b t => background_coe n (P b) (H b) (J b t).toNat

end Cert.ReferenceIdeal.Read
-- ==== Proof.RScale.lean ====
module

public import proofs.«01_k».proof.Proof.RBase

/- What the reference holds at one scale, for any scale: each step from the arrays that the steps before it gave. -/

@[expose] public section

set_option maxRecDepth 16384

noncomputable section

namespace Cert.ReferenceIdeal.Read

open Idealize.ShloMosaic Idealize.ShloMosaic.TcCoe Idealize.SL.Sem Cert.Yolo

/-- The best anchor is the least of the indices kept, where those with the largest ratio are kept. -/
theorem best_of {f : Fin 3 → EReal} {d : Fin 3 → BitVec 32} {r : Fin 5 → EReal} {aw ah : Fin 3 → EReal}
    (hf : ∀ a, f a = ratio r (aw a) (ah a))
    (hd : ∀ a, d a = Scalar.select (FloatOps.cmpf (F := Ideal) (φ := .f32) .oeq (f a) (topOf f)) (BitVec.ofNat 32 a.val) 3#32) :
    Finset.fold IntOp.minsi 0x7FFFFFFF#32 d Finset.univ = best r aw ah := by
  rw [funext hd, least_best, hf, hf, hf]
  rfl

/-- The one-hot code of the target's class. -/
theorem code_at (x3 : Vec Ideal S64x50x5 .f32) (b : Fin 64) (t : Fin 50) (k : Fin 4) : val_main_v223 (F := Ideal) x3 (ix3 b t k)
    = FloatOps.uitofp (F := Ideal) .f32 (IntOp.cmpi .eq (cls (cols x3 b t)) (BitVec.ofNat 32 k.val)) := by
  pointwise [val_main_v223, val_main_call5_v4, val_main_call5_v3, val_main_call5_v2, val_main_call5_v1, val_main_call5_v0]
  rfl

variable {n : ℕ} [NeZero n] {g : EReal} {top : BitVec 32} {aw ah : Fin 3 → EReal} {P : Fin 64 → Fin 3 → Fin n → Fin n → Fin 9 → EReal}
  {x3 : Vec Ideal S64x50x5 .f32}

/-- The quality of the predicted box, from what was gathered. -/
theorem giou_of {b : Fin 64} {t : Fin 50} {X Y : BitVec 32} {q0 q1 q2 q3 w h : EReal}
    (hX : X = cell g top (cols x3 b t 1)) (hY : Y = cell g top (cols x3 b t 2))
    (h0 : q0 = pred n g top aw ah (P b) (cols x3 b t) 0) (h1 : q1 = pred n g top aw ah (P b) (cols x3 b t) 1)
    (h2 : q2 = pred n g top aw ah (P b) (cols x3 b t) 2) (h3 : q3 = pred n g top aw ah (P b) (cols x3 b t) 3)
    (hw : w = aw (at' 3 (best (cols x3 b t) aw ah))) (hh : h = ah (at' 3 (best (cols x3 b t) aw ah))) :
    boxAt litZero litOne g X Y q0 q1 q2 q3 w h (cols x3 b t) = boxGiou n g top aw ah (P b) (cols x3 b t) := by
  rw [hX, hY, h0, h1, h2, h3, hw, hh, boxAt_lit]

variable {G f p : S64x50.Idx → EReal} (hG : ∀ b t, G (ix2 b t) = boxGiou n g top aw ah (P b) (cols x3 b t))

include hG in
theorem box_of (hf : ∀ b t, f (ix2 b t) = val_main_v218 (F := Ideal) x3 (ix2 b t) * (litOne - G (ix2 b t))) :
    litZero + ∑ j : S64x50.Idx, f j = boxSum n g top aw ah P (rows x3) := by
  refine sum_targets fun b t => ?_
  rw [hf, hG, mask_at, boxLoss_lit, cols_eq]

include hG in
theorem conf_of (hp : ∀ b t, p (ix2 b t) = pred n g top aw ah (P b) (cols x3 b t) 4)
    (hf : ∀ b t, f (ix2 b t) = val_main_v218 (F := Ideal) x3 (ix2 b t)
      * (softplusAt litZero (p (ix2 b t)) - min litOne (max litZero (G (ix2 b t))) * p (ix2 b t))) :
    litZero + ∑ j : S64x50.Idx, f j = confSum n g top aw ah P (rows x3) := by
  refine sum_targets fun b t => ?_
  rw [hf, hp, hG, mask_at, confLoss_lit, cols_eq]

theorem cls_of {c d : S64x50x4.Idx → EReal}
    (hc : ∀ b t (k : Fin 4), c (ix3 b t k) = pred n g top aw ah (P b) (cols x3 b t) ⟨5 + k.val, by omega⟩)
    (hd : ∀ b t (k : Fin 4), d (ix3 b t k)
      = softplusAt litZero (c (ix3 b t k)) - val_main_v223 (F := Ideal) x3 (ix3 b t k) * c (ix3 b t k))
    (hf : ∀ b t, f (ix2 b t) = val_main_v218 (F := Ideal) x3 (ix2 b t)
      * Ideal.div (litZero + ∑ k : Fin 4, d (idx_main_v227 (ix2 b t) k)) (Ideal.ofBits .f32 1082130432#32)) :
    litZero + ∑ j : S64x50.Idx, f j = clsSum n g top aw ah P (rows x3) := by
  refine sum_targets fun b t => ?_
  rw [hf, mask_at, ← cols_eq, ← clsLoss_lit]
  simp only [class_index, hd, hc, code_at]

end Cert.ReferenceIdeal.Read
-- ==== Proof.RScale3.lean ====
module

public import proofs.«01_k».proof.Proof.RScale

/- The reference at the scale of 80 by 80 cells: which array is which. -/

@[expose] public section

set_option maxRecDepth 16384

noncomputable section

namespace Cert.ReferenceIdeal.Read

open Idealize.ShloMosaic Idealize.ShloMosaic.TcCoe Idealize.SL.Sem Cert.Yolo

variable (x0 : Vec Ideal S64x27x80x80 .f32) (x3 : Vec Ideal S64x50x5 .f32) (x4 : Vec Ideal S9x2 .f32) (b : Fin 64) (t : Fin 50)

/-- The nine numbers predicted at every anchor and cell of an image. -/
def grid3 (b : Fin 64) (a : Fin 3) (r c : Fin 80) (k : Fin 9) : EReal := x0 (ix4 b ⟨9 * a.val + k.val, by omega⟩ r c)

theorem grid3_at (a : Fin 3) (r c : Fin 80) (k : Fin 9) : val_main_v2 (F := Ideal) x0 (ix5 b a r c k) = grid3 x0 b a r c k := by
  pointwise [val_main_v2, val_main_v1]
  unfold grid3
  simp only [Nat.mul_comm]

theorem aw3_at : (fun a => val_main_v40 (F := Ideal) x4 (ix1 a)) = anchW x4 0 := by
  funext a
  pointwise [val_main_v40, val_main_v38, val_main_v37, val_main_v39, val_main_v0, val_main_cst_7]
  unfold anchW img; congr 3; exact Fin.ext (by simp)
theorem ah3_at : (fun a => val_main_v44 (F := Ideal) x4 (ix1 a)) = anchH x4 0 := by
  funext a
  pointwise [val_main_v44, val_main_v42, val_main_v41, val_main_v43, val_main_v0, val_main_cst_8]
  unfold anchH img; congr 3; exact Fin.ext (by simp)

theorem best3_at : val_main_v74 (F := Ideal) x3 x4 (ix2 b t) = best (cols x3 b t) (anchW x4 0) (anchH x4 0) := by
  pointwise [val_main_v74]
  refine best_of (f := fun a => val_main_v67 (F := Ideal) x3 x4 (ix3 b t a)) (fun a => by rw [← aw3_at, ← ah3_at]; rfl) fun a => ?_
  pointwise [val_main_v73, val_main_v71, val_main_v70, val_main_v69, val_main_v68]; rfl

theorem pred3_at (k : Fin 9) : val_main_v113 (F := Ideal) x0 x3 x4 (ix3 b t k)
    = pred 80 g80 79#32 (anchW x4 0) (anchH x4 0) (grid3 x0 b) (cols x3 b t) k := by
  unfold val_main_v113
  refine gather_pred (n := 80) (g := g80) (top := 79#32) (aw := anchW x4 0) (ah := anchH x4 0) (P := grid3 x0 b) (r := cols x3 b t)
    rfl (by norm_num) _ b t k (fun a y x => grid3_at x0 b a y x k) (Eq.trans ?_ (image_at b))
    (u1 := val_main_v95 (F := Ideal) x3 x4 (ix2 b t)) (u2 := val_main_v100 (F := Ideal) x3 (ix2 b t))
    (u3 := val_main_v105 (F := Ideal) x3 (ix2 b t)) ?_ ?_ ?_
  · pointwise [val_main_v112, val_main_v108, val_main_v107]
  · rw [← best3_at]; pointwise [val_main_v112, val_main_v109]; rfl
  · pointwise [val_main_v112, val_main_v110]; rfl
  · pointwise [val_main_v112, val_main_v111]; rfl

theorem giou3_at : val_main_v214 (F := Ideal) x0 x3 x4 (ix2 b t)
    = boxGiou 80 g80 79#32 (anchW x4 0) (anchH x4 0) (grid3 x0 b) (cols x3 b t) := by
  refine Eq.trans ?_ (giou_of (P := grid3 x0) (X := val_main_v79 (F := Ideal) x3 (ix2 b t)) (Y := val_main_v84 (F := Ideal) x3 (ix2 b t))
    (q0 := val_main_v115 (F := Ideal) x0 x3 x4 (ix2 b t)) (q1 := val_main_v127 (F := Ideal) x0 x3 x4 (ix2 b t))
    (q2 := val_main_v139 (F := Ideal) x0 x3 x4 (ix2 b t)) (q3 := val_main_v150 (F := Ideal) x0 x3 x4 (ix2 b t))
    (w := val_main_v147 (F := Ideal) x3 x4 (ix2 b t)) (h := val_main_v158 (F := Ideal) x3 x4 (ix2 b t)) rfl rfl ?_ ?_ ?_ ?_
    (gather_best _ b t (aw3_at x4) (u := val_main_v144 (F := Ideal) x3 x4 (ix2 b t)) ?_)
    (gather_best _ b t (ah3_at x4) (u := val_main_v155 (F := Ideal) x3 x4 (ix2 b t)) ?_))
  · rfl
  · rw [← pred3_at]; pointwise [val_main_v115, val_main_v114]
  · rw [← pred3_at]; pointwise [val_main_v127, val_main_v126]
  · rw [← pred3_at]; pointwise [val_main_v139, val_main_v138]
  · rw [← pred3_at]; pointwise [val_main_v150, val_main_v149]
  · rw [← best3_at]; pointwise [val_main_v146]; rfl
  · rw [← best3_at]; pointwise [val_main_v157]; rfl

variable (i : S_.Idx)

theorem box3 : val_main_v222 (F := Ideal) x0 x3 x4 i = boxSum 80 g80 79#32 (anchW x4 0) (anchH x4 0) (grid3 x0) (rows x3) :=
  (val_main_v222_apply x0 x3 x4 i).trans (box_of (giou3_at x0 x3 x4) fun _ _ => rfl)

theorem cls3 : val_main_v231 (F := Ideal) x0 x3 x4 i = clsSum 80 g80 79#32 (anchW x4 0) (anchH x4 0) (grid3 x0) (rows x3) := by
  refine (val_main_v231_apply x0 x3 x4 i).trans (cls_of (P := grid3 x0) (c := val_main_v162 (F := Ideal) x0 x3 x4)
    (d := val_main_v226 (F := Ideal) x0 x3 x4) (fun b t k => ?_) (fun b t k => ?_) fun b t => ?_)
  · rw [← pred3_at]; pointwise [val_main_v162]
  · rfl
  · rw [val_main_v230_apply, val_main_v229_apply, val_main_v227_apply]; rfl

theorem conf3 : val_main_v237 (F := Ideal) x0 x3 x4 i = confSum 80 g80 79#32 (anchW x4 0) (anchH x4 0) (grid3 x0) (rows x3) := by
  refine (val_main_v237_apply x0 x3 x4 i).trans (conf_of (giou3_at x0 x3 x4) (p := val_main_v161 (F := Ideal) x0 x3 x4)
    (fun b t => ?_) fun _ _ => rfl)
  rw [← pred3_at]; pointwise [val_main_v161, val_main_v160]

end Cert.ReferenceIdeal.Read
-- ==== Proof.RNeg3.lean ====
module

public import proofs.«01_k».proof.Proof.RNeg
public import proofs.«01_k».proof.Proof.RScale3

/- The background loss of the reference at the scale of 80 by 80 cells: which array is which. -/

@[expose] public section

set_option maxRecDepth 16384

noncomputable section

namespace Cert.ReferenceIdeal.Read

open Idealize.ShloMosaic Idealize.ShloMosaic.TcCoe Idealize.SL.Sem Cert.Yolo

variable (x0 : Vec Ideal S64x27x80x80 .f32) (x5 : Vec Ideal S64x500 .i32) (b : Fin 64)

theorem logit3_at (j : Fin 19200) : val_main_v747 (F := Ideal) x0 (ix2 b j)
    = grid3 x0 b (Fin.ofNat 3 (j.val / (80 * 80))) (Fin.ofNat 80 (j.val / 80 % 80)) (Fin.ofNat 80 (j.val % 80)) 4 := by
  pointwise [val_main_v747, val_main_v746, val_main_v745, val_main_v744]
  exact logit_of (fun _ _ _ _ => rfl) (by omega) rfl rfl rfl

theorem taken3_at (t : Fin 500) (h : (x5 (ix2 b t)).toNat < 19200) : val_main_v748 (F := Ideal) x0 x5 (ix2 b t)
    = val_main_v747 (F := Ideal) x0 (ix2 b ⟨(x5 (ix2 b t)).toNat, h⟩) := by
  have e : val_main_call30_v12 (F := Ideal) x5 (ix2 b t) = IntOp.andi (val_main_call30_v11 (F := Ideal) x5 (ix3 b t 0)) 1#1 := by
    pointwise [val_main_call30_v12]
    rfl
  rw [val_main_v748_apply, e]
  unfold val_main_call30_v13
  exact taken_at (N := 19200) (by norm_num) h (top := 19199#32) (by decide) _ _ (val_main_call30_v5 (F := Ideal) x5) b t _
    (by pointwise [val_main_call30_v5]; rfl)

theorem back3 (H : ∀ i, x0 i ≠ (⊥ : EReal) ∧ x0 i ≠ (⊤ : EReal)) (h : ∀ b t, (x5 (ix2 b t)).toNat < 19200) (i : S_.Idx) :
    val_main_v755 (F := Ideal) x0 x5 i = backSum 80 (grid3 x0) (fun b t => x5 (ix2 b t)) * backScale := by
  rw [val_main_v755_apply, val_main_v754_apply, val_main_v753_apply, sum_idx1]
  refine back_of (P := grid3 x0) (fun _ _ _ _ _ => H _) (y := val_main_v748 (F := Ideal) x0 x5) (s := val_main_v749 (F := Ideal) x0 x5)
    (fun b t => by rw [taken3_at x0 x5 b t (h b t), logit3_at, background]) (fun b t => ?_) fun b => ?_
  · simp only [val_main_v749_apply, val_main_call31_v0_apply, val_main_call31_v1_apply, val_main_call31_v2_apply,
      val_main_call31_v3_apply, val_main_call31_v4_apply, val_main_call31_v5_apply, val_main_call31_v6_apply,
      val_main_call31_v7_apply, val_main_call31_v8_apply, val_main_call31_v9_apply, val_main_call31_v10_apply,
      val_main_call31_v11_apply, val_main_call31_cst_apply]
    generalize val_main_v748 (F := Ideal) x0 x5 (ix2 b t) = y
    rfl
  · rw [val_main_v752_apply, val_main_v750_apply]; rfl

end Cert.ReferenceIdeal.Read
-- ==== Proof.RScale4.lean ====
module

public import proofs.«01_k».proof.Proof.RScale

/- The reference at the scale of 40 by 40 cells: which array is which. -/

@[expose] public section

set_option maxRecDepth 16384

noncomputable section

namespace Cert.ReferenceIdeal.Read

open Idealize.ShloMosaic Idealize.ShloMosaic.TcCoe Idealize.SL.Sem Cert.Yolo

variable (x1 : Vec Ideal S64x27x40x40 .f32) (x3 : Vec Ideal S64x50x5 .f32) (x4 : Vec Ideal S9x2 .f32) (b : Fin 64) (t : Fin 50)

/-- The nine numbers predicted at every anchor and cell of an image. -/
def grid4 (b : Fin 64) (a : Fin 3) (r c : Fin 40) (k : Fin 9) : EReal := x1 (ix4 b ⟨9 * a.val + k.val, by omega⟩ r c)

theorem grid4_at (a : Fin 3) (r c : Fin 40) (k : Fin 9) : val_main_v246 (F := Ideal) x1 (ix5 b a r c k) = grid4 x1 b a r c k := by
  pointwise [val_main_v246, val_main_v245]
  unfold grid4
  simp only [Nat.mul_comm]

theorem aw4_at : (fun a => val_main_v284 (F := Ideal) x4 (ix1 a)) = anchW x4 1 := by
  funext a
  pointwise [val_main_v284, val_main_v282, val_main_v281, val_main_v283, val_main_v244, val_main_cst_70]
  unfold anchW img; congr 3
theorem ah4_at : (fun a => val_main_v288 (F := Ideal) x4 (ix1 a)) = anchH x4 1 := by
  funext a
  pointwise [val_main_v288, val_main_v286, val_main_v285, val_main_v287, val_main_v244, val_main_cst_71]
  unfold anchH img; congr 3

theorem best4_at : val_main_v318 (F := Ideal) x3 x4 (ix2 b t) = best (cols x3 b t) (anchW x4 1) (anchH x4 1) := by
  pointwise [val_main_v318]
  refine best_of (f := fun a => val_main_v311 (F := Ideal) x3 x4 (ix3 b t a)) (fun a => by rw [← aw4_at, ← ah4_at]; rfl) fun a => ?_
  pointwise [val_main_v317, val_main_v315, val_main_v314, val_main_v313, val_main_v312]; rfl

theorem pred4_at (k : Fin 9) : val_main_v357 (F := Ideal) x1 x3 x4 (ix3 b t k)
    = pred 40 g40 39#32 (anchW x4 1) (anchH x4 1) (grid4 x1 b) (cols x3 b t) k := by
  unfold val_main_v357
  refine gather_pred (n := 40) (g := g40) (top := 39#32) (aw := anchW x4 1) (ah := anchH x4 1) (P := grid4 x1 b) (r := cols x3 b t)
    rfl (by norm_num) _ b t k (fun a y x => grid4_at x1 b a y x k) (Eq.trans ?_ (image_at b))
    (u1 := val_main_v339 (F := Ideal) x3 x4 (ix2 b t)) (u2 := val_main_v344 (F := Ideal) x3 (ix2 b t))
    (u3 := val_main_v349 (F := Ideal) x3 (ix2 b t)) ?_ ?_ ?_
  · pointwise [val_main_v356, val_main_v352, val_main_v351]; rfl
  · rw [← best4_at]; pointwise [val_main_v356, val_main_v353]; rfl
  · pointwise [val_main_v356, val_main_v354]; rfl
  · pointwise [val_main_v356, val_main_v355]; rfl

theorem giou4_at : val_main_v458 (F := Ideal) x1 x3 x4 (ix2 b t)
    = boxGiou 40 g40 39#32 (anchW x4 1) (anchH x4 1) (grid4 x1 b) (cols x3 b t) := by
  refine Eq.trans ?_ (giou_of (P := grid4 x1) (X := val_main_v323 (F := Ideal) x3 (ix2 b t)) (Y := val_main_v328 (F := Ideal) x3 (ix2 b t))
    (q0 := val_main_v359 (F := Ideal) x1 x3 x4 (ix2 b t)) (q1 := val_main_v371 (F := Ideal) x1 x3 x4 (ix2 b t))
    (q2 := val_main_v383 (F := Ideal) x1 x3 x4 (ix2 b t)) (q3 := val_main_v394 (F := Ideal) x1 x3 x4 (ix2 b t))
    (w := val_main_v391 (F := Ideal) x3 x4 (ix2 b t)) (h := val_main_v402 (F := Ideal) x3 x4 (ix2 b t)) rfl rfl ?_ ?_ ?_ ?_
    (gather_best _ b t (aw4_at x4) (u := val_main_v388 (F := Ideal) x3 x4 (ix2 b t)) ?_)
    (gather_best _ b t (ah4_at x4) (u := val_main_v399 (F := Ideal) x3 x4 (ix2 b t)) ?_))
  · rfl
  · rw [← pred4_at]; pointwise [val_main_v359, val_main_v358]
  · rw [← pred4_at]; pointwise [val_main_v371, val_main_v370]
  · rw [← pred4_at]; pointwise [val_main_v383, val_main_v382]
  · rw [← pred4_at]; pointwise [val_main_v394, val_main_v393]
  · rw [← best4_at]; pointwise [val_main_v390]; rfl
  · rw [← best4_at]; pointwise [val_main_v401]; rfl

variable (i : S_.Idx)

theorem box4 : val_main_v466 (F := Ideal) x1 x3 x4 i = boxSum 40 g40 39#32 (anchW x4 1) (anchH x4 1) (grid4 x1) (rows x3) :=
  (val_main_v466_apply x1 x3 x4 i).trans (box_of (giou4_at x1 x3 x4) fun _ _ => rfl)

theorem cls4 : val_main_v475 (F := Ideal) x1 x3 x4 i = clsSum 40 g40 39#32 (anchW x4 1) (anchH x4 1) (grid4 x1) (rows x3) := by
  refine (val_main_v475_apply x1 x3 x4 i).trans (cls_of (P := grid4 x1) (c := val_main_v406 (F := Ideal) x1 x3 x4)
    (d := val_main_v470 (F := Ideal) x1 x3 x4) (fun b t k => ?_) (fun b t k => ?_) fun b t => ?_)
  · rw [← pred4_at]; pointwise [val_main_v406]
  · rfl
  · rw [val_main_v474_apply, val_main_v473_apply, val_main_v471_apply]; rfl

theorem conf4 : val_main_v481 (F := Ideal) x1 x3 x4 i = confSum 40 g40 39#32 (anchW x4 1) (anchH x4 1) (grid4 x1) (rows x3) := by
  refine (val_main_v481_apply x1 x3 x4 i).trans (conf_of (giou4_at x1 x3 x4) (p := val_main_v405 (F := Ideal) x1 x3 x4)
    (fun b t => ?_) fun _ _ => rfl)
  rw [← pred4_at]; pointwise [val_main_v405, val_main_v404]

end Cert.ReferenceIdeal.Read
-- ==== Proof.RNeg4.lean ====
module

public import proofs.«01_k».proof.Proof.RNeg
public import proofs.«01_k».proof.Proof.RScale4

/- The background loss of the reference at the scale of 40 by 40 cells: which array is which. -/

@[expose] public section

set_option maxRecDepth 16384

noncomputable section

namespace Cert.ReferenceIdeal.Read

open Idealize.ShloMosaic Idealize.ShloMosaic.TcCoe Idealize.SL.Sem Cert.Yolo

variable (x1 : Vec Ideal S64x27x40x40 .f32) (x6 : Vec Ideal S64x500 .i32) (b : Fin 64)

theorem logit4_at (j : Fin 4800) : val_main_v760 (F := Ideal) x1 (ix2 b j)
    = grid4 x1 b (Fin.ofNat 3 (j.val / (40 * 40))) (Fin.ofNat 40 (j.val / 40 % 40)) (Fin.ofNat 40 (j.val % 40)) 4 := by
  pointwise [val_main_v760, val_main_v759, val_main_v758, val_main_v757]
  exact logit_of (fun _ _ _ _ => rfl) (by omega) rfl rfl rfl

theorem taken4_at (t : Fin 500) (h : (x6 (ix2 b t)).toNat < 4800) : val_main_v761 (F := Ideal) x1 x6 (ix2 b t)
    = val_main_v760 (F := Ideal) x1 (ix2 b ⟨(x6 (ix2 b t)).toNat, h⟩) := by
  have e : val_main_call32_v12 (F := Ideal) x6 (ix2 b t) = IntOp.andi (val_main_call32_v11 (F := Ideal) x6 (ix3 b t 0)) 1#1 := by
    pointwise [val_main_call32_v12]
    rfl
  rw [val_main_v761_apply, e]
  unfold val_main_call32_v13
  exact taken_at (N := 4800) (by norm_num) h (top := 4799#32) (by decide) _ _ (val_main_call32_v5 (F := Ideal) x6) b t _
    (by pointwise [val_main_call32_v5]; rfl)

theorem back4 (H : ∀ i, x1 i ≠ (⊥ : EReal) ∧ x1 i ≠ (⊤ : EReal)) (h : ∀ b t, (x6 (ix2 b t)).toNat < 4800) (i : S_.Idx) :
    val_main_v768 (F := Ideal) x1 x6 i = backSum 40 (grid4 x1) (fun b t => x6 (ix2 b t)) * backScale := by
  rw [val_main_v768_apply, val_main_v767_apply, val_main_v766_apply, sum_idx1]
  refine back_of (P := grid4 x1) (fun _ _ _ _ _ => H _) (y := val_main_v761 (F := Ideal) x1 x6) (s := val_main_v762 (F := Ideal) x1 x6)
    (fun b t => by rw [taken4_at x1 x6 b t (h b t), logit4_at, background]) (fun b t => ?_) fun b => ?_
  · simp only [val_main_v762_apply, val_main_call33_v0_apply, val_main_call33_v1_apply, val_main_call33_v2_apply,
      val_main_call33_v3_apply, val_main_call33_v4_apply, val_main_call33_v5_apply, val_main_call33_v6_apply,
      val_main_call33_v7_apply, val_main_call33_v8_apply, val_main_call33_v9_apply, val_main_call33_v10_apply,
      val_main_call33_v11_apply, val_main_call33_cst_apply]
    generalize val_main_v761 (F := Ideal) x1 x6 (ix2 b t) = y
    rfl
  · rw [val_main_v765_apply, val_main_v763_apply]; rfl

end Cert.ReferenceIdeal.Read
-- ==== Proof.RScale5.lean ====
module

public import proofs.«01_k».proof.Proof.RScale

/- The reference at the scale of 20 by 20 cells: which array is which. -/

@[expose] public section

set_option maxRecDepth 16384

noncomputable section

namespace Cert.ReferenceIdeal.Read

open Idealize.ShloMosaic Idealize.ShloMosaic.TcCoe Idealize.SL.Sem Cert.Yolo

variable (x2 : Vec Ideal S64x27x20x20 .f32) (x3 : Vec Ideal S64x50x5 .f32) (x4 : Vec Ideal S9x2 .f32) (b : Fin 64) (t : Fin 50)

/-- The nine numbers predicted at every anchor and cell of an image. -/
def grid5 (b : Fin 64) (a : Fin 3) (r c : Fin 20) (k : Fin 9) : EReal := x2 (ix4 b ⟨9 * a.val + k.val, by omega⟩ r c)

theorem grid5_at (a : Fin 3) (r c : Fin 20) (k : Fin 9) : val_main_v490 (F := Ideal) x2 (ix5 b a r c k) = grid5 x2 b a r c k := by
  pointwise [val_main_v490, val_main_v489]
  unfold grid5
  simp only [Nat.mul_comm]

theorem aw5_at : (fun a => val_main_v528 (F := Ideal) x4 (ix1 a)) = anchW x4 2 := by
  funext a
  pointwise [val_main_v528, val_main_v526, val_main_v525, val_main_v527, val_main_v488, val_main_cst_130]
  unfold anchW img; congr 3
theorem ah5_at : (fun a => val_main_v532 (F := Ideal) x4 (ix1 a)) = anchH x4 2 := by
  funext a
  pointwise [val_main_v532, val_main_v530, val_main_v529, val_main_v531, val_main_v488, val_main_cst_131]
  unfold anchH img; congr 3

theorem best5_at : val_main_v562 (F := Ideal) x3 x4 (ix2 b t) = best (cols x3 b t) (anchW x4 2) (anchH x4 2) := by
  pointwise [val_main_v562]
  refine best_of (f := fun a => val_main_v555 (F := Ideal) x3 x4 (ix3 b t a)) (fun a => by rw [← aw5_at, ← ah5_at]; rfl) fun a => ?_
  pointwise [val_main_v561, val_main_v559, val_main_v558, val_main_v557, val_main_v556]; rfl

theorem pred5_at (k : Fin 9) : val_main_v601 (F := Ideal) x2 x3 x4 (ix3 b t k)
    = pred 20 g20 19#32 (anchW x4 2) (anchH x4 2) (grid5 x2 b) (cols x3 b t) k := by
  unfold val_main_v601
  refine gather_pred (n := 20) (g := g20) (top := 19#32) (aw := anchW x4 2) (ah := anchH x4 2) (P := grid5 x2 b) (r := cols x3 b t)
    rfl (by norm_num) _ b t k (fun a y x => grid5_at x2 b a y x k) (Eq.trans ?_ (image_at b))
    (u1 := val_main_v583 (F := Ideal) x3 x4 (ix2 b t)) (u2 := val_main_v588 (F := Ideal) x3 (ix2 b t))
    (u3 := val_main_v593 (F := Ideal) x3 (ix2 b t)) ?_ ?_ ?_
  · pointwise [val_main_v600, val_main_v596, val_main_v595]; rfl
  · rw [← best5_at]; pointwise [val_main_v600, val_main_v597]; rfl
  · pointwise [val_main_v600, val_main_v598]; rfl
  · pointwise [val_main_v600, val_main_v599]; rfl

theorem giou5_at : val_main_v702 (F := Ideal) x2 x3 x4 (ix2 b t)
    = boxGiou 20 g20 19#32 (anchW x4 2) (anchH x4 2) (grid5 x2 b) (cols x3 b t) := by
  refine Eq.trans ?_ (giou_of (P := grid5 x2) (X := val_main_v567 (F := Ideal) x3 (ix2 b t)) (Y := val_main_v572 (F := Ideal) x3 (ix2 b t))
    (q0 := val_main_v603 (F := Ideal) x2 x3 x4 (ix2 b t)) (q1 := val_main_v615 (F := Ideal) x2 x3 x4 (ix2 b t))
    (q2 := val_main_v627 (F := Ideal) x2 x3 x4 (ix2 b t)) (q3 := val_main_v638 (F := Ideal) x2 x3 x4 (ix2 b t))
    (w := val_main_v635 (F := Ideal) x3 x4 (ix2 b t)) (h := val_main_v646 (F := Ideal) x3 x4 (ix2 b t)) rfl rfl ?_ ?_ ?_ ?_
    (gather_best _ b t (aw5_at x4) (u := val_main_v632 (F := Ideal) x3 x4 (ix2 b t)) ?_)
    (gather_best _ b t (ah5_at x4) (u := val_main_v643 (F := Ideal) x3 x4 (ix2 b t)) ?_))
  · rfl
  · rw [← pred5_at]; pointwise [val_main_v603, val_main_v602]
  · rw [← pred5_at]; pointwise [val_main_v615, val_main_v614]
  · rw [← pred5_at]; pointwise [val_main_v627, val_main_v626]
  · rw [← pred5_at]; pointwise [val_main_v638, val_main_v637]
  · rw [← best5_at]; pointwise [val_main_v634]; rfl
  · rw [← best5_at]; pointwise [val_main_v645]; rfl

variable (i : S_.Idx)

theorem box5 : val_main_v710 (F := Ideal) x2 x3 x4 i = boxSum 20 g20 19#32 (anchW x4 2) (anchH x4 2) (grid5 x2) (rows x3) :=
  (val_main_v710_apply x2 x3 x4 i).trans (box_of (giou5_at x2 x3 x4) fun _ _ => rfl)

theorem cls5 : val_main_v719 (F := Ideal) x2 x3 x4 i = clsSum 20 g20 19#32 (anchW x4 2) (anchH x4 2) (grid5 x2) (rows x3) := by
  refine (val_main_v719_apply x2 x3 x4 i).trans (cls_of (P := grid5 x2) (c := val_main_v650 (F := Ideal) x2 x3 x4)
    (d := val_main_v714 (F := Ideal) x2 x3 x4) (fun b t k => ?_) (fun b t k => ?_) fun b t => ?_)
  · rw [← pred5_at]; pointwise [val_main_v650]
  · rfl
  · rw [val_main_v718_apply, val_main_v717_apply, val_main_v715_apply]; rfl

theorem conf5 : val_main_v725 (F := Ideal) x2 x3 x4 i = confSum 20 g20 19#32 (anchW x4 2) (anchH x4 2) (grid5 x2) (rows x3) := by
  refine (val_main_v725_apply x2 x3 x4 i).trans (conf_of (giou5_at x2 x3 x4) (p := val_main_v649 (F := Ideal) x2 x3 x4)
    (fun b t => ?_) fun _ _ => rfl)
  rw [← pred5_at]; pointwise [val_main_v649, val_main_v648]

end Cert.ReferenceIdeal.Read
-- ==== Proof.RNeg5.lean ====
module

public import proofs.«01_k».proof.Proof.RNeg
public import proofs.«01_k».proof.Proof.RScale5

/- The background loss of the reference at the scale of 20 by 20 cells: which array is which. -/

@[expose] public section

set_option maxRecDepth 16384

noncomputable section

namespace Cert.ReferenceIdeal.Read

open Idealize.ShloMosaic Idealize.ShloMosaic.TcCoe Idealize.SL.Sem Cert.Yolo

variable (x2 : Vec Ideal S64x27x20x20 .f32) (x7 : Vec Ideal S64x500 .i32) (b : Fin 64)

theorem logit5_at (j : Fin 1200) : val_main_v773 (F := Ideal) x2 (ix2 b j)
    = grid5 x2 b (Fin.ofNat 3 (j.val / (20 * 20))) (Fin.ofNat 20 (j.val / 20 % 20)) (Fin.ofNat 20 (j.val % 20)) 4 := by
  pointwise [val_main_v773, val_main_v772, val_main_v771, val_main_v770]
  exact logit_of (fun _ _ _ _ => rfl) (by omega) rfl rfl rfl

theorem taken5_at (t : Fin 500) (h : (x7 (ix2 b t)).toNat < 1200) : val_main_v774 (F := Ideal) x2 x7 (ix2 b t)
    = val_main_v773 (F := Ideal) x2 (ix2 b ⟨(x7 (ix2 b t)).toNat, h⟩) := by
  have e : val_main_call34_v12 (F := Ideal) x7 (ix2 b t) = IntOp.andi (val_main_call34_v11 (F := Ideal) x7 (ix3 b t 0)) 1#1 := by
    pointwise [val_main_call34_v12]
    rfl
  rw [val_main_v774_apply, e]
  unfold val_main_call34_v13
  exact taken_at (N := 1200) (by norm_num) h (top := 1199#32) (by decide) _ _ (val_main_call34_v5 (F := Ideal) x7) b t _
    (by pointwise [val_main_call34_v5]; rfl)

theorem back5 (H : ∀ i, x2 i ≠ (⊥ : EReal) ∧ x2 i ≠ (⊤ : EReal)) (h : ∀ b t, (x7 (ix2 b t)).toNat < 1200) (i : S_.Idx) :
    val_main_v781 (F := Ideal) x2 x7 i = backSum 20 (grid5 x2) (fun b t => x7 (ix2 b t)) * backScale := by
  rw [val_main_v781_apply, val_main_v780_apply, val_main_v779_apply, sum_idx1]
  refine back_of (P := grid5 x2) (fun _ _ _ _ _ => H _) (y := val_main_v774 (F := Ideal) x2 x7) (s := val_main_v775 (F := Ideal) x2 x7)
    (fun b t => by rw [taken5_at x2 x7 b t (h b t), logit5_at, background]) (fun b t => ?_) fun b => ?_
  · simp only [val_main_v775_apply, val_main_call35_v0_apply, val_main_call35_v1_apply, val_main_call35_v2_apply,
      val_main_call35_v3_apply, val_main_call35_v4_apply, val_main_call35_v5_apply, val_main_call35_v6_apply,
      val_main_call35_v7_apply, val_main_call35_v8_apply, val_main_call35_v9_apply, val_main_call35_v10_apply,
      val_main_call35_v11_apply, val_main_call35_cst_apply]
    generalize val_main_v774 (F := Ideal) x2 x7 (ix2 b t) = y
    rfl
  · rw [val_main_v778_apply, val_main_v776_apply]; rfl

end Cert.ReferenceIdeal.Read
-- ==== Proof.RTotals.lean ====
module

public import proofs.«01_k».proof.Proof.RNeg3
public import proofs.«01_k».proof.Proof.RNeg4
public import proofs.«01_k».proof.Proof.RNeg5

/- The reference's four results are the losses of all targets, added up. -/

@[expose] public section

set_option maxRecDepth 16384

noncomputable section

namespace Cert.ReferenceIdeal.Read

open Idealize.ShloMosaic Idealize.ShloMosaic.TcCoe Idealize.SL.Sem Cert.Yolo

variable (x0 : Vec Ideal S64x27x80x80 .f32) (x1 : Vec Ideal S64x27x40x40 .f32) (x2 : Vec Ideal S64x27x20x20 .f32)
  (x3 : Vec Ideal S64x50x5 .f32) (x4 : Vec Ideal S9x2 .f32) (x5 x6 x7 : Vec Ideal S64x500 .i32) (i : S_.Idx)

/-- Three sums from 0. -/
theorem from_zero (u v w : EReal) : litZero + u + v + w = u + v + w := by rw [litZero_eq, zero_add]

/-- A sum divided by the count, as a selection. -/
theorem mean_of {n s u v w : EReal} (hs : s = litZero + u + v + w) :
    Scalar.select (FloatOps.cmpf (F := Ideal) (φ := .f32) .ogt n litZero) (Ideal.div s (max n litOne)) s = mean n (u + v + w) := by
  rw [hs, from_zero, litZero_eq, litOne_eq, mean]
  show Scalar.select (BitVec.ofBool (decide (0 < n))) _ _ = _
  by_cases h : 0 < n
  · rw [if_pos h, decide_eq_true h]; rfl
  · rw [if_neg h, decide_eq_false h]; rfl

theorem count_all : val_main_v731 (F := Ideal) x3 i = countAll (rows x3) := by
  rw [countAll, ← count_at x3 i, ← from_zero]
  rfl

theorem box_all : val_main_v737 (F := Ideal) x0 x1 x2 x3 x4 i
    = boxAll (anchW x4) (anchH x4) (grid3 x0) (grid4 x1) (grid5 x2) (rows x3) := by
  rw [boxAll, ← count_all x3 i, ← box3 x0 x3 x4 i, ← box4 x1 x3 x4 i, ← box5 x2 x3 x4 i]
  refine Eq.trans ?_ (mean_of (s := val_main_v728 (F := Ideal) x0 x1 x2 x3 x4 i) ?_)
  · rw [val_main_v737_apply, val_main_v736_apply, val_main_v735_apply, val_main_v732_apply]; rfl
  · rw [val_main_v728_apply, val_main_v484_apply, val_main_v240_apply]; rfl

theorem cls_all : val_main_v740 (F := Ideal) x0 x1 x2 x3 x4 i
    = clsAll (anchW x4) (anchH x4) (grid3 x0) (grid4 x1) (grid5 x2) (rows x3) := by
  rw [clsAll, ← count_all x3 i, ← cls3 x0 x3 x4 i, ← cls4 x1 x3 x4 i, ← cls5 x2 x3 x4 i]
  refine Eq.trans ?_ (mean_of (s := val_main_v729 (F := Ideal) x0 x1 x2 x3 x4 i) ?_)
  · rw [val_main_v740_apply, val_main_v739_apply, val_main_v738_apply, val_main_v732_apply]; rfl
  · rw [val_main_v729_apply, val_main_v485_apply, val_main_v241_apply]; rfl

/-- The loss of confidence before the background is added. -/
theorem conf_at : val_main_v743 (F := Ideal) x0 x1 x2 x3 x4 i
    = mean (countAll (rows x3)) (confSum 80 g80 79#32 (anchW x4 0) (anchH x4 0) (grid3 x0) (rows x3)
      + confSum 40 g40 39#32 (anchW x4 1) (anchH x4 1) (grid4 x1) (rows x3)
      + confSum 20 g20 19#32 (anchW x4 2) (anchH x4 2) (grid5 x2) (rows x3)) := by
  rw [← count_all x3 i, ← conf3 x0 x3 x4 i, ← conf4 x1 x3 x4 i, ← conf5 x2 x3 x4 i]
  refine Eq.trans ?_ (mean_of (s := val_main_v730 (F := Ideal) x0 x1 x2 x3 x4 i) ?_)
  · rw [val_main_v743_apply, val_main_v742_apply, val_main_v741_apply, val_main_v732_apply]; rfl
  · rw [val_main_v730_apply, val_main_v486_apply, val_main_v242_apply]; rfl

section Conf

variable {x0 x1 x2 x5 x6 x7} (h0 : ∀ i, x0 i ≠ (⊥ : EReal) ∧ x0 i ≠ (⊤ : EReal)) (h1 : ∀ i, x1 i ≠ (⊥ : EReal) ∧ x1 i ≠ (⊤ : EReal))
  (h2 : ∀ i, x2 i ≠ (⊥ : EReal) ∧ x2 i ≠ (⊤ : EReal)) (h5 : ∀ b t, (x5 (ix2 b t)).toNat < 19200)
  (h6 : ∀ b t, (x6 (ix2 b t)).toNat < 4800) (h7 : ∀ b t, (x7 (ix2 b t)).toNat < 1200)
include h0 h1 h2 h5 h6 h7

theorem conf_all : val_main_v782 (F := Ideal) x0 x1 x2 x3 x4 x5 x6 x7 i
    = confAll (anchW x4) (anchH x4) (grid3 x0) (grid4 x1) (grid5 x2) (rows x3) (fun b t => x5 (ix2 b t)) (fun b t => x6 (ix2 b t))
        (fun b t => x7 (ix2 b t)) := by
  rw [confAll, ← add_scaled _ (backSum_coe 80 (grid3 x0) (fun _ _ _ _ _ => h0 _) _) (backSum_coe 40 (grid4 x1) (fun _ _ _ _ _ => h1 _) _)
      (backSum_coe 20 (grid5 x2) (fun _ _ _ _ _ => h2 _) _), ← back3 x0 x5 h0 h5 i, ← back4 x1 x6 h1 h6 i, ← back5 x2 x7 h2 h7 i,
    ← conf_at x0 x1 x2 x3 x4 i, val_main_v782_apply, val_main_v769_apply, val_main_v756_apply]
  rfl

theorem total_all : val_main_v784 (F := Ideal) x0 x1 x2 x3 x4 x5 x6 x7 i
    = totalAll (anchW x4) (anchH x4) (grid3 x0) (grid4 x1) (grid5 x2) (rows x3) (fun b t => x5 (ix2 b t)) (fun b t => x6 (ix2 b t))
        (fun b t => x7 (ix2 b t)) := by
  rw [totalAll, ← box_all x0 x1 x2 x3 x4 i, ← cls_all x0 x1 x2 x3 x4 i, ← conf_all x3 x4 i h0 h1 h2 h5 h6 h7, val_main_v784_apply, val_main_v783_apply]
  rfl

end Conf

end Cert.ReferenceIdeal.Read
-- ==== Proof.KTail.lean ====
module

public import proofs.«01_k».proof.Proof.KTotals

/- The four results that the lines after the launch cut from the row it leaves. -/

@[expose] public section

set_option maxRecDepth 16384

noncomputable section

namespace Cert.KernelIdeal.Chain

open Cert.KernelIdeal Cert.KernelIdeal.Gen Idealize.ShloMosaic Idealize.ShloMosaic.TcCoe Idealize.SL.Sem Cert.Yolo

variable (m : (ℓ : Loc nD τ sig) → Buf (Elt Ideal) ℓ) (c : Dev nD)

/-- What a buffer holds after the last line. -/
abbrev atEnd (b : Ref sig .tc) : Buf (Elt Ideal) ((c : Thread nD τ).loc b) := Pipeline.afterTail₀ cfgs (dats m) 0 (V0 m) [hostOps1] c b

/-- What every buffer holds when the launch has ended. -/
abbrev atExit : Valuation τ sig (Elt Ideal) := Pipeline.withArrays (cfgs 0).spec c (V0 m c) fun w => (dats m 0 c).arrAt w (cfgs 0).N

theorem row_at_exit : atExit m c (Proc.devRef .tc main_call0_v6) = resultRow m c :=
  (Pipeline.withArrays_arr (cfgs 0).spec (by decide) c (V0 m c) (fun w => (dats m 0 c).arrAt w (cfgs 0).N) 6).trans (final m c)

/-- The only position of a shape of one element. -/
theorem only {n : ℕ} (h : n = 1) (k : Fin n) : k.val = 0 := by
  subst h
  exact congrArg Fin.val (Subsingleton.elim k 0)

/-- A lane cut from a row and stripped of its unit axes. -/
theorem cut (v : S1x128.Idx → EReal) (k : Fin 128) (h : S1x128.Slices ![0, k.val] S1x1) (i : S_.Idx) :
    shapeCast S_ (extractStridedSlice S1x1 ![0, k.val] v h) shapeCasts_S1x1_S_ i = v (ix2 0 k) := by
  refine (shapeCast_apply _ _ i (ix2 0 0) ?_).trans (extractStridedSlice_apply _ v h _ _ ?_)
  · exact (only (by decide) _).trans (only (by decide) _).symm
  · intro a
    fin_cases a <;> rfl

/-- The lines after the launch cut the first four lanes of the row. -/
theorem lanes (V : Valuation τ sig (Elt Ideal)) (i : S_.Idx) :
    StableHlo.after hostOps1 V (Proc.devRef .tc main_v0_0) i = V (Proc.devRef .tc main_call0_v6) (ix2 0 0)
    ∧ StableHlo.after hostOps1 V (Proc.devRef .tc main_v0_1) i = V (Proc.devRef .tc main_call0_v6) (ix2 0 1)
    ∧ StableHlo.after hostOps1 V (Proc.devRef .tc main_v0_2) i = V (Proc.devRef .tc main_call0_v6) (ix2 0 2)
    ∧ StableHlo.after hostOps1 V (Proc.devRef .tc main_v0_3) i = V (Proc.devRef .tc main_call0_v6) (ix2 0 3) := by
  after_results_simp
  exact ⟨cut _ 0 slices_S1x128_S1x1_0_0 i, cut _ 1 slices_S1x128_S1x1_0_1 i, cut _ 2 slices_S1x128_S1x1_0_2 i, cut _ 3 slices_S1x128_S1x1_0_3 i⟩

/-- The four results are the first four lanes of the row that the launch leaves. -/
theorem ends (i : S_.Idx) :
    atEnd m c main_v0_0 i = resultRow m c (ix2 0 0) ∧ atEnd m c main_v0_1 i = resultRow m c (ix2 0 1)
    ∧ atEnd m c main_v0_2 i = resultRow m c (ix2 0 2) ∧ atEnd m c main_v0_3 i = resultRow m c (ix2 0 3) := by
  have h := lanes (atExit m c) i
  rw [row_at_exit] at h
  exact h

end Cert.KernelIdeal.Chain
-- ==== Proof.Equal.lean ====
module

public import proofs.«01_k».proof.Proof.Range
public import proofs.«01_k».proof.Proof.RTotals
public import proofs.«01_k».proof.Proof.KTail
public import Idealize.ShloMosaic.Adequacy
public import Idealize.ShloMosaic.Init

/- The kernel and the reference end with equal results. -/

@[expose] public section

set_option maxRecDepth 16384

noncomputable section

namespace Cert.Proof

open Idealize.ShloMosaic Idealize.SL.Sem Cert.KernelIdeal.Chain Cert.Yolo

variable {m : (ℓ : Loc Cert.KernelIdeal.nD Cert.KernelIdeal.τ Cert.KernelIdeal.sig) → Buf (Elt Ideal) ℓ} {c : Dev Cert.KernelIdeal.nD}

/-- The arguments of the kernel on a device. -/
abbrev arg (m : (ℓ : Loc Cert.KernelIdeal.nD Cert.KernelIdeal.τ Cert.KernelIdeal.sig) → Buf (Elt Ideal) ℓ) (c : Dev Cert.KernelIdeal.nD)
    (b : Ref Cert.KernelIdeal.sig .tc) : Buf (Elt Ideal) ((c.tc : Thread Cert.KernelIdeal.nD Cert.KernelIdeal.τ).loc b) :=
  m ((c.tc : Thread Cert.KernelIdeal.nD Cert.KernelIdeal.τ).loc b)

/-- The losses of the reference on the kernel's arguments are the lanes of the kernel's row. -/
theorem losses (H : Good m c) (i : Cert.KernelIdeal.S_.Idx) {x0 x1 x2 x3 x4 x5 x6 x7}
    (e : x0 = arg m c Cert.KernelIdeal.main_arg0 ∧ x1 = arg m c Cert.KernelIdeal.main_arg1 ∧ x2 = arg m c Cert.KernelIdeal.main_arg2
      ∧ x3 = arg m c Cert.KernelIdeal.main_arg3 ∧ x4 = arg m c Cert.KernelIdeal.main_arg4 ∧ x5 = arg m c Cert.KernelIdeal.main_arg5
      ∧ x6 = arg m c Cert.KernelIdeal.main_arg6 ∧ x7 = arg m c Cert.KernelIdeal.main_arg7) :
    Cert.ReferenceIdeal.Read.val_main_v784 (F := Ideal) x0 x1 x2 x3 x4 x5 x6 x7 i = resultRow m c (ix2 0 0)
    ∧ Cert.ReferenceIdeal.Read.val_main_v737 (F := Ideal) x0 x1 x2 x3 x4 i = resultRow m c (ix2 0 1)
    ∧ Cert.ReferenceIdeal.Read.val_main_v740 (F := Ideal) x0 x1 x2 x3 x4 i = resultRow m c (ix2 0 2)
    ∧ Cert.ReferenceIdeal.Read.val_main_v782 (F := Ideal) x0 x1 x2 x3 x4 x5 x6 x7 i = resultRow m c (ix2 0 3) := by
  obtain ⟨rfl, rfl, rfl, rfl, rfl, rfl, rfl, rfl⟩ := e
  exact ⟨(Cert.ReferenceIdeal.Read.total_all _ _ i H.h3 H.h4 H.h5 H.j3 H.j4 H.j5).trans (res_total H).symm,
    (Cert.ReferenceIdeal.Read.box_all _ _ _ _ _ i).trans (res_box H).symm,
    (Cert.ReferenceIdeal.Read.cls_all _ _ _ _ _ i).trans (res_cls H).symm,
    (Cert.ReferenceIdeal.Read.conf_all _ _ i H.h3 H.h4 H.h5 H.j3 H.j4 H.j5).trans (res_conf H).symm⟩

/-- From memories that agree on the arguments, and under the precondition, both programs run and end with the same four losses. -/
theorem equal : Cert.algebraic_KernelIdeal_ReferenceIdeal_pre_finite_in_range (hKernelIdeal := Cert.KernelIdeal.Gen.facts)
    (hReferenceIdeal := Cert.ReferenceIdeal.Gen.facts) (hPre_finite_in_range := Cert.Pre_finite_in_range.Gen.facts) := by
  intro m g m' g' hpre hagree
  refine ⟨fun c _ => resultRow m c (ix2 0 0), fun c _ => resultRow m c (ix2 0 1), fun c _ => resultRow m c (ix2 0 2),
    fun c _ => resultRow m c (ix2 0 3), ?_, ?_⟩
  · run_from Cert.KernelIdeal.Gen.run_main m g
    · exact funext fun i => (ends m c i).1
    · exact funext fun i => (ends m c i).2.1
    · exact funext fun i => (ends m c i).2.2.1
    · exact funext fun i => (ends m c i).2.2.2
    · exact Cert.KernelIdeal.Gen.W_main_arg1 m _ c
    · exact Cert.KernelIdeal.Gen.W_main_arg2 m _ c
    · exact Cert.KernelIdeal.Gen.W_main_arg5 m _ c
    · exact Cert.KernelIdeal.Gen.W_main_arg6 m _ c
    · exact Cert.KernelIdeal.Gen.W_main_arg7 m _ c
  · refine θ_run_mono (Cert.ReferenceIdeal.Value.run m' g') fun r hr c => ?_
    obtain ⟨h0, h1, h2, h3, rest⟩ := hr c
    have l := fun i => losses (good m hpre c) i (hagree c)
    exact ⟨(h0.trans (Cert.ReferenceIdeal.Read.val_main_v784_eq _)).trans (funext fun i => (l i).1),
      (h1.trans (Cert.ReferenceIdeal.Read.val_main_v737_eq _)).trans (funext fun i => (l i).2.1),
      (h2.trans (Cert.ReferenceIdeal.Read.val_main_v740_eq _)).trans (funext fun i => (l i).2.2.1),
      (h3.trans (Cert.ReferenceIdeal.Read.val_main_v782_eq _)).trans (funext fun i => (l i).2.2.2), rest⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.Pre_finite_in_range
public import proofs.«01_k».proof.Proof.Equal
public import Idealize.ShloMosaic.Adequacy
public import Idealize.ShloMosaic.Init

@[expose] public section

noncomputable section

namespace Cert.Proof

open Idealize.ShloMosaic Idealize.SL.Sem

/-- The reference runs, leaves its arguments unchanged and has no semaphore. -/
theorem frame_ref : Cert.quiescent_ReferenceIdeal (hReferenceIdeal := Cert.ReferenceIdeal.Gen.facts) := by
  intro m g _
  run_from Cert.ReferenceIdeal.Value.run m g
  · intro c; simp
  · exact sem_eq_zero_of_no_sems (sig := Cert.ReferenceIdeal.sig) rfl _

theorem claim : Cert.Claim := ⟨Cert.Kernel.Gen.facts, Cert.KernelIdeal.Gen.facts, Cert.ReferenceIdeal.Gen.facts, Cert.Pre_finite_in_range.Gen.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  IdealRules.named_const.statement Cert.KernelIdeal.κ "neg_scale" .f32 0x330637BD#32 _ rfl,
  equal⟩

end Cert.Proof

end
